-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite [hPre_finite : Cert.Pre_finite.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite [hPre_finite : Cert.Pre_finite.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Kernel7Ideal_pre_finite [hKernel7Ideal : Cert.Kernel7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Reference7Ideal_pre_finite [hReference7Ideal : Cert.Reference7Ideal.Facts] [hPre_finite : Cert.Pre_finite.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def preserves_Kernel_KernelIdeal : Prop :=
  IdealRules.bf16_pair.BufferStatement Cert.KernelIdeal.S32x160x2x128 Cert.KernelIdeal.S32x160x1x128
  ∧ IdealRules.bf16_pair.PackStatement Cert.KernelIdeal.S16x128
  ∧ IdealRules.bf16_pair.Statement Cert.KernelIdeal.S1x16x2x128 Cert.KernelIdeal.S1x16x1x128
  ∧ IdealRules.bf16_pair.PackStatement Cert.KernelIdeal.S128x128
  ∧ IdealRules.bf16_pair.Statement Cert.KernelIdeal.S1x128x2x128 Cert.KernelIdeal.S1x128x1x128
  ∧ IdealRules.bf16_pair.Statement Cert.KernelIdeal.S1x64x2x128 Cert.KernelIdeal.S1x64x1x128
  ∧ IdealRules.bf16_pair.Statement Cert.KernelIdeal.S128x128 Cert.KernelIdeal.S64x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v28) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  IdealRules.named_const.Statement Cert.Kernel3Ideal.κ "attn_scale" .f32 0x3DB504F3#32 (((Real.sqrt 128)⁻¹ : ℝ) : EReal)
  ∧ IdealRules.named_const.Statement Cert.Kernel3Ideal.κ "neg_log2_e" .f32 0xBFB8AA3B#32 ((-((Real.log 2)⁻¹) : ℝ) : EReal)

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)) (v4 : (c : Dev Cert.Kernel3Ideal.nD) → Buf (Elt Ideal) ((c.tc : Thread Cert.Kernel3Ideal.nD Cert.Kernel3Ideal.τ).loc Cert.Kernel3Ideal.main_v0_4)) (v5 : (c : Dev Cert.Kernel3Ideal.nD) → Buf (Elt Ideal) ((c.tc : Thread Cert.Kernel3Ideal.nD Cert.Kernel3Ideal.τ).loc Cert.Kernel3Ideal.main_v0_5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_v0_4) = v4 c
          ∧ r.2.mem ((c.tc : Thread Cert.Kernel3Ideal.nD Cert.Kernel3Ideal.τ).loc Cert.Kernel3Ideal.main_v0_5) = v5 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_v11) = v1 c
          ∧ r.2.mem ((c.tc : Thread Cert.Reference3Ideal.nD Cert.Reference3Ideal.τ).loc Cert.Reference3Ideal.main_v12) = v2 c
          ∧ r.2.mem ((c.tc : Thread Cert.Reference3Ideal.nD Cert.Reference3Ideal.τ).loc Cert.Reference3Ideal.main_v14) = v3 c
          ∧ r.2.mem ((c.tc : Thread Cert.Reference3Ideal.nD Cert.Reference3Ideal.τ).loc Cert.Reference3Ideal.main_v4) = v4 c
          ∧ r.2.mem ((c.tc : Thread Cert.Reference3Ideal.nD Cert.Reference3Ideal.τ).loc Cert.Reference3Ideal.main_v5) = v5 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  IdealRules.named_const.Statement Cert.Kernel4Ideal.κ "neg_log2_e" .f32 0xBFB8AA3B#32 ((-((Real.log 2)⁻¹) : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_v16) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  IdealRules.named_const.Statement Cert.Kernel5Ideal.κ "neg_log2_e" .f32 0xBFB8AA3B#32 ((-((Real.log 2)⁻¹) : ℝ) : EReal)

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v8) = v0 c
          ∧ r.2.mem ((c.tc : Thread Cert.Reference5Ideal.nD Cert.Reference5Ideal.τ).loc Cert.Reference5Ideal.main_v11) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v55) = v0 c
          ∧ r.2.mem ((c.tc : Thread Cert.Reference6Ideal.nD Cert.Reference6Ideal.τ).loc Cert.Reference6Ideal.main_v57) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def algebraic_Kernel7Ideal_Reference7Ideal_pre_finite [hKernel7Ideal : Cert.Kernel7Ideal.Facts] [hReference7Ideal : Cert.Reference7Ideal.Facts] [hPre_finite : Cert.Pre_finite.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v23) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v1) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v30) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel8_Kernel8Ideal : Prop :=
  IdealRules.named_const.Statement Cert.Kernel8Ideal.κ "attn_scale" .f32 0x3DB504F3#32 (((Real.sqrt 128)⁻¹ : ℝ) : EReal)
  ∧ IdealRules.named_const.Statement Cert.Kernel8Ideal.κ "neg_log2_e" .f32 0xBFB8AA3B#32 ((-((Real.log 2)⁻¹) : ℝ) : EReal)

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v10) = v0 c
          ∧ r.2.mem ((c.tc : Thread Cert.Reference8Ideal.nD Cert.Reference8Ideal.τ).loc Cert.Reference8Ideal.main_v11) = v1 c
          ∧ r.2.mem ((c.tc : Thread Cert.Reference8Ideal.nD Cert.Reference8Ideal.τ).loc Cert.Reference8Ideal.main_v12) = v2 c
          ∧ r.2.mem ((c.tc : Thread Cert.Reference8Ideal.nD Cert.Reference8Ideal.τ).loc Cert.Reference8Ideal.main_v14) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel10_Kernel10Ideal : Prop :=
  IdealRules.named_const.Statement Cert.Kernel10Ideal.κ "neg_log2_e" .f32 0xBFB8AA3B#32 ((-((Real.log 2)⁻¹) : ℝ) : EReal)

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v4)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v4) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v8) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel9 : Cert.Kernel9.Facts) (hKernel9Ideal : Cert.Kernel9Ideal.Facts) (hReference9Ideal : Cert.Reference9Ideal.Facts) (hKernel8 : Cert.Kernel8.Facts) (hKernel8Ideal : Cert.Kernel8Ideal.Facts) (hReference8Ideal : Cert.Reference8Ideal.Facts) (hKernel10 : Cert.Kernel10.Facts) (hKernel10Ideal : Cert.Kernel10Ideal.Facts) (hReference10Ideal : Cert.Reference10Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Kernel7Ideal_pre_finite (hKernel7Ideal := hKernel7Ideal) (hPre_finite := hPre_finite)
    ∧ quiescent_Reference7Ideal (hReference7Ideal := hReference7Ideal)
    ∧ quiescent_Reference7Ideal_pre_finite (hReference7Ideal := hReference7Ideal) (hPre_finite := hPre_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal_pre_finite (hKernel7Ideal := hKernel7Ideal) (hReference7Ideal := hReference7Ideal) (hPre_finite := hPre_finite)
    ∧ preserves_Kernel9_Kernel9Ideal
    ∧ algebraic_Kernel9Ideal_Reference9Ideal (hKernel9Ideal := hKernel9Ideal) (hReference9Ideal := hReference9Ideal)
    ∧ preserves_Kernel8_Kernel8Ideal
    ∧ algebraic_Kernel8Ideal_Reference8Ideal (hKernel8Ideal := hKernel8Ideal) (hReference8Ideal := hReference8Ideal)
    ∧ preserves_Kernel10_Kernel10Ideal
    ∧ algebraic_Kernel10Ideal_Reference10Ideal (hKernel10Ideal := hKernel10Ideal) (hReference10Ideal := hReference10Ideal)
-- ==== Pre_finite.lean ====
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)

variable [Facts]

def fn {F : FTy → Type} [FloatOps F] (main_arg0 : FVec F S4096x4096 .bf16) (main_arg1 : FVec F S4096x4096 .bf16) (main_arg2 : FVec F S4096x4096 .bf16) (main_arg3 : FVec F S4096x4096 .bf16) : IVec S4096x4096 1 :=
  let main_v0 : FVec F S4096x4096 .bf16 := Host.absf main_arg0
  let main_cst : FVec F S_ .bf16 := constant S_ .bf16 0x7F80#16
  let main_v1 : FVec F S4096x4096 .bf16 := broadcastInDim S4096x4096 ![] bcast_S_S4096x4096 main_cst
  let main_v2 : IVec S4096x4096 1 := cmpf .olt main_v0 main_v1
  let main_v3 : FVec F S4096x4096 .bf16 := Host.absf main_arg1
  let main_cst_0 : FVec F S_ .bf16 := constant S_ .bf16 0x7F80#16
  let main_v4 : FVec F S4096x4096 .bf16 := broadcastInDim S4096x4096 ![] bcast_S_S4096x4096 main_cst_0
  let main_v5 : IVec S4096x4096 1 := cmpf .olt main_v3 main_v4
  let main_v6 : IVec S4096x4096 1 := andi main_v2 main_v5
  main_v6
-- ==== Kernel.lean ====
abbrev S16384x4096 : Shape := ⟨2, ![16384, 4096]⟩
abbrev S1x3x4096 : Shape := ⟨3, ![1, 3, 4096]⟩
abbrev S3x4096 : Shape := ⟨2, ![3, 4096]⟩
abbrev S4x4096x4096 : Shape := ⟨3, ![4, 4096, 4096]⟩
abbrev S3x32x128 : Shape := ⟨3, ![3, 32, 128]⟩
abbrev S32x3x128 : Shape := ⟨3, ![32, 3, 128]⟩
abbrev S1x256x4096 : Shape := ⟨3, ![1, 256, 4096]⟩
abbrev S1x16x4096 : Shape := ⟨3, ![1, 16, 4096]⟩
abbrev S32x160x128 : Shape := ⟨3, ![32, 160, 128]⟩
abbrev S32x3x16x128 : Shape := ⟨4, ![32, 3, 16, 128]⟩
abbrev S32x256x128 : Shape := ⟨3, ![32, 256, 128]⟩
abbrev S1x1x128 : Shape := ⟨3, ![1, 1, 128]⟩
abbrev S1x128 : Shape := ⟨2, ![1, 128]⟩
abbrev S16x128 : Shape := ⟨2, ![16, 128]⟩
abbrev S1x1x16x128 : Shape := ⟨4, ![1, 1, 16, 128]⟩
abbrev S1x16x128 : Shape := ⟨3, ![1, 16, 128]⟩
abbrev S1x128x128 : Shape := ⟨3, ![1, 128, 128]⟩
abbrev S128x128 : Shape := ⟨2, ![128, 128]⟩
abbrev S1x64x128 : Shape := ⟨3, ![1, 64, 128]⟩
abbrev S64x128 : Shape := ⟨2, ![64, 128]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S1x3x4096, .f32⟩
  | .hbm, ⟨3, _⟩ => ⟨S3x4096, .f32⟩
  | .hbm, ⟨4, _⟩ => ⟨S4x4096x4096, .bf16⟩
  | .hbm, ⟨5, _⟩ => ⟨S4x4096x4096, .bf16⟩
  | .hbm, ⟨6, _⟩ => ⟨S3x32x128, .f32⟩
  | .hbm, ⟨7, _⟩ => ⟨S32x3x128, .f32⟩
  | .hbm, ⟨8, _⟩ => ⟨S4x4096x4096, .bf16⟩
  | .hbm, ⟨9, _⟩ => ⟨S16384x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x16x4096, .bf16⟩
  | .local _ .vmem, ⟨3, _⟩ => ⟨S1x16x4096, .bf16⟩
  | .local _ .vmem, ⟨4, _⟩ => ⟨S1x16x4096, .bf16⟩
  | .local _ .vmem, ⟨5, _⟩ => ⟨S1x16x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S32x3x128, .f32⟩
  | .local _ .vmem, ⟨9, _⟩ => ⟨S1x256x4096, .bf16⟩
  | .local _ .vmem, ⟨10, _⟩ => ⟨S1x256x4096, .bf16⟩
  | .local _ .vmem, ⟨11, _⟩ => ⟨S32x160x128, .i32⟩
  | .local _ .vmem, ⟨12, _⟩ => ⟨S32x3x16x128, .bf16⟩
  | .local _ .vmem, ⟨13, _⟩ => ⟨S32x256x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [BitOps F]

abbrev grid0 : Pipeline.Grid := ⟨2, ![4, 16], ![false, false]⟩

def k0_cond1 (i : grid0.Coords) : BitVec 1 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c0_i32_1 : BitVec 32 := 0#32
  let v3 : BitVec 1 := Scalar.cmpi .eq arg1 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

@[reducible] def k0_t1_loop : Scf.Loop 32 :=
  let c0_i32_1443 : BitVec 32 := 0#32
  let c32_i32_1444 : BitVec 32 := 32#32
  let v1736 : BitVec 32 := Scalar.addi c0_i32_1443 c32_i32_1444
  let c1_i32_1445 : BitVec 32 := 1#32
  ⟨c0_i32_1443, v1736, c1_i32_1445⟩
def k0_off1 (k0_t1 : Fin k0_t1_loop.trips) : Fin 3 → Nat :=
  let c0_i32_1443 : BitVec 32 := 0#32
  let c1_i32_1445 : BitVec 32 := 1#32
  let arg11 : BitVec 32 := Scf.iv c0_i32_1443 c1_i32_1445 k0_t1
  let v1737 : Index := Scalar.indexCast arg11
  let c0_1447 : Index := 0#32
  let c0_1448 : Index := 0#32
  ![v1737.toNat, 0, 0]
def k0_off2 (k0_t1 : Fin k0_t1_loop.trips) : Fin 4 → Nat :=
  let c0_i32_1443 : BitVec 32 := 0#32
  let c1_i32_1445 : BitVec 32 := 1#32
  let arg11 : BitVec 32 := Scf.iv c0_i32_1443 c1_i32_1445 k0_t1
  let v1743 : Index := Scalar.indexCast arg11
  let c0_1449 : Index := 0#32
  let c0_1450 : Index := 0#32
  let c0_1451 : Index := 0#32
  ![v1743.toNat, 0, 0, 0]
def k0_off3 (k0_t1 : Fin k0_t1_loop.trips) : Fin 3 → Nat :=
  let c0_i32_1443 : BitVec 32 := 0#32
  let c1_i32_1445 : BitVec 32 := 1#32
  let arg11 : BitVec 32 := Scf.iv c0_i32_1443 c1_i32_1445 k0_t1
  let v1747 : Index := Scalar.indexCast arg11
  let c1_1452 : Index := 1#32
  let c0_1453 : Index := 0#32
  ![v1747.toNat, 1, 0]
def k0_off4 (k0_t1 : Fin k0_t1_loop.trips) : Fin 4 → Nat :=
  let c0_i32_1443 : BitVec 32 := 0#32
  let c1_i32_1445 : BitVec 32 := 1#32
  let arg11 : BitVec 32 := Scf.iv c0_i32_1443 c1_i32_1445 k0_t1
  let v1753 : Index := Scalar.indexCast arg11
  let c1_1454 : Index := 1#32
  let c0_1455 : Index := 0#32
  let c0_1456 : Index := 0#32
  ![v1753.toNat, 1, 0, 0]
def k0_off5 (k0_t1 : Fin k0_t1_loop.trips) : Fin 3 → Nat :=
  let c0_i32_1443 : BitVec 32 := 0#32
  let c1_i32_1445 : BitVec 32 := 1#32
  let arg11 : BitVec 32 := Scf.iv c0_i32_1443 c1_i32_1445 k0_t1
  let v1757 : Index := Scalar.indexCast arg11
  let c2_1457 : Index := 2#32
  let c0_1458 : Index := 0#32
  ![v1757.toNat, 2, 0]
def k0_off6 (k0_t1 : Fin k0_t1_loop.trips) : Fin 4 → Nat :=
  let c0_i32_1443 : BitVec 32 := 0#32
  let c1_i32_1445 : BitVec 32 := 1#32
  let arg11 : BitVec 32 := Scf.iv c0_i32_1443 c1_i32_1445 k0_t1
  let v1763 : Index := Scalar.indexCast arg11
  let c2_1459 : Index := 2#32
  let c0_1460 : Index := 0#32
  let c0_1461 : Index := 0#32
  ![v1763.toNat, 2, 0, 0]
@[reducible] def k0_t2_loop : Scf.Loop 32 :=
  let c0_i32_865 : BitVec 32 := 0#32
  let c32_i32 : BitVec 32 := 32#32
  let v1095 : BitVec 32 := Scalar.addi c0_i32_865 c32_i32
  let c1_i32 : BitVec 32 := 1#32
  ⟨c0_i32_865, v1095, c1_i32⟩
@[reducible] def k0_t3_loop : Scf.Loop 32 :=
  let c0_i32_1443 : BitVec 32 := 0#32
  let c2_i32 : BitVec 32 := 2#32
  let v1736 : BitVec 32 := Scalar.addi c0_i32_1443 c2_i32
  let c1_i32_1444 : BitVec 32 := 1#32
  ⟨c0_i32_1443, v1736, c1_i32_1444⟩
def k0_mult1 (k0_t3 : Fin k0_t3_loop.trips) : BitVec 32 :=
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  v1737
def k0_off7 (k0_t2 : Fin k0_t2_loop.trips) (k0_t3 : Fin k0_t3_loop.trips) (c15_i32_1446 : BitVec 32) : Fin 3 → Nat :=
  let c0_i32_865 : BitVec 32 := 0#32
  let c1_i32 : BitVec 32 := 1#32
  let arg11 : BitVec 32 := Scf.iv c0_i32_865 c1_i32 k0_t2
  let v1740 : Index := Scalar.indexCast arg11
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  let v1738 : BitVec 32 := v1737
  let v1739 : BitVec 32 := Scalar.addi v1738 c15_i32_1446
  let v1741 : Index := Scalar.indexCast v1739
  let c0_1447 : Index := 0#32
  ![v1740.toNat, v1741.toNat, 0]
def k0_off8 (k0_t2 : Fin k0_t2_loop.trips) : Fin 4 → Nat :=
  let c0_i32_865 : BitVec 32 := 0#32
  let c1_i32 : BitVec 32 := 1#32
  let arg11 : BitVec 32 := Scf.iv c0_i32_865 c1_i32 k0_t2
  let v1745 : Index := Scalar.indexCast arg11
  let c0_1448 : Index := 0#32
  let c0_1449 : Index := 0#32
  let c0_1450 : Index := 0#32
  ![v1745.toNat, 0, 0, 0]
def k0_off9 (k0_t2 : Fin k0_t2_loop.trips) : Fin 4 → Nat :=
  let c0_i32_865 : BitVec 32 := 0#32
  let c1_i32 : BitVec 32 := 1#32
  let arg11 : BitVec 32 := Scf.iv c0_i32_865 c1_i32 k0_t2
  let v1758 : Index := Scalar.indexCast arg11
  let c1_1452 : Index := 1#32
  let c0_1453 : Index := 0#32
  let c0_1454 : Index := 0#32
  ![v1758.toNat, 1, 0, 0]
def k0_off10 (k0_t2 : Fin k0_t2_loop.trips) : Fin 4 → Nat :=
  let c0_i32_865 : BitVec 32 := 0#32
  let c1_i32 : BitVec 32 := 1#32
  let arg11 : BitVec 32 := Scf.iv c0_i32_865 c1_i32 k0_t2
  let v1772 : Index := Scalar.indexCast arg11
  let c2_1456 : Index := 2#32
  let c0_1457 : Index := 0#32
  let c0_1458 : Index := 0#32
  ![v1772.toNat, 2, 0, 0]
def k0_mult2 (k0_t3 : Fin k0_t3_loop.trips) : BitVec 32 :=
  let c2_i32_1459 : BitVec 32 := 2#32
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  let v1738 : BitVec 32 := v1737
  let v1780 : BitVec 32 := Scalar.muli c2_i32_1459 v1738
  v1780
def k0_off11 (k0_t2 : Fin k0_t2_loop.trips) (k0_t3 : Fin k0_t3_loop.trips) : Fin 3 → Nat :=
  let c0_i32_865 : BitVec 32 := 0#32
  let c1_i32 : BitVec 32 := 1#32
  let arg11 : BitVec 32 := Scf.iv c0_i32_865 c1_i32 k0_t2
  let v1782 : Index := Scalar.indexCast arg11
  let c2_i32_1459 : BitVec 32 := 2#32
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  let v1738 : BitVec 32 := v1737
  let v1780 : BitVec 32 := Scalar.muli c2_i32_1459 v1738
  let v1781 : BitVec 32 := v1780
  let v1783 : Index := Scalar.indexCast v1781
  let c0_1460 : Index := 0#32
  ![v1782.toNat, v1783.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S16384x4096 : Shape := ⟨2, ![16384, 4096]⟩
abbrev S1x3x4096 : Shape := ⟨3, ![1, 3, 4096]⟩
abbrev S3x4096 : Shape := ⟨2, ![3, 4096]⟩
abbrev S4x4096x4096 : Shape := ⟨3, ![4, 4096, 4096]⟩
abbrev S3x32x128 : Shape := ⟨3, ![3, 32, 128]⟩
abbrev S32x3x128 : Shape := ⟨3, ![32, 3, 128]⟩
abbrev S1x256x4096 : Shape := ⟨3, ![1, 256, 4096]⟩
abbrev S1x16x4096 : Shape := ⟨3, ![1, 16, 4096]⟩
abbrev S32x160x128 : Shape := ⟨3, ![32, 160, 128]⟩
abbrev S32x160x2x128 : Shape := ⟨4, ![32, 160, 2, 128]⟩
abbrev S32x160x1x128 : Shape := ⟨4, ![32, 160, 1, 128]⟩
abbrev S32x3x16x128 : Shape := ⟨4, ![32, 3, 16, 128]⟩
abbrev S32x256x128 : Shape := ⟨3, ![32, 256, 128]⟩
abbrev S1x1x128 : Shape := ⟨3, ![1, 1, 128]⟩
abbrev S1x128 : Shape := ⟨2, ![1, 128]⟩
abbrev S16x128 : Shape := ⟨2, ![16, 128]⟩
abbrev S1x1x16x128 : Shape := ⟨4, ![1, 1, 16, 128]⟩
abbrev S1x16x128 : Shape := ⟨3, ![1, 16, 128]⟩
abbrev S1x16x2x128 : Shape := ⟨4, ![1, 16, 2, 128]⟩
abbrev S1x16x1x128 : Shape := ⟨4, ![1, 16, 1, 128]⟩
abbrev S1x128x128 : Shape := ⟨3, ![1, 128, 128]⟩
abbrev S128x128 : Shape := ⟨2, ![128, 128]⟩
abbrev S1x128x2x128 : Shape := ⟨4, ![1, 128, 2, 128]⟩
abbrev S1x128x1x128 : Shape := ⟨4, ![1, 128, 1, 128]⟩
abbrev S1x64x128 : Shape := ⟨3, ![1, 64, 128]⟩
abbrev S1x64x2x128 : Shape := ⟨4, ![1, 64, 2, 128]⟩
abbrev S1x64x1x128 : Shape := ⟨4, ![1, 64, 1, 128]⟩
abbrev S64x128 : Shape := ⟨2, ![64, 128]⟩

abbrev nBuf : Space → Nat
  | .hbm => 10
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S1x3x4096, .f32⟩
  | .hbm, ⟨3, _⟩ => ⟨S3x4096, .f32⟩
  | .hbm, ⟨4, _⟩ => ⟨S4x4096x4096, .bf16⟩
  | .hbm, ⟨5, _⟩ => ⟨S4x4096x4096, .bf16⟩
  | .hbm, ⟨6, _⟩ => ⟨S3x32x128, .f32⟩
  | .hbm, ⟨7, _⟩ => ⟨S32x3x128, .f32⟩
  | .hbm, ⟨8, _⟩ => ⟨S4x4096x4096, .bf16⟩
  | .hbm, ⟨9, _⟩ => ⟨S16384x4096, .bf16⟩
  | .local _ .vmem, ⟨0, _⟩ => ⟨S1x256x4096, .bf16⟩
  | .local _ .vmem, ⟨1, _⟩ => ⟨S1x256x4096, .bf16⟩
  | .local _ .vmem, ⟨2, _⟩ => ⟨S1x16x4096, .bf16⟩
  | .local _ .vmem, ⟨3, _⟩ => ⟨S1x16x4096, .bf16⟩
  | .local _ .vmem, ⟨4, _⟩ => ⟨S1x16x4096, .bf16⟩
  | .local _ .vmem, ⟨5, _⟩ => ⟨S1x16x4096, .bf16⟩
  | .local _ .vmem, ⟨6, _⟩ => ⟨S1x256x4096, .bf16⟩
  | .local _ .vmem, ⟨7, _⟩ => ⟨S1x256x4096, .bf16⟩
  | .local _ .vmem, ⟨8, _⟩ => ⟨S32x3x128, .f32⟩
  | .local _ .vmem, ⟨9, _⟩ => ⟨S1x256x4096, .bf16⟩
  | .local _ .vmem, ⟨10, _⟩ => ⟨S1x256x4096, .bf16⟩
  | .local _ .vmem, ⟨11, _⟩ => ⟨S32x160x2x128, .bf16⟩
  | .local _ .vmem, ⟨12, _⟩ => ⟨S32x3x16x128, .bf16⟩
  | .local _ .vmem, ⟨13, _⟩ => ⟨S32x256x128, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def k0_cond1 (i : grid0.Coords) : BitVec 1 :=
  let arg0 : BitVec 32 := BitVec.ofNat 32 (i 0).val
  let c0_i32_0 : BitVec 32 := 0#32
  let v2 : BitVec 1 := Scalar.cmpi .eq arg0 c0_i32_0
  let arg1 : BitVec 32 := BitVec.ofNat 32 (i 1).val
  let c0_i32_1 : BitVec 32 := 0#32
  let v3 : BitVec 1 := Scalar.cmpi .eq arg1 c0_i32_1
  let v4 : BitVec 1 := Scalar.andi v2 v3
  let v5 : BitVec 32 := Scalar.extui v4
  let c0_i32_2 : BitVec 32 := 0#32
  let v6 : BitVec 1 := Scalar.cmpi .ne v5 c0_i32_2
  v6

@[reducible] def k0_t1_loop : Scf.Loop 32 :=
  let c0_i32_1443 : BitVec 32 := 0#32
  let c32_i32_1444 : BitVec 32 := 32#32
  let v1736 : BitVec 32 := Scalar.addi c0_i32_1443 c32_i32_1444
  let c1_i32_1445 : BitVec 32 := 1#32
  ⟨c0_i32_1443, v1736, c1_i32_1445⟩
def k0_off1 (k0_t1 : Fin k0_t1_loop.trips) : Fin 3 → Nat :=
  let c0_i32_1443 : BitVec 32 := 0#32
  let c1_i32_1445 : BitVec 32 := 1#32
  let arg11 : BitVec 32 := Scf.iv c0_i32_1443 c1_i32_1445 k0_t1
  let v1737 : Index := Scalar.indexCast arg11
  let c0_1447 : Index := 0#32
  let c0_1448 : Index := 0#32
  ![v1737.toNat, 0, 0]
def k0_off2 (k0_t1 : Fin k0_t1_loop.trips) : Fin 4 → Nat :=
  let c0_i32_1443 : BitVec 32 := 0#32
  let c1_i32_1445 : BitVec 32 := 1#32
  let arg11 : BitVec 32 := Scf.iv c0_i32_1443 c1_i32_1445 k0_t1
  let v1743 : Index := Scalar.indexCast arg11
  let c0_1449 : Index := 0#32
  let c0_1450 : Index := 0#32
  let c0_1451 : Index := 0#32
  ![v1743.toNat, 0, 0, 0]
def k0_off3 (k0_t1 : Fin k0_t1_loop.trips) : Fin 3 → Nat :=
  let c0_i32_1443 : BitVec 32 := 0#32
  let c1_i32_1445 : BitVec 32 := 1#32
  let arg11 : BitVec 32 := Scf.iv c0_i32_1443 c1_i32_1445 k0_t1
  let v1747 : Index := Scalar.indexCast arg11
  let c1_1452 : Index := 1#32
  let c0_1453 : Index := 0#32
  ![v1747.toNat, 1, 0]
def k0_off4 (k0_t1 : Fin k0_t1_loop.trips) : Fin 4 → Nat :=
  let c0_i32_1443 : BitVec 32 := 0#32
  let c1_i32_1445 : BitVec 32 := 1#32
  let arg11 : BitVec 32 := Scf.iv c0_i32_1443 c1_i32_1445 k0_t1
  let v1753 : Index := Scalar.indexCast arg11
  let c1_1454 : Index := 1#32
  let c0_1455 : Index := 0#32
  let c0_1456 : Index := 0#32
  ![v1753.toNat, 1, 0, 0]
def k0_off5 (k0_t1 : Fin k0_t1_loop.trips) : Fin 3 → Nat :=
  let c0_i32_1443 : BitVec 32 := 0#32
  let c1_i32_1445 : BitVec 32 := 1#32
  let arg11 : BitVec 32 := Scf.iv c0_i32_1443 c1_i32_1445 k0_t1
  let v1757 : Index := Scalar.indexCast arg11
  let c2_1457 : Index := 2#32
  let c0_1458 : Index := 0#32
  ![v1757.toNat, 2, 0]
def k0_off6 (k0_t1 : Fin k0_t1_loop.trips) : Fin 4 → Nat :=
  let c0_i32_1443 : BitVec 32 := 0#32
  let c1_i32_1445 : BitVec 32 := 1#32
  let arg11 : BitVec 32 := Scf.iv c0_i32_1443 c1_i32_1445 k0_t1
  let v1763 : Index := Scalar.indexCast arg11
  let c2_1459 : Index := 2#32
  let c0_1460 : Index := 0#32
  let c0_1461 : Index := 0#32
  ![v1763.toNat, 2, 0, 0]
@[reducible] def k0_t2_loop : Scf.Loop 32 :=
  let c0_i32_865 : BitVec 32 := 0#32
  let c32_i32 : BitVec 32 := 32#32
  let v1095 : BitVec 32 := Scalar.addi c0_i32_865 c32_i32
  let c1_i32 : BitVec 32 := 1#32
  ⟨c0_i32_865, v1095, c1_i32⟩
@[reducible] def k0_t3_loop : Scf.Loop 32 :=
  let c0_i32_1443 : BitVec 32 := 0#32
  let c2_i32 : BitVec 32 := 2#32
  let v1736 : BitVec 32 := Scalar.addi c0_i32_1443 c2_i32
  let c1_i32_1444 : BitVec 32 := 1#32
  ⟨c0_i32_1443, v1736, c1_i32_1444⟩
def k0_mult1 (k0_t3 : Fin k0_t3_loop.trips) : BitVec 32 :=
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  v1737
def k0_off7 (k0_t2 : Fin k0_t2_loop.trips) (k0_t3 : Fin k0_t3_loop.trips) (c15_i32_1446 : BitVec 32) : Fin 4 → Nat :=
  let c0_i32_865 : BitVec 32 := 0#32
  let c1_i32 : BitVec 32 := 1#32
  let arg11 : BitVec 32 := Scf.iv c0_i32_865 c1_i32 k0_t2
  let v1740 : Index := Scalar.indexCast arg11
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  let v1738 : BitVec 32 := v1737
  let v1739 : BitVec 32 := Scalar.addi v1738 c15_i32_1446
  let v1741 : Index := Scalar.indexCast v1739
  let c0_1447 : Index := 0#32
  ![v1740.toNat, v1741.toNat, 0, 0]
def k0_off8 (k0_t2 : Fin k0_t2_loop.trips) : Fin 4 → Nat :=
  let c0_i32_865 : BitVec 32 := 0#32
  let c1_i32 : BitVec 32 := 1#32
  let arg11 : BitVec 32 := Scf.iv c0_i32_865 c1_i32 k0_t2
  let v1745 : Index := Scalar.indexCast arg11
  let c0_1448 : Index := 0#32
  let c0_1449 : Index := 0#32
  let c0_1450 : Index := 0#32
  ![v1745.toNat, 0, 0, 0]
def k0_off9 (k0_t2 : Fin k0_t2_loop.trips) : Fin 4 → Nat :=
  let c0_i32_865 : BitVec 32 := 0#32
  let c1_i32 : BitVec 32 := 1#32
  let arg11 : BitVec 32 := Scf.iv c0_i32_865 c1_i32 k0_t2
  let v1758 : Index := Scalar.indexCast arg11
  let c1_1452 : Index := 1#32
  let c0_1453 : Index := 0#32
  let c0_1454 : Index := 0#32
  ![v1758.toNat, 1, 0, 0]
def k0_off10 (k0_t2 : Fin k0_t2_loop.trips) : Fin 4 → Nat :=
  let c0_i32_865 : BitVec 32 := 0#32
  let c1_i32 : BitVec 32 := 1#32
  let arg11 : BitVec 32 := Scf.iv c0_i32_865 c1_i32 k0_t2
  let v1772 : Index := Scalar.indexCast arg11
  let c2_1456 : Index := 2#32
  let c0_1457 : Index := 0#32
  let c0_1458 : Index := 0#32
  ![v1772.toNat, 2, 0, 0]
def k0_mult2 (k0_t3 : Fin k0_t3_loop.trips) : BitVec 32 :=
  let c2_i32_1459 : BitVec 32 := 2#32
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  let v1738 : BitVec 32 := v1737
  let v1780 : BitVec 32 := Scalar.muli c2_i32_1459 v1738
  v1780
def k0_off11 (k0_t2 : Fin k0_t2_loop.trips) (k0_t3 : Fin k0_t3_loop.trips) : Fin 3 → Nat :=
  let c0_i32_865 : BitVec 32 := 0#32
  let c1_i32 : BitVec 32 := 1#32
  let arg11 : BitVec 32 := Scf.iv c0_i32_865 c1_i32 k0_t2
  let v1782 : Index := Scalar.indexCast arg11
  let c2_i32_1459 : BitVec 32 := 2#32
  let c0_i32_1443 : BitVec 32 := 0#32
  let c1_i32_1444 : BitVec 32 := 1#32
  let arg12 : BitVec 32 := Scf.iv c0_i32_1443 c1_i32_1444 k0_t3
  let c64_i32 : BitVec 32 := 64#32
  let v1737 : BitVec 32 := Scalar.muli arg12 c64_i32
  let v1738 : BitVec 32 := v1737
  let v1780 : BitVec 32 := Scalar.muli c2_i32_1459 v1738
  let v1781 : BitVec 32 := v1780
  let v1783 : Index := Scalar.indexCast v1781
  let c0_1460 : Index := 0#32
  ![v1782.toNat, v1783.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg1 c16_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![arg0.toNat, v2.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c16_i32 : BitVec 32 := 16#32
  let v1 : BitVec 32 := Scalar.muli v0 c16_i32
  let c255_i32 : BitVec 32 := 255#32
  let v2 : BitVec 32 := Scalar.minsi v1 c255_i32
  let c0_i32 : BitVec 32 := 0#32
  let c0_i32_0 : BitVec 32 := 0#32
  ![arg0.toNat, v2.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x16x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S32x3x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S16384x4096 : Shape := ⟨2, ![16384, 4096]⟩
abbrev S1x3x4096 : Shape := ⟨3, ![1, 3, 4096]⟩
abbrev S4x4096x4096 : Shape := ⟨3, ![4, 4096, 4096]⟩
abbrev S_ : Shape := ⟨0, ![]⟩
abbrev S4x4098x4096 : Shape := ⟨3, ![4, 4098, 4096]⟩
abbrev S3x4096 : Shape := ⟨2, ![3, 4096]⟩
abbrev S1x4096 : Shape := ⟨2, ![1, 4096]⟩
abbrev S4096 : Shape := ⟨1, ![4096]⟩
abbrev S1x1x4096 : Shape := ⟨3, ![1, 1, 4096]⟩

abbrev nBuf : Space → Nat
  | .hbm => 34
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S16384x4096, .bf16⟩
  | .hbm, ⟨2, _⟩ => ⟨S1x3x4096, .f32⟩
  | .hbm, ⟨3, _⟩ => ⟨S16384x4096, .f32⟩
  | .hbm, ⟨4, _⟩ => ⟨S4x4096x4096, .f32⟩
  | .hbm, ⟨5, _⟩ => ⟨S_, .i32⟩
  | .hbm, ⟨6, _⟩ => ⟨S_, .f32⟩
  | .hbm, ⟨7, _⟩ => ⟨S4x4098x4096, .f32⟩
  | .hbm, ⟨8, _⟩ => ⟨S3x4096, .f32⟩
  | .hbm, ⟨9, _⟩ => ⟨S4x4096x4096, .f32⟩
  | .hbm, ⟨10, _⟩ => ⟨S1x4096, .f32⟩
  | .hbm, ⟨11, _⟩ => ⟨S4096, .f32⟩
  | .hbm, ⟨12, _⟩ => ⟨S1x1x4096, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S1x4096, .f32⟩
  | .hbm, ⟨17, _⟩ => ⟨S4096, .f32⟩
  | .hbm, ⟨18, _⟩ => ⟨S1x1x4096, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S4x4096x4096, .f32⟩
  | .hbm, ⟨23, _⟩ => ⟨S1x4096, .f32⟩
  | .hbm, ⟨24, _⟩ => ⟨S4096, .f32⟩
  | .hbm, ⟨25, _⟩ => ⟨S1x1x4096, .f32⟩
  | .hbm, ⟨26, _⟩ => ⟨S4x4096x4096, .f32⟩
  | .hbm, ⟨27, _⟩ => ⟨S4x4096x4096, .f32⟩
  | .hbm, ⟨28, _⟩ => ⟨S4x4096x4096, .f32⟩
  | .hbm, ⟨29, _⟩ => ⟨S16384x4096, .f32⟩
  | .hbm, ⟨30, _⟩ => ⟨S4x4096x4096, .f32⟩
  | .hbm, ⟨31, _⟩ => ⟨S4x4096x4096, .f32⟩
  | .hbm, ⟨32, _⟩ => ⟨S16384x4096, .f32⟩
  | .hbm, ⟨33, _⟩ => ⟨S16384x4096, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩

abbrev nD : Nat := 1
abbrev τ : Topo := Topo.v7x

variable {F : FTy → Type} [FloatOps F]
-- ==== Kernel2.lean ====
abbrev S16384x4096 : Shape := ⟨2, ![16384, 4096]⟩
abbrev S4x4096x2048 : Shape := ⟨3, ![4, 4096, 2048]⟩
abbrev S16384x2048 : Shape := ⟨2, ![16384, 2048]⟩
abbrev S32x1x6144 : Shape := ⟨3, ![32, 1, 6144]⟩
abbrev S4x2048 : Shape := ⟨2, ![4, 2048]⟩
abbrev S4x1x2048 : Shape := ⟨3, ![4, 1, 2048]⟩
abbrev S256x4096 : Shape := ⟨2, ![256, 4096]⟩
abbrev S1x4096x2048 : Shape := ⟨3, ![1, 4096, 2048]⟩
abbrev S256x2048 : Shape := ⟨2, ![256, 2048]⟩
abbrev S1x1x2048 : Shape := ⟨3, ![1, 1, 2048]⟩
abbrev S512x2048 : Shape := ⟨2, ![512, 2048]⟩
abbrev S4096x2048 : Shape := ⟨2, ![4096, 2048]⟩
abbrev S256 : Shape := ⟨1, ![256]⟩
abbrev S256x1 : Shape := ⟨2, ![256, 1]⟩
abbrev S1x2048 : Shape := ⟨2, ![1, 2048]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4x4096x2048, .f32⟩
  | .hbm, ⟨2, _⟩ => ⟨S16384x2048, .f32⟩
  | .hbm, ⟨3, _⟩ => ⟨S32x1x6144, .f32⟩
  | .hbm, ⟨4, _⟩ => ⟨S4x2048, .f32⟩
  | .hbm, ⟨5, _⟩ => ⟨S4x2048, .f32⟩
  | .hbm, ⟨6, _⟩ => ⟨S4x4096x2048, .bf16⟩
  | .hbm, ⟨7, _⟩ => ⟨S4x1x2048, .f32⟩
  | .hbm, ⟨8, _⟩ => ⟨S16384x2048, .f32⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S512x2048, .f32⟩
  | .local _ .vmem, ⟨13, _⟩ => ⟨S512x2048, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c24_i32 : BitVec 32 := 24#32
  let v18 : BitVec 32 := Scalar.addi c24_i32 v17
  let c0_i32_5 : BitVec 32 := 0#32
  let c2_i32 : BitVec 32 := 2#32
  let c0_i32_6 : BitVec 32 := 0#32
  ![v18.toNat, c0_i32_5.toNat, c2_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S16384x4096 : Shape := ⟨2, ![16384, 4096]⟩
abbrev S4x4096x2048 : Shape := ⟨3, ![4, 4096, 2048]⟩
abbrev S16384x2048 : Shape := ⟨2, ![16384, 2048]⟩
abbrev S32x1x6144 : Shape := ⟨3, ![32, 1, 6144]⟩
abbrev S4x2048 : Shape := ⟨2, ![4, 2048]⟩
abbrev S1x4096x2048 : Shape := ⟨3, ![1, 4096, 2048]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S4x8x6144 : Shape := ⟨3, ![4, 8, 6144]⟩
abbrev S1x4x2048 : Shape := ⟨3, ![1, 4, 2048]⟩
abbrev S4x1x2048 : Shape := ⟨3, ![4, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x2048, .f32⟩
  | .hbm, ⟨2, _⟩ => ⟨S16384x2048, .f32⟩
  | .hbm, ⟨3, _⟩ => ⟨S32x1x6144, .f32⟩
  | .hbm, ⟨4, _⟩ => ⟨S4x2048, .f32⟩
  | .hbm, ⟨5, _⟩ => ⟨S4x2048, .f32⟩
  | .hbm, ⟨6, _⟩ => ⟨S16384x4096, .f32⟩
  | .hbm, ⟨7, _⟩ => ⟨S1x4096x2048, .f32⟩
  | .hbm, ⟨8, _⟩ => ⟨S4096x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S4x8x6144, .f32⟩
  | .hbm, ⟨29, _⟩ => ⟨S1x4x2048, .f32⟩
  | .hbm, ⟨30, _⟩ => ⟨S4x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S16384x2048, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Kernel3.lean ====
abbrev S4096x2048 : Shape := ⟨2, ![4096, 2048]⟩
abbrev S1x2048x16384 : Shape := ⟨3, ![1, 2048, 16384]⟩
abbrev S4096x4096 : Shape := ⟨2, ![4096, 4096]⟩
abbrev S256x2048 : Shape := ⟨2, ![256, 2048]⟩
abbrev S1x2048x256 : Shape := ⟨3, ![1, 2048, 256]⟩
abbrev S1024x256 : Shape := ⟨2, ![1024, 256]⟩
abbrev S2048x1024 : Shape := ⟨2, ![2048, 1024]⟩
abbrev S2048x256 : Shape := ⟨2, ![2048, 256]⟩
abbrev S256x1024 : Shape := ⟨2, ![256, 1024]⟩
abbrev S256x256 : Shape := ⟨2, ![256, 256]⟩

abbrev nBuf : Space → Nat
  | .hbm => 8
  | .vmem => 29
  | .smem => 0
  | _ => 0

abbrev bufTy : (tb : Table) → Fin (tcTables nBuf tb) → BufTy
  | .hbm, ⟨0, _⟩ => ⟨S4096x2048, .bf16⟩
  | .hbm, ⟨1, _⟩ => ⟨S1x2048x16384, .f32⟩
  | .hbm, ⟨2, _⟩ => ⟨S4096x4096, .bf16⟩
  | .hbm, ⟨3, _⟩ => ⟨S4096x4096, .bf16⟩
  | .hbm, ⟨4, _⟩ => ⟨S4096x4096, .bf16⟩
  | .hbm, ⟨5, _⟩ => ⟨S4096x4096, .bf16⟩
  | .hbm, ⟨6, _⟩ => ⟨S4096x4096, .f32⟩
  | .hbm, ⟨7, _⟩ => ⟨S4096x4096, .f32⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S1024x256, .bf16⟩
  | .local _ .vmem, ⟨17, _⟩ => ⟨S1024x256, .bf16⟩
  | .local _ .vmem, ⟨18, _⟩ => ⟨S1024x256, .bf16⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .f32⟩
  | .local _ .vmem, ⟨25, _⟩ => ⟨S1024x256, .f32⟩
  | .local _ .vmem, ⟨26, _⟩ => ⟨S1024x256, .f32⟩
  | .local _ .vmem, ⟨27, _⟩ => ⟨S1024x256, .f32⟩
  | .local _ .vmem, ⟨28, _⟩ => ⟨S2048x1024, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev main_v0_5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_scratch0 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1024x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1024x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== Kernel3Ideal.lean ====
variable {F : FTy → Type} [FloatOps F] [Named F]
def κ : String → Option EReal := fun
  | "attn_scale" => some (((Real.sqrt 128)⁻¹ : ℝ) : EReal)
  | "neg_log2_e" => some ((-((Real.log 2)⁻¹) : ℝ) : EReal)
  | _ => none
-- ==== Reference3Ideal.lean ====
abbrev S4096x2048 : Shape := ⟨2, ![4096, 2048]⟩
abbrev S1x2048x16384 : Shape := ⟨3, ![1, 2048, 16384]⟩
abbrev S2048x16384 : Shape := ⟨2, ![2048, 16384]⟩
abbrev S4096x16384 : Shape := ⟨2, ![4096, 16384]⟩
abbrev S4096x4096 : Shape := ⟨2, ![4096, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S1x2048x16384, .f32⟩
  | .hbm, ⟨2, _⟩ => ⟨S4096x2048, .f32⟩
  | .hbm, ⟨3, _⟩ => ⟨S2048x16384, .f32⟩
  | .hbm, ⟨4, _⟩ => ⟨S4096x16384, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S_, .f32⟩
  | .hbm, ⟨11, _⟩ => ⟨S4096x4096, .f32⟩
  | .hbm, ⟨12, _⟩ => ⟨S4096x4096, .f32⟩
  | .hbm, ⟨13, _⟩ => ⟨S4096x4096, .bf16⟩
  | .hbm, ⟨14, _⟩ => ⟨S4096x4096, .bf16⟩
  | .hbm, ⟨15, _⟩ => ⟨S4096x4096, .bf16⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S4096x4096, .f32⟩
  | .hbm, ⟨25, _⟩ => ⟨S4096x4096, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel4.lean ====
abbrev S16384x2048 : Shape := ⟨2, ![16384, 2048]⟩
abbrev S2x2048x12288 : Shape := ⟨3, ![2, 2048, 12288]⟩
abbrev S16384x4096 : Shape := ⟨2, ![16384, 4096]⟩
abbrev S256x2048 : Shape := ⟨2, ![256, 2048]⟩
abbrev S1x2048x512 : Shape := ⟨3, ![1, 2048, 512]⟩
abbrev S1024x512 : Shape := ⟨2, ![1024, 512]⟩
abbrev S2048x1536 : Shape := ⟨2, ![2048, 1536]⟩
abbrev S2048x512 : Shape := ⟨2, ![2048, 512]⟩
abbrev S256x1536 : Shape := ⟨2, ![256, 1536]⟩
abbrev S256x512 : Shape := ⟨2, ![256, 512]⟩

abbrev nBuf : Space → Nat
  | .hbm => 4
  | .vmem => 19
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S16384x4096, .bf16⟩
  | .hbm, ⟨3, _⟩ => ⟨S16384x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S1x2048x512, .f32⟩
  | .local _ .vmem, ⟨9, _⟩ => ⟨S1x2048x512, .f32⟩
  | .local _ .vmem, ⟨10, _⟩ => ⟨S1x2048x512, .f32⟩
  | .local _ .vmem, ⟨11, _⟩ => ⟨S1x2048x512, .f32⟩
  | .local _ .vmem, ⟨12, _⟩ => ⟨S1x2048x512, .f32⟩
  | .local _ .vmem, ⟨13, _⟩ => ⟨S1x2048x512, .f32⟩
  | .local _ .vmem, ⟨14, _⟩ => ⟨S1024x512, .bf16⟩
  | .local _ .vmem, ⟨15, _⟩ => ⟨S1024x512, .bf16⟩
  | .local _ .vmem, ⟨16, _⟩ => ⟨S1024x512, .bf16⟩
  | .local _ .vmem, ⟨17, _⟩ => ⟨S1024x512, .bf16⟩
  | .local _ .vmem, ⟨18, _⟩ => ⟨S2048x1536, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1024x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel4Ideal.lean ====
variable {F : FTy → Type} [FloatOps F] [Named F]
def κ : String → Option EReal := fun
  | "neg_log2_e" => some ((-((Real.log 2)⁻¹) : ℝ) : EReal)
  | _ => none
-- ==== Reference4Ideal.lean ====
abbrev S16384x2048 : Shape := ⟨2, ![16384, 2048]⟩
abbrev S2x2048x12288 : Shape := ⟨3, ![2, 2048, 12288]⟩
abbrev S1x2048x12288 : Shape := ⟨3, ![1, 2048, 12288]⟩
abbrev S2048x12288 : Shape := ⟨2, ![2048, 12288]⟩
abbrev S16384x12288 : Shape := ⟨2, ![16384, 12288]⟩
abbrev S16384x4096 : Shape := ⟨2, ![16384, 4096]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x12288, .f32⟩
  | .hbm, ⟨2, _⟩ => ⟨S16384x2048, .f32⟩
  | .hbm, ⟨3, _⟩ => ⟨S1x2048x12288, .f32⟩
  | .hbm, ⟨4, _⟩ => ⟨S2048x12288, .f32⟩
  | .hbm, ⟨5, _⟩ => ⟨S16384x12288, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .f32⟩
  | .hbm, ⟨11, _⟩ => ⟨S_, .f32⟩
  | .hbm, ⟨12, _⟩ => ⟨S16384x4096, .f32⟩
  | .hbm, ⟨13, _⟩ => ⟨S16384x4096, .f32⟩
  | .hbm, ⟨14, _⟩ => ⟨S_, .f32⟩
  | .hbm, ⟨15, _⟩ => ⟨S16384x4096, .f32⟩
  | .hbm, ⟨16, _⟩ => ⟨S16384x4096, .f32⟩
  | .hbm, ⟨17, _⟩ => ⟨S16384x4096, .f32⟩
  | .hbm, ⟨18, _⟩ => ⟨S16384x4096, .bf16⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x4096, .f32⟩
  | .hbm, ⟨28, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_cst_0 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_call0_v0 : Ref sig .tc := ⟨.hbm, 19, rfl⟩
abbrev main_call0_v1 : Ref sig .tc := ⟨.hbm, 20, rfl⟩
abbrev main_call0_cst : Ref sig .tc := ⟨.hbm, 21, rfl⟩
abbrev main_call0_v2 : Ref sig .tc := ⟨.hbm, 22, rfl⟩
abbrev main_call0_v3 : Ref sig .tc := ⟨.hbm, 23, rfl⟩
abbrev main_call0_cst_0 : Ref sig .tc := ⟨.hbm, 24, rfl⟩
abbrev main_call0_v4 : Ref sig .tc := ⟨.hbm, 25, rfl⟩
abbrev main_call0_v5 : Ref sig .tc := ⟨.hbm, 26, rfl⟩
abbrev main_v15 : Ref sig .tc := ⟨.hbm, 27, rfl⟩
abbrev main_v16 : Ref sig .tc := ⟨.hbm, 28, rfl⟩

abbrev nD : Nat := 1
abbrev τ : Topo := Topo.v7x

variable {F : FTy → Type} [FloatOps F]
-- ==== Kernel5.lean ====
abbrev S16384x2048 : Shape := ⟨2, ![16384, 2048]⟩
abbrev S1x2048x16384 : Shape := ⟨3, ![1, 2048, 16384]⟩
abbrev S16384x4096 : Shape := ⟨2, ![16384, 4096]⟩
abbrev S512x2048 : Shape := ⟨2, ![512, 2048]⟩
abbrev S1x2048x256 : Shape := ⟨3, ![1, 2048, 256]⟩
abbrev S2048x256 : Shape := ⟨2, ![2048, 256]⟩
abbrev S2048x1024 : Shape := ⟨2, ![2048, 1024]⟩
abbrev S512x1024 : Shape := ⟨2, ![512, 1024]⟩
abbrev S512x256 : Shape := ⟨2, ![512, 256]⟩

abbrev nBuf : Space → Nat
  | .hbm => 4
  | .vmem => 21
  | .smem => 0
  | _ => 0

abbrev bufTy : (tb : Table) → Fin (tcTables nBuf tb) → BufTy
  | .hbm, ⟨0, _⟩ => ⟨S16384x2048, .bf16⟩
  | .hbm, ⟨1, _⟩ => ⟨S1x2048x16384, .f32⟩
  | .hbm, ⟨2, _⟩ => ⟨S16384x4096, .bf16⟩
  | .hbm, ⟨3, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== Kernel5Ideal.lean ====
variable {F : FTy → Type} [FloatOps F] [Named F]
def κ : String → Option EReal := fun
  | "neg_log2_e" => some ((-((Real.log 2)⁻¹) : ℝ) : EReal)
  | _ => none
-- ==== Reference5Ideal.lean ====
abbrev S16384x2048 : Shape := ⟨2, ![16384, 2048]⟩
abbrev S1x2048x16384 : Shape := ⟨3, ![1, 2048, 16384]⟩
abbrev S2048x16384 : Shape := ⟨2, ![2048, 16384]⟩
abbrev S16384x16384 : Shape := ⟨2, ![16384, 16384]⟩
abbrev S16384x4096 : Shape := ⟨2, ![16384, 4096]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16384, .f32⟩
  | .hbm, ⟨2, _⟩ => ⟨S16384x2048, .f32⟩
  | .hbm, ⟨3, _⟩ => ⟨S2048x16384, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S16384x4096, .f32⟩
  | .hbm, ⟨10, _⟩ => ⟨S16384x4096, .bf16⟩
  | .hbm, ⟨11, _⟩ => ⟨S16384x4096, .f32⟩
  | .hbm, ⟨12, _⟩ => ⟨S16384x4096, .f32⟩
  | .hbm, ⟨13, _⟩ => ⟨S_, .f32⟩
  | .hbm, ⟨14, _⟩ => ⟨S16384x4096, .f32⟩
  | .hbm, ⟨15, _⟩ => ⟨S16384x4096, .f32⟩
  | .hbm, ⟨16, _⟩ => ⟨S_, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel6.lean ====
abbrev S16384x4096 : Shape := ⟨2, ![16384, 4096]⟩
abbrev S4x4096x2048 : Shape := ⟨3, ![4, 4096, 2048]⟩
abbrev S16384x2048 : Shape := ⟨2, ![16384, 2048]⟩
abbrev S32x1x6144 : Shape := ⟨3, ![32, 1, 6144]⟩
abbrev S4x2048 : Shape := ⟨2, ![4, 2048]⟩
abbrev S4x1x2048 : Shape := ⟨3, ![4, 1, 2048]⟩
abbrev S256x4096 : Shape := ⟨2, ![256, 4096]⟩
abbrev S1x4096x2048 : Shape := ⟨3, ![1, 4096, 2048]⟩
abbrev S256x2048 : Shape := ⟨2, ![256, 2048]⟩
abbrev S1x1x2048 : Shape := ⟨3, ![1, 1, 2048]⟩
abbrev S512x2048 : Shape := ⟨2, ![512, 2048]⟩
abbrev S4096x2048 : Shape := ⟨2, ![4096, 2048]⟩
abbrev S256 : Shape := ⟨1, ![256]⟩
abbrev S256x1 : Shape := ⟨2, ![256, 1]⟩
abbrev S1x2048 : Shape := ⟨2, ![1, 2048]⟩

abbrev nBuf : Space → Nat
  | .hbm => 11
  | .vmem => 21
  | .smem => 0
  | _ => 0

abbrev bufTy : (tb : Table) → Fin (tcTables nBuf tb) → BufTy
  | .hbm, ⟨0, _⟩ => ⟨S16384x4096, .bf16⟩
  | .hbm, ⟨1, _⟩ => ⟨S4x4096x2048, .f32⟩
  | .hbm, ⟨2, _⟩ => ⟨S16384x2048, .f32⟩
  | .hbm, ⟨3, _⟩ => ⟨S32x1x6144, .f32⟩
  | .hbm, ⟨4, _⟩ => ⟨S4x2048, .f32⟩
  | .hbm, ⟨5, _⟩ => ⟨S4x2048, .f32⟩
  | .hbm, ⟨6, _⟩ => ⟨S4x4096x2048, .bf16⟩
  | .hbm, ⟨7, _⟩ => ⟨S4x1x2048, .f32⟩
  | .hbm, ⟨8, _⟩ => ⟨S4x1x2048, .f32⟩
  | .hbm, ⟨9, _⟩ => ⟨S16384x2048, .f32⟩
  | .hbm, ⟨10, _⟩ => ⟨S16384x2048, .bf16⟩
  | .local _ .vmem, ⟨0, _⟩ => ⟨S256x4096, .bf16⟩
  | .local _ .vmem, ⟨1, _⟩ => ⟨S256x4096, .bf16⟩
  | .local _ .vmem, ⟨2, _⟩ => ⟨S256x4096, .bf16⟩
  | .local _ .vmem, ⟨3, _⟩ => ⟨S256x4096, .bf16⟩
  | .local _ .vmem, ⟨4, _⟩ => ⟨S1x4096x2048, .bf16⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x1x2048, .f32⟩
  | .local _ .vmem, ⟨17, _⟩ => ⟨S512x2048, .f32⟩
  | .local _ .vmem, ⟨18, _⟩ => ⟨S512x2048, .f32⟩
  | .local _ .vmem, ⟨19, _⟩ => ⟨S512x2048, .bf16⟩
  | .local _ .vmem, ⟨20, _⟩ => ⟨S512x2048, .bf16⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c2_i32 : BitVec 32 := 2#32
  let v0 : BitVec 32 := Scalar.muli arg0 c2_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_4 (i : grid0.Coords) : Fin 2 → Nat :=
  let arg0 : BitVec 32 := BitVec.ofNat 32 (i 0).val
  let c2_i32 : BitVec 32 := 2#32
  let v0 : BitVec 32 := Scalar.muli arg0 c2_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let v18 : BitVec 32 := Scalar.addi c0_i32_5 v17
  let c0_i32_6 : BitVec 32 := 0#32
  let c2_i32 : BitVec 32 := 2#32
  let c0_i32_7 : BitVec 32 := 0#32
  ![v18.toNat, c0_i32_6.toNat, c2_i32.toNat]

def cc0_transform_7 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c8_i32_5 : BitVec 32 := 8#32
  let v18 : BitVec 32 := Scalar.addi c8_i32_5 v17
  let c0_i32_6 : BitVec 32 := 0#32
  let c0_i32_7 : BitVec 32 := 0#32
  let c0_i32_8 : BitVec 32 := 0#32
  ![v18.toNat, c0_i32_6.toNat, c0_i32_7.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c8_i32_5 : BitVec 32 := 8#32
  let v18 : BitVec 32 := Scalar.addi c8_i32_5 v17
  let c0_i32_6 : BitVec 32 := 0#32
  let c1_i32_7 : BitVec 32 := 1#32
  let c0_i32_8 : BitVec 32 := 0#32
  ![v18.toNat, c0_i32_6.toNat, c1_i32_7.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1x1x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x2048 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference6Ideal.lean ====
abbrev S16384x4096 : Shape := ⟨2, ![16384, 4096]⟩
abbrev S4x4096x2048 : Shape := ⟨3, ![4, 4096, 2048]⟩
abbrev S16384x2048 : Shape := ⟨2, ![16384, 2048]⟩
abbrev S32x1x6144 : Shape := ⟨3, ![32, 1, 6144]⟩
abbrev S4x2048 : Shape := ⟨2, ![4, 2048]⟩
abbrev S1x4096x2048 : Shape := ⟨3, ![1, 4096, 2048]⟩
abbrev S4096x2048 : Shape := ⟨2, ![4096, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S4x8x6144 : Shape := ⟨3, ![4, 8, 6144]⟩
abbrev S1x4x2048 : Shape := ⟨3, ![1, 4, 2048]⟩
abbrev S4x1x2048 : Shape := ⟨3, ![4, 1, 2048]⟩
abbrev S4x4096 : Shape := ⟨2, ![4, 4096]⟩
abbrev S4x4096x1 : Shape := ⟨3, ![4, 4096, 1]⟩
abbrev S1x1x2048 : Shape := ⟨3, ![1, 1, 2048]⟩

abbrev nBuf : Space → Nat
  | .hbm => 71
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x2048, .f32⟩
  | .hbm, ⟨2, _⟩ => ⟨S16384x2048, .f32⟩
  | .hbm, ⟨3, _⟩ => ⟨S32x1x6144, .f32⟩
  | .hbm, ⟨4, _⟩ => ⟨S4x2048, .f32⟩
  | .hbm, ⟨5, _⟩ => ⟨S4x2048, .f32⟩
  | .hbm, ⟨6, _⟩ => ⟨S16384x4096, .f32⟩
  | .hbm, ⟨7, _⟩ => ⟨S1x4096x2048, .f32⟩
  | .hbm, ⟨8, _⟩ => ⟨S4096x2048, .f32⟩
  | .hbm, ⟨9, _⟩ => ⟨S16384x2048, .f32⟩
  | .hbm, ⟨10, _⟩ => ⟨S16384x2048, .f32⟩
  | .hbm, ⟨11, _⟩ => ⟨S_, .f32⟩
  | .hbm, ⟨12, _⟩ => ⟨S16384, .f32⟩
  | .hbm, ⟨13, _⟩ => ⟨S16384x1, .f32⟩
  | .hbm, ⟨14, _⟩ => ⟨S_, .f32⟩
  | .hbm, ⟨15, _⟩ => ⟨S16384x1, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1, .f32⟩
  | .hbm, ⟨21, _⟩ => ⟨S16384x2048, .f32⟩
  | .hbm, ⟨22, _⟩ => ⟨S16384x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S16384x2048, .f32⟩
  | .hbm, ⟨27, _⟩ => ⟨S16384x2048, .f32⟩
  | .hbm, ⟨28, _⟩ => ⟨S4x8x6144, .f32⟩
  | .hbm, ⟨29, _⟩ => ⟨S1x4x2048, .f32⟩
  | .hbm, ⟨30, _⟩ => ⟨S4x2048, .f32⟩
  | .hbm, ⟨31, _⟩ => ⟨S4x1x2048, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S4x4096x2048, .f32⟩
  | .hbm, ⟨38, _⟩ => ⟨S_, .f32⟩
  | .hbm, ⟨39, _⟩ => ⟨S4x4096, .f32⟩
  | .hbm, ⟨40, _⟩ => ⟨S4x4096x1, .f32⟩
  | .hbm, ⟨41, _⟩ => ⟨S_, .f32⟩
  | .hbm, ⟨42, _⟩ => ⟨S4x4096x1, .f32⟩
  | .hbm, ⟨43, _⟩ => ⟨S4x4096x1, .f32⟩
  | .hbm, ⟨44, _⟩ => ⟨S_, .f32⟩
  | .hbm, ⟨45, _⟩ => ⟨S4x4096x1, .f32⟩
  | .hbm, ⟨46, _⟩ => ⟨S4x4096x1, .f32⟩
  | .hbm, ⟨47, _⟩ => ⟨S4x4096x1, .f32⟩
  | .hbm, ⟨48, _⟩ => ⟨S4x4096x2048, .f32⟩
  | .hbm, ⟨49, _⟩ => ⟨S4x4096x2048, .f32⟩
  | .hbm, ⟨50, _⟩ => ⟨S1x2048, .f32⟩
  | .hbm, ⟨51, _⟩ => ⟨S2048, .f32⟩
  | .hbm, ⟨52, _⟩ => ⟨S1x1x2048, .f32⟩
  | .hbm, ⟨53, _⟩ => ⟨S4x4096x2048, .f32⟩
  | .hbm, ⟨54, _⟩ => ⟨S4x4096x2048, .f32⟩
  | .hbm, ⟨55, _⟩ => ⟨S1x4x2048, .f32⟩
  | .hbm, ⟨56, _⟩ => ⟨S4x2048, .f32⟩
  | .hbm, ⟨57, _⟩ => ⟨S4x1x2048, .f32⟩
  | .hbm, ⟨58, _⟩ => ⟨S_, .f32⟩
  | .hbm, ⟨59, _⟩ => ⟨S4x1x2048, .f32⟩
  | .hbm, ⟨60, _⟩ => ⟨S4x1x2048, .f32⟩
  | .hbm, ⟨61, _⟩ => ⟨S4x4096x2048, .f32⟩
  | .hbm, ⟨62, _⟩ => ⟨S4x4096x2048, .f32⟩
  | .hbm, ⟨63, _⟩ => ⟨S1x4x2048, .f32⟩
  | .hbm, ⟨64, _⟩ => ⟨S4x2048, .f32⟩
  | .hbm, ⟨65, _⟩ => ⟨S4x1x2048, .f32⟩
  | .hbm, ⟨66, _⟩ => ⟨S4x4096x2048, .f32⟩
  | .hbm, ⟨67, _⟩ => ⟨S4x4096x2048, .f32⟩
  | .hbm, ⟨68, _⟩ => ⟨S16384x2048, .f32⟩
  | .hbm, ⟨69, _⟩ => ⟨S16384x2048, .f32⟩
  | .hbm, ⟨70, _⟩ => ⟨S16384x2048, .bf16⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_2 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_cst_4 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_cst_5 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩

abbrev nD : Nat := 1
abbrev τ : Topo := Topo.v7x

variable {F : FTy → Type} [FloatOps F]
-- ==== Kernel7.lean ====
abbrev S4096x4096 : Shape := ⟨2, ![4096, 4096]⟩
abbrev S256x2048 : Shape := ⟨2, ![256, 2048]⟩
abbrev S256x128 : Shape := ⟨2, ![256, 128]⟩
abbrev S256x256 : Shape := ⟨2, ![256, 256]⟩
abbrev S256 : Shape := ⟨1, ![256]⟩
abbrev S256x1 : Shape := ⟨2, ![256, 1]⟩

abbrev nBuf : Space → Nat
  | .hbm => 5
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x4096, .bf16⟩
  | .local _ .vmem, ⟨0, _⟩ => ⟨S256x2048, .bf16⟩
  | .local _ .vmem, ⟨1, _⟩ => ⟨S256x2048, .bf16⟩
  | .local _ .vmem, ⟨2, _⟩ => ⟨S256x2048, .bf16⟩
  | .local _ .vmem, ⟨3, _⟩ => ⟨S256x2048, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .bf16⟩
  | .local _ .vmem, ⟨9, _⟩ => ⟨S256x2048, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S4096x4096 : Shape := ⟨2, ![4096, 4096]⟩
abbrev S16x256x32x128 : Shape := ⟨4, ![16, 256, 32, 128]⟩
abbrev S16x32x256x256 : Shape := ⟨4, ![16, 32, 256, 256]⟩
abbrev S_ : Shape := ⟨0, ![]⟩
abbrev S16x32x256 : Shape := ⟨3, ![16, 32, 256]⟩
abbrev S16x32x256x1 : Shape := ⟨4, ![16, 32, 256, 1]⟩
abbrev S16x32x128x256 : Shape := ⟨4, ![16, 32, 128, 256]⟩

abbrev nBuf : Space → Nat
  | .hbm => 31
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .hbm, ⟨3, _⟩ => ⟨S4096x4096, .bf16⟩
  | .hbm, ⟨4, _⟩ => ⟨S4096x4096, .f32⟩
  | .hbm, ⟨5, _⟩ => ⟨S16x256x32x128, .f32⟩
  | .hbm, ⟨6, _⟩ => ⟨S4096x4096, .f32⟩
  | .hbm, ⟨7, _⟩ => ⟨S16x256x32x128, .f32⟩
  | .hbm, ⟨8, _⟩ => ⟨S4096x4096, .f32⟩
  | .hbm, ⟨9, _⟩ => ⟨S16x256x32x128, .f32⟩
  | .hbm, ⟨10, _⟩ => ⟨S16x32x256x256, .f32⟩
  | .hbm, ⟨11, _⟩ => ⟨S_, .f32⟩
  | .hbm, ⟨12, _⟩ => ⟨S16x32x256, .f32⟩
  | .hbm, ⟨13, _⟩ => ⟨S_, .f32⟩
  | .hbm, ⟨14, _⟩ => ⟨S16x32x256, .f32⟩
  | .hbm, ⟨15, _⟩ => ⟨S16x32x256, .f32⟩
  | .hbm, ⟨16, _⟩ => ⟨S16x32x256x1, .f32⟩
  | .hbm, ⟨17, _⟩ => ⟨S16x32x256x256, .f32⟩
  | .hbm, ⟨18, _⟩ => ⟨S16x32x256x256, .f32⟩
  | .hbm, ⟨19, _⟩ => ⟨S16x32x256x256, .f32⟩
  | .hbm, ⟨20, _⟩ => ⟨S_, .f32⟩
  | .hbm, ⟨21, _⟩ => ⟨S16x32x256, .f32⟩
  | .hbm, ⟨22, _⟩ => ⟨S16x32x256x1, .f32⟩
  | .hbm, ⟨23, _⟩ => ⟨S16x32x256x256, .f32⟩
  | .hbm, ⟨24, _⟩ => ⟨S16x32x256x256, .f32⟩
  | .hbm, ⟨25, _⟩ => ⟨S16x32x128x256, .f32⟩
  | .hbm, ⟨26, _⟩ => ⟨S16x256x32x128, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩

abbrev nD : Nat := 1
abbrev τ : Topo := Topo.v7x

variable {F : FTy → Type} [FloatOps F]
-- ==== Kernel9.lean ====
abbrev S16384x2048 : Shape := ⟨2, ![16384, 2048]⟩
abbrev S32x1x6144 : Shape := ⟨3, ![32, 1, 6144]⟩
abbrev S4x2048 : Shape := ⟨2, ![4, 2048]⟩
abbrev S4x1x2048 : Shape := ⟨3, ![4, 1, 2048]⟩
abbrev S256x2048 : Shape := ⟨2, ![256, 2048]⟩
abbrev S1x1x2048 : Shape := ⟨3, ![1, 1, 2048]⟩
abbrev S1024x2048 : Shape := ⟨2, ![1024, 2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 15
  | .smem => 0
  | _ => 0

abbrev bufTy : (tb : Table) → Fin (tcTables nBuf tb) → BufTy
  | .hbm, ⟨0, _⟩ => ⟨S16384x2048, .f32⟩
  | .hbm, ⟨1, _⟩ => ⟨S32x1x6144, .f32⟩
  | .hbm, ⟨2, _⟩ => ⟨S4x2048, .f32⟩
  | .hbm, ⟨3, _⟩ => ⟨S4x1x2048, .f32⟩
  | .hbm, ⟨4, _⟩ => ⟨S16384x2048, .bf16⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1024x2048, .bf16⟩
  | .local _ .vmem, ⟨14, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c4_i32 : BitVec 32 := 4#32
  let v0 : BitVec 32 := Scalar.muli arg0 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let c4_i32 : BitVec 32 := 4#32
  let v0 : BitVec 32 := Scalar.muli arg0 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let c4_i32 : BitVec 32 := 4#32
  let v0 : BitVec 32 := Scalar.muli arg0 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let c4_i32 : BitVec 32 := 4#32
  let v0 : BitVec 32 := Scalar.muli arg0 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let v18 : BitVec 32 := Scalar.addi c0_i32_5 v17
  let c0_i32_6 : BitVec 32 := 0#32
  let c0_i32_7 : BitVec 32 := 0#32
  let c0_i32_8 : BitVec 32 := 0#32
  ![v18.toNat, c0_i32_6.toNat, c0_i32_7.toNat]

def cc0_transform_6 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi c1_i32_4 v16
  let c0_i32_5 : BitVec 32 := 0#32
  let v18 : BitVec 32 := Scalar.addi c0_i32_5 v17
  let c0_i32_6 : BitVec 32 := 0#32
  let c1_i32_7 : BitVec 32 := 1#32
  let c0_i32_8 : BitVec 32 := 0#32
  ![v18.toNat, c0_i32_6.toNat, c1_i32_7.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference9Ideal.lean ====
abbrev S16384x2048 : Shape := ⟨2, ![16384, 2048]⟩
abbrev S32x1x6144 : Shape := ⟨3, ![32, 1, 6144]⟩
abbrev S4x2048 : Shape := ⟨2, ![4, 2048]⟩
abbrev S_ : Shape := ⟨0, ![]⟩
abbrev S16384 : Shape := ⟨1, ![16384]⟩
abbrev S16384x1 : Shape := ⟨2, ![16384, 1]⟩
abbrev S1x2048 : Shape := ⟨2, ![1, 2048]⟩
abbrev S2048 : Shape := ⟨1, ![2048]⟩
abbrev S4x8x6144 : Shape := ⟨3, ![4, 8, 6144]⟩
abbrev S4x4096x2048 : Shape := ⟨3, ![4, 4096, 2048]⟩
abbrev S1x4x2048 : Shape := ⟨3, ![1, 4, 2048]⟩
abbrev S4x1x2048 : Shape := ⟨3, ![4, 1, 2048]⟩

abbrev nBuf : Space → Nat
  | .hbm => 38
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S32x1x6144, .f32⟩
  | .hbm, ⟨2, _⟩ => ⟨S4x2048, .f32⟩
  | .hbm, ⟨3, _⟩ => ⟨S16384x2048, .f32⟩
  | .hbm, ⟨4, _⟩ => ⟨S_, .f32⟩
  | .hbm, ⟨5, _⟩ => ⟨S16384, .f32⟩
  | .hbm, ⟨6, _⟩ => ⟨S16384x1, .f32⟩
  | .hbm, ⟨7, _⟩ => ⟨S_, .f32⟩
  | .hbm, ⟨8, _⟩ => ⟨S16384x1, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S16384x1, .f32⟩
  | .hbm, ⟨14, _⟩ => ⟨S16384x2048, .f32⟩
  | .hbm, ⟨15, _⟩ => ⟨S16384x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S16384x2048, .f32⟩
  | .hbm, ⟨20, _⟩ => ⟨S16384x2048, .f32⟩
  | .hbm, ⟨21, _⟩ => ⟨S4x8x6144, .f32⟩
  | .hbm, ⟨22, _⟩ => ⟨S4x4096x2048, .f32⟩
  | .hbm, ⟨23, _⟩ => ⟨S1x4x2048, .f32⟩
  | .hbm, ⟨24, _⟩ => ⟨S4x2048, .f32⟩
  | .hbm, ⟨25, _⟩ => ⟨S4x1x2048, .f32⟩
  | .hbm, ⟨26, _⟩ => ⟨S_, .f32⟩
  | .hbm, ⟨27, _⟩ => ⟨S4x1x2048, .f32⟩
  | .hbm, ⟨28, _⟩ => ⟨S4x1x2048, .f32⟩
  | .hbm, ⟨29, _⟩ => ⟨S4x4096x2048, .f32⟩
  | .hbm, ⟨30, _⟩ => ⟨S4x4096x2048, .f32⟩
  | .hbm, ⟨31, _⟩ => ⟨S1x4x2048, .f32⟩
  | .hbm, ⟨32, _⟩ => ⟨S4x2048, .f32⟩
  | .hbm, ⟨33, _⟩ => ⟨S4x1x2048, .f32⟩
  | .hbm, ⟨34, _⟩ => ⟨S4x4096x2048, .f32⟩
  | .hbm, ⟨35, _⟩ => ⟨S4x4096x2048, .f32⟩
  | .hbm, ⟨36, _⟩ => ⟨S16384x2048, .f32⟩
  | .hbm, ⟨37, _⟩ => ⟨S16384x2048, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩

abbrev nD : Nat := 1
abbrev τ : Topo := Topo.v7x

variable {F : FTy → Type} [FloatOps F]
-- ==== Kernel8.lean ====
abbrev S16384x2048 : Shape := ⟨2, ![16384, 2048]⟩
abbrev S1x2048x16384 : Shape := ⟨3, ![1, 2048, 16384]⟩
abbrev S16384x4096 : Shape := ⟨2, ![16384, 4096]⟩
abbrev S512x2048 : Shape := ⟨2, ![512, 2048]⟩
abbrev S1x2048x256 : Shape := ⟨3, ![1, 2048, 256]⟩
abbrev S2048x256 : Shape := ⟨2, ![2048, 256]⟩
abbrev S2048x1024 : Shape := ⟨2, ![2048, 1024]⟩
abbrev S512x1024 : Shape := ⟨2, ![512, 1024]⟩
abbrev S512x256 : Shape := ⟨2, ![512, 256]⟩

abbrev nBuf : Space → Nat
  | .hbm => 6
  | .vmem => 25
  | .smem => 0
  | _ => 0

abbrev bufTy : (tb : Table) → Fin (tcTables nBuf tb) → BufTy
  | .hbm, ⟨0, _⟩ => ⟨S16384x2048, .bf16⟩
  | .hbm, ⟨1, _⟩ => ⟨S1x2048x16384, .f32⟩
  | .hbm, ⟨2, _⟩ => ⟨S16384x4096, .bf16⟩
  | .hbm, ⟨3, _⟩ => ⟨S16384x4096, .bf16⟩
  | .hbm, ⟨4, _⟩ => ⟨S16384x4096, .bf16⟩
  | .hbm, ⟨5, _⟩ => ⟨S16384x4096, .bf16⟩
  | .local _ .vmem, ⟨0, _⟩ => ⟨S512x2048, .bf16⟩
  | .local _ .vmem, ⟨1, _⟩ => ⟨S512x2048, .bf16⟩
  | .local _ .vmem, ⟨2, _⟩ => ⟨S512x2048, .bf16⟩
  | .local _ .vmem, ⟨3, _⟩ => ⟨S512x2048, .bf16⟩
  | .local _ .vmem, ⟨4, _⟩ => ⟨S512x2048, .bf16⟩
  | .local _ .vmem, ⟨5, _⟩ => ⟨S512x2048, .bf16⟩
  | .local _ .vmem, ⟨6, _⟩ => ⟨S512x2048, .bf16⟩
  | .local _ .vmem, ⟨7, _⟩ => ⟨S512x2048, .bf16⟩
  | .local _ .vmem, ⟨8, _⟩ => ⟨S1x2048x256, .f32⟩
  | .local _ .vmem, ⟨9, _⟩ => ⟨S1x2048x256, .f32⟩
  | .local _ .vmem, ⟨10, _⟩ => ⟨S1x2048x256, .f32⟩
  | .local _ .vmem, ⟨11, _⟩ => ⟨S1x2048x256, .f32⟩
  | .local _ .vmem, ⟨12, _⟩ => ⟨S1x2048x256, .f32⟩
  | .local _ .vmem, ⟨13, _⟩ => ⟨S1x2048x256, .f32⟩
  | .local _ .vmem, ⟨14, _⟩ => ⟨S1x2048x256, .f32⟩
  | .local _ .vmem, ⟨15, _⟩ => ⟨S1x2048x256, .f32⟩
  | .local _ .vmem, ⟨16, _⟩ => ⟨S2048x256, .bf16⟩
  | .local _ .vmem, ⟨17, _⟩ => ⟨S2048x256, .bf16⟩
  | .local _ .vmem, ⟨18, _⟩ => ⟨S2048x256, .bf16⟩
  | .local _ .vmem, ⟨19, _⟩ => ⟨S2048x256, .bf16⟩
  | .local _ .vmem, ⟨20, _⟩ => ⟨S2048x256, .bf16⟩
  | .local _ .vmem, ⟨21, _⟩ => ⟨S2048x256, .bf16⟩
  | .local _ .vmem, ⟨22, _⟩ => ⟨S2048x256, .bf16⟩
  | .local _ .vmem, ⟨23, _⟩ => ⟨S2048x256, .bf16⟩
  | .local _ .vmem, ⟨24, _⟩ => ⟨S2048x1024, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c0_i32 : BitVec 32 := 0#32
  let v1 : BitVec 32 := Scalar.addi v0 c0_i32
  let c0_i32_0 : BitVec 32 := 0#32
  let c0_i32_1 : BitVec 32 := 0#32
  ![v1.toNat, c0_i32_0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c2_i32 : BitVec 32 := 2#32
  let v1 : BitVec 32 := Scalar.addi v0 c2_i32
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg1 c4_i32
  let c3_i32 : BitVec 32 := 3#32
  let v1 : BitVec 32 := Scalar.addi v0 c3_i32
  let c0_i32 : BitVec 32 := 0#32
  let c0_i32_0 : BitVec 32 := 0#32
  ![v1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![c0_i32_0.toNat, c0_i32_1.toNat, v0.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![c0_i32.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  let c0_i32_0 : BitVec 32 := 0#32
  let c0_i32_1 : BitVec 32 := 0#32
  ![c0_i32.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c48_i32 : BitVec 32 := 48#32
  let v0 : BitVec 32 := Scalar.addi c48_i32 arg0
  let c0_i32 : BitVec 32 := 0#32
  let c0_i32_0 : BitVec 32 := 0#32
  let c0_i32_1 : BitVec 32 := 0#32
  ![c0_i32.toNat, c0_i32_0.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x2048x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x2048x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S2048x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S2048x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2048x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S2048x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel8Ideal.lean ====
variable {F : FTy → Type} [FloatOps F] [Named F]
def κ : String → Option EReal := fun
  | "attn_scale" => some (((Real.sqrt 128)⁻¹ : ℝ) : EReal)
  | "neg_log2_e" => some ((-((Real.log 2)⁻¹) : ℝ) : EReal)
  | _ => none
-- ==== Reference8Ideal.lean ====
abbrev S16384x2048 : Shape := ⟨2, ![16384, 2048]⟩
abbrev S1x2048x16384 : Shape := ⟨3, ![1, 2048, 16384]⟩
abbrev S2048x16384 : Shape := ⟨2, ![2048, 16384]⟩
abbrev S16384x16384 : Shape := ⟨2, ![16384, 16384]⟩
abbrev S16384x4096 : Shape := ⟨2, ![16384, 4096]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S1x2048x16384, .f32⟩
  | .hbm, ⟨2, _⟩ => ⟨S16384x2048, .f32⟩
  | .hbm, ⟨3, _⟩ => ⟨S2048x16384, .f32⟩
  | .hbm, ⟨4, _⟩ => ⟨S16384x16384, .f32⟩
  | .hbm, ⟨5, _⟩ => ⟨S16384x4096, .f32⟩
  | .hbm, ⟨6, _⟩ => ⟨S16384x4096, .f32⟩
  | .hbm, ⟨7, _⟩ => ⟨S16384x4096, .f32⟩
  | .hbm, ⟨8, _⟩ => ⟨S16384x4096, .f32⟩
  | .hbm, ⟨9, _⟩ => ⟨S_, .f32⟩
  | .hbm, ⟨10, _⟩ => ⟨S_, .f32⟩
  | .hbm, ⟨11, _⟩ => ⟨S16384x4096, .f32⟩
  | .hbm, ⟨12, _⟩ => ⟨S16384x4096, .f32⟩
  | .hbm, ⟨13, _⟩ => ⟨S16384x4096, .bf16⟩
  | .hbm, ⟨14, _⟩ => ⟨S16384x4096, .bf16⟩
  | .hbm, ⟨15, _⟩ => ⟨S16384x4096, .bf16⟩
  | .hbm, ⟨16, _⟩ => ⟨S16384x4096, .f32⟩
  | .hbm, ⟨17, _⟩ => ⟨S16384x4096, .f32⟩
  | .hbm, ⟨18, _⟩ => ⟨S_, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S16384x4096, .f32⟩
  | .hbm, ⟨25, _⟩ => ⟨S16384x4096, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_v1 : Ref sig .tc := ⟨.hbm, 17, rfl⟩
abbrev main_call0_cst : Ref sig .tc := ⟨.hbm, 18, rfl⟩
abbrev main_call0_v2 : Ref sig .tc := ⟨.hbm, 19, rfl⟩
abbrev main_call0_v3 : Ref sig .tc := ⟨.hbm, 20, rfl⟩
abbrev main_call0_cst_0 : Ref sig .tc := ⟨.hbm, 21, rfl⟩
abbrev main_call0_v4 : Ref sig .tc := ⟨.hbm, 22, rfl⟩
abbrev main_call0_v5 : Ref sig .tc := ⟨.hbm, 23, rfl⟩
abbrev main_v13 : Ref sig .tc := ⟨.hbm, 24, rfl⟩
abbrev main_v14 : Ref sig .tc := ⟨.hbm, 25, rfl⟩

abbrev nD : Nat := 1
abbrev τ : Topo := Topo.v7x

variable {F : FTy → Type} [FloatOps F]
-- ==== Kernel10.lean ====
abbrev S4x2048 : Shape := ⟨2, ![4, 2048]⟩
abbrev S2048 : Shape := ⟨1, ![2048]⟩
abbrev S4x2048x6144 : Shape := ⟨3, ![4, 2048, 6144]⟩
abbrev S4x6144 : Shape := ⟨2, ![4, 6144]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x1x6144 : Shape := ⟨3, ![4, 1, 6144]⟩
abbrev S4x8x6144 : Shape := ⟨3, ![4, 8, 6144]⟩
abbrev S1x2048x1024 : Shape := ⟨3, ![1, 2048, 1024]⟩
abbrev S1x1x1024 : Shape := ⟨3, ![1, 1, 1024]⟩
abbrev S1x8x1024 : Shape := ⟨3, ![1, 8, 1024]⟩
abbrev S2048x1024 : Shape := ⟨2, ![2048, 1024]⟩
abbrev S8x1024 : Shape := ⟨2, ![8, 1024]⟩
abbrev S1x1024 : Shape := ⟨2, ![1, 1024]⟩

abbrev nBuf : Space → Nat
  | .hbm => 10
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x6144, .f32⟩
  | .hbm, ⟨3, _⟩ => ⟨S4x6144, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S4x1x6144, .f32⟩
  | .hbm, ⟨9, _⟩ => ⟨S4x8x6144, .f32⟩
  | .local _ .vmem, ⟨0, _⟩ => ⟨S8x2048, .f32⟩
  | .local _ .vmem, ⟨1, _⟩ => ⟨S1x2048x1024, .f32⟩
  | .local _ .vmem, ⟨2, _⟩ => ⟨S1x2048x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x8x1024, .f32⟩
  | .local _ .vmem, ⟨6, _⟩ => ⟨S1x8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 6], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Kernel10Ideal.lean ====
variable {F : FTy → Type} [FloatOps F] [Named F]
def κ : String → Option EReal := fun
  | "neg_log2_e" => some ((-((Real.log 2)⁻¹) : ℝ) : EReal)
  | _ => none
-- ==== Reference10Ideal.lean ====
abbrev S4x2048 : Shape := ⟨2, ![4, 2048]⟩
abbrev S2048 : Shape := ⟨1, ![2048]⟩
abbrev S4x2048x6144 : Shape := ⟨3, ![4, 2048, 6144]⟩
abbrev S4x6144 : Shape := ⟨2, ![4, 6144]⟩
abbrev S1x2048 : Shape := ⟨2, ![1, 2048]⟩
abbrev S_ : Shape := ⟨0, ![]⟩
abbrev S3x2048 : Shape := ⟨2, ![3, 2048]⟩
abbrev S8x2048 : Shape := ⟨2, ![8, 2048]⟩
abbrev S4x6144x8 : Shape := ⟨3, ![4, 6144, 8]⟩
abbrev S4x8x6144 : Shape := ⟨3, ![4, 8, 6144]⟩
abbrev S4x1x6144 : Shape := ⟨3, ![4, 1, 6144]⟩

abbrev nBuf : Space → Nat
  | .hbm => 22
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048, .f32⟩
  | .hbm, ⟨2, _⟩ => ⟨S4x2048x6144, .f32⟩
  | .hbm, ⟨3, _⟩ => ⟨S4x6144, .f32⟩
  | .hbm, ⟨4, _⟩ => ⟨S1x2048, .f32⟩
  | .hbm, ⟨5, _⟩ => ⟨S_, .f32⟩
  | .hbm, ⟨6, _⟩ => ⟨S3x2048, .f32⟩
  | .hbm, ⟨7, _⟩ => ⟨S8x2048, .f32⟩
  | .hbm, ⟨8, _⟩ => ⟨S8x2048, .f32⟩
  | .hbm, ⟨9, _⟩ => ⟨S8x2048, .f32⟩
  | .hbm, ⟨10, _⟩ => ⟨S_, .f32⟩
  | .hbm, ⟨11, _⟩ => ⟨S8x2048, .f32⟩
  | .hbm, ⟨12, _⟩ => ⟨S8x2048, .f32⟩
  | .hbm, ⟨13, _⟩ => ⟨S_, .f32⟩
  | .hbm, ⟨14, _⟩ => ⟨S8x2048, .f32⟩
  | .hbm, ⟨15, _⟩ => ⟨S8x2048, .f32⟩
  | .hbm, ⟨16, _⟩ => ⟨S8x2048, .f32⟩
  | .hbm, ⟨17, _⟩ => ⟨S4x6144x8, .f32⟩
  | .hbm, ⟨18, _⟩ => ⟨S4x8x6144, .f32⟩
  | .hbm, ⟨19, _⟩ => ⟨S4x1x6144, .f32⟩
  | .hbm, ⟨20, _⟩ => ⟨S4x8x6144, .f32⟩
  | .hbm, ⟨21, _⟩ => ⟨S4x8x6144, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩

abbrev nD : Nat := 1
abbrev τ : Topo := Topo.v7x

variable {F : FTy → Type} [FloatOps F]
-- ==== Proof.Spec.lean ====
module

public import proofs.«01_k».proof.Proof.Gen.KernelIdeal.Frame
public import proofs.«01_k».proof.Proof.Gen.KernelIdeal.Loops
public import Idealize.ShloMosaic.Lib.Pointwise
public import Idealize.ShloMosaic.Lib.WholeRead

/-! # What one tile of the convolution computes, element by element

The kernel lays a tile of 256 rows, the last 16 rows of the tile before and the first 16 rows of the tile after into one
array of 288 rows (`row`), two rows to a word; multiplies three shifted windows of it by the three taps; and gates the
sum.  Here are those arrays as functions of the tiles read, and the reads of the vector expressions the body stores. -/

@[expose] public section

set_option maxRecDepth 16384

noncomputable section

namespace Cert.KernelIdeal.Conv

open Idealize.ShloMosaic Idealize.ShloMosaic.TcCoe
open Cert.KernelIdeal Cert.KernelIdeal.Gen

/-- Row `p` of the padded tile at lane `q`: 16 rows of the tile before, 256 rows of the tile, 16 rows of the tile after;
    the rows before the first tile of a sample and after its last are zero. -/
def row (i : grid0.Coords) (x0 : Vec Ideal S1x256x4096 .bf16) (x1 x2 : Vec Ideal S1x16x4096 .bf16) (p : ℕ) (q : Fin 4096) : EReal :=
  if p < 16 then (if 0 < (i 1).val then x1 (ix3 0 (Fin.ofNat 16 p) q) else 0)
  else if p < 272 then x0 (ix3 0 (Fin.ofNat 256 (p - 16)) q)
  else (if (i 1).val < 15 then x2 (ix3 0 (Fin.ofNat 16 (p - 272)) q) else 0)

/-- Lane `l` of column group `k`. -/
def lane (k : Fin 32) (l : Fin 128) : Fin 4096 := ⟨128 * k.val + l.val, by have := k.isLt; have := l.isLt; omega⟩

/-- The packed buffer: word row `r`, half `h` of column group `k` holds row `r + 128 h`. -/
def PK (i : grid0.Coords) (x0 : Vec Ideal S1x256x4096 .bf16) (x1 x2 : Vec Ideal S1x16x4096 .bf16) : Vec Ideal S32x160x2x128 .bf16 :=
  fun y => row i x0 x1 x2 ((y 1).val + 128 * (y 2).val) (lane (y 0) (y 3))

/-- The tap buffer: each tap's 128 lanes of a column group, repeated over 16 rows. -/
def WB (x4 : Vec Ideal S32x3x128 .f32) : Vec Ideal S32x3x16x128 .bf16 := fun y => x4 (ix3 (y 0) (y 1) (y 3))

/-- Three taps over the padded rows `p`, `p + 1`, `p + 2`. -/
def taps (i : grid0.Coords) (x0 : Vec Ideal S1x256x4096 .bf16) (x1 x2 : Vec Ideal S1x16x4096 .bf16) (x4 : Vec Ideal S32x3x128 .f32)
    (p : ℕ) (k : Fin 32) (l : Fin 128) : EReal :=
  row i x0 x1 x2 p (lane k l) * x4 (ix3 k 0 l) + row i x0 x1 x2 (p + 1) (lane k l) * x4 (ix3 k 1 l)
    + row i x0 x1 x2 (p + 2) (lane k l) * x4 (ix3 k 2 l)

/-- The buffer of tap sums: row `2 r + h` holds the sum for tile row `r + 128 h`. -/
def CB (i : grid0.Coords) (x0 : Vec Ideal S1x256x4096 .bf16) (x1 x2 : Vec Ideal S1x16x4096 .bf16) (x4 : Vec Ideal S32x3x128 .f32) :
    Vec Ideal S32x256x128 .f32 :=
  fun y => taps i x0 x1 x2 x4 ((y 1).val / 2 + 128 * ((y 1).val % 2) + 15) (y 0) (y 2)

/-- The tile written out: the tap sum of each row, gated. -/
def OUT (i : grid0.Coords) (x0 : Vec Ideal S1x256x4096 .bf16) (x1 x2 : Vec Ideal S1x16x4096 .bf16) (x3 : Vec Ideal S1x256x4096 .bf16)
    (x4 : Vec Ideal S32x3x128 .f32) : Vec Ideal S1x256x4096 .bf16 :=
  fun y => (show EReal from taps i x0 x1 x2 x4 ((y 1).val + 15) (Fin.ofNat 32 ((y 2).val / 128)) (Fin.ofNat 128 (y 2).val)) * x3 y

/-! ## The stored vectors at an index -/

/-- The first 16 word rows of a column group: the tile before (or zero) and rows of the tile. -/
theorem pay_lo (v : BitVec 1) (a b : Vec Ideal S1x16x128 .bf16) (x : S1x16x2x128.Idx) :
    k0_pay15 (k0_pay13 v a) b x = if (x 2).val = 0 then Scalar.select v (a (ix3 0 (x 1) (x 3))) (0 : EReal) else b (ix3 0 (x 1) (x 3)) := by
  idx_vars x
  pointwise [k0_pay15, k0_pay13]
  rw [Nat.mod_eq_of_lt x2.isLt]; rfl

/-- The 128 word rows in the middle: two rows of the tile, 128 apart. -/
theorem pay_mid (a b : Vec Ideal S1x128x128 .bf16) (x : S1x128x2x128.Idx) :
    k0_pay11 (k0_pay10 a) b x = if (x 2).val = 0 then a (ix3 0 (x 1) (x 3)) else b (ix3 0 (x 1) (x 3)) := by
  idx_vars x
  pointwise [k0_pay11, k0_pay10]
  rw [Nat.mod_eq_of_lt x2.isLt]; rfl

/-- The last 16 word rows: rows of the tile and the tile after (or zero). -/
theorem pay_hi (v : BitVec 1) (a b : Vec Ideal S1x16x128 .bf16) (x : S1x16x2x128.Idx) :
    k0_pay12 (k0_pay14 v b) a x = if (x 2).val = 0 then a (ix3 0 (x 1) (x 3)) else Scalar.select v (b (ix3 0 (x 1) (x 3))) (0 : EReal) := by
  idx_vars x
  pointwise [k0_pay12, k0_pay14]
  rw [Nat.mod_eq_of_lt x2.isLt]; rfl

/-- A tap as stored: its lanes, on every row. -/
theorem pay_tap (a : Vec Ideal S1x1x128 .f32) (x : S1x1x16x128.Idx) : k0_pay5 a x = a (ix3 0 0 (x 3)) := by
  idx_vars x
  pointwise [k0_pay5]

/-- The tap sums as stored, the taps being the same on every row. -/
theorem pay_sum (a b d : Vec Ideal S1x64x2x128 .bf16) (u v w : Vec Ideal S1x1x16x128 .bf16) (U V W : Fin 128 → EReal)
    (hu : ∀ r l, u (ix4 0 0 r l) = U l) (hv : ∀ r l, v (ix4 0 0 r l) = V l) (hw : ∀ r l, w (ix4 0 0 r l) = W l)
    (x : S1x128x128.Idx) :
    k0_pay212 (k0_pay3 a u b v) (k0_pay4 d) w x
      = (a (ix4 0 (Fin.ofNat 64 ((x 1).val / 2)) (Fin.ofNat 2 (x 1).val) (x 2)) : EReal) * U (x 2)
        + (b (ix4 0 (Fin.ofNat 64 ((x 1).val / 2)) (Fin.ofNat 2 (x 1).val) (x 2)) : EReal) * V (x 2)
        + (d (ix4 0 (Fin.ofNat 64 ((x 1).val / 2)) (Fin.ofNat 2 (x 1).val) (x 2)) : EReal) * W (x 2) := by
  have hp : ∀ (c : Vec Ideal S1x64x2x128 .bf16) (r : Fin 128) (l : Fin 128) (h : r.val / 2 < 64),
      (if r.val % 2 = 0 then c (ix4 0 ⟨r.val / 2, h⟩ 0 l) else c (ix4 0 ⟨r.val / 2, h⟩ 1 l))
        = c (ix4 0 (Fin.ofNat 64 (r.val / 2)) (Fin.ofNat 2 r.val) l) := by
    intro c r l h
    have e : (⟨r.val / 2, h⟩ : Fin 64) = Fin.ofNat 64 (r.val / 2) := Fin.ext (Nat.mod_eq_of_lt h).symm
    rw [e]
    split_ifs with h0
    · exact congrArg (fun t => c (ix4 0 _ t l)) (Fin.ext (by simpa using h0.symm))
    · exact congrArg (fun t => c (ix4 0 _ t l)) (Fin.ext (by simp [Fin.ofNat]; omega))
  idx_vars x
  pointwise [k0_pay212, k0_pay3, k0_pay4]
  simp only [hu, hv, hw, dite_eq_ite, ite_self, hp]

/-- The gated tap sums as stored. -/
theorem pay_out (a : Vec Ideal S1x128x128 .f32) (b : Vec Ideal S1x128x128 .bf16) (x : S1x128x128.Idx) :
    k0_pay213 a b x = (show EReal from a x) * b x := by
  idx_vars x
  pointwise [k0_pay213]
  fin_cases x0; rfl

/-! ## The stored pieces -/

/-- A stored piece holds the part of `G` it covers. -/
def Good {s : Shape} {e : EltTy} (G : s.Idx → Elt Ideal e) (p : View.Piece (Elt Ideal) s e) : Prop :=
  ∀ x : p.1.shape.Idx, p.2 x = G (p.1.emb x)

theorem sel_first (i : grid0.Coords) (a : EReal) :
    Scalar.select (Scalar.cmpi .sgt (BitVec.ofNat 32 (i 1).val) 0#32) a 0 = if 0 < (i 1).val then a else 0 := by
  have h : ∀ t : Fin 16, Scalar.cmpi .sgt (BitVec.ofNat 32 t.val) 0#32 = if 0 < t.val then 1#1 else 0#1 := by decide +kernel
  rw [h (i 1)]; split_ifs <;> rfl

theorem sel_last (i : grid0.Coords) (a : EReal) :
    Scalar.select (Scalar.cmpi .slt (BitVec.ofNat 32 (i 1).val) 15#32) a 0 = if (i 1).val < 15 then a else 0 := by
  have h : ∀ t : Fin 16, Scalar.cmpi .slt (BitVec.ofNat 32 t.val) 15#32 = if t.val < 15 then 1#1 else 0#1 := by decide +kernel
  rw [h (i 1)]; split_ifs <;> rfl

variable (i : grid0.Coords) (arg2 : Memref sig .tc .vmem S1x256x4096 .bf16) (harg2 : arg2.IsWhole)
  (arg3 : Memref sig .tc .vmem S1x16x4096 .bf16) (harg3 : arg3.IsWhole) (arg4 : Memref sig .tc .vmem S1x16x4096 .bf16) (harg4 : arg4.IsWhole)
  (arg5 : Memref sig .tc .vmem S1x256x4096 .bf16) (harg5 : arg5.IsWhole)
  (x0 : Vec Ideal S1x256x4096 .bf16) (x1 x2 : Vec Ideal S1x16x4096 .bf16) (x3 : Vec Ideal S1x256x4096 .bf16) (x4 : Vec Ideal S32x3x128 .f32)

theorem row_prev {p : ℕ} (r : Fin 16) (q : Fin 4096) (h : p = r.val) :
    row i x0 x1 x2 p q = if 0 < (i 1).val then x1 (ix3 0 r q) else 0 := by
  subst h
  unfold row
  rw [if_pos r.isLt, show Fin.ofNat 16 r.val = r from Fin.ext (Nat.mod_eq_of_lt r.isLt)]

theorem row_mid {p : ℕ} (r : Fin 256) (q : Fin 4096) (h : p = r.val + 16) : row i x0 x1 x2 p q = x0 (ix3 0 r q) := by
  subst h
  unfold row
  rw [if_neg (by omega), if_pos (by have := r.isLt; omega), Nat.add_sub_cancel, show Fin.ofNat 256 r.val = r from Fin.ext (Nat.mod_eq_of_lt r.isLt)]

theorem row_next {p : ℕ} (r : Fin 16) (q : Fin 4096) (h : p = r.val + 272) :
    row i x0 x1 x2 p q = if (i 1).val < 15 then x2 (ix3 0 r q) else 0 := by
  subst h
  unfold row
  rw [if_neg (by omega), if_neg (by omega), Nat.add_sub_cancel, show Fin.ofNat 16 r.val = r from Fin.ext (Nat.mod_eq_of_lt r.isLt)]

/-- A column group of a staged tile, read at an index. -/
theorem ld_group {n m o k : ℕ} (X : (⟨3, ![1, n, 4096]⟩ : Shape).Idx → EReal) (hk : k < 32) (inb)
    (y0 : Fin 1) (y1 : Fin m) (y2 : Fin 128) (r : Fin n) (hr : r.val = o + y1.val) :
    X ((Rect.unit (s := ⟨3, ![1, n, 4096]⟩) ![0, o, 128 * k] ![1, m, 128] inb).toLoadRect.idx (ix3 y0 y1 y2)) = X (ix3 0 r (lane ⟨k, hk⟩ y2)) := by
  refine congrArg X (funext fun a => Fin.ext ?_)
  have := y0.isLt
  rw [LoadRect.idx_apply]
  fin_cases a
  · show 0 + 1 * y0.val = 0; omega
  · show o + 1 * y1.val = r.val; omega
  · show 128 * k + 1 * y2.val = 128 * k + y2.val; omega

/-- A packed piece's index in the buffer. -/
theorem emb_pack {m o k : ℕ} (hk : k < 32) (inb) (y0 : Fin 1) (y1 : Fin m) (y2 : Fin 2) (y3 : Fin 128) (h : o + y1.val < 160) :
    (Rect.unit (s := S32x160x2x128) ![k, o, 0, 0] ![1, m, 2, 128] inb).emb (ix4 y0 y1 y2 y3) = ix4 ⟨k, hk⟩ ⟨o + y1.val, h⟩ y2 y3 := by
  refine funext fun a => Fin.ext ?_
  have := y0.isLt
  rw [Rect.emb_apply]
  fin_cases a
  · show k + 1 * y0.val = k; omega
  · show o + 1 * y1.val = o + y1.val; omega
  · show 0 + 1 * y2.val = y2.val; omega
  · show 0 + 1 * y3.val = y3.val; omega

theorem good_lo (k : ℕ) (inb inb3 inb2) :
    Good (PK i x0 x1 x2) ⟨Rect.unit (s := S32x160x2x128) ![k, 0, 0, 0] S1x16x2x128.size inb,
      k0_pay15 (k0_pay13 (Scalar.cmpi .sgt (BitVec.ofNat 32 (i 1).val) 0#32)
          (arg3.view.readAt (Elt Ideal) (Rect.unit (s := S1x16x4096) ![0, 0, 128 * k] S1x16x128.size inb3).toLoadRect (harg3.unread x1)))
        (arg2.view.readAt (Elt Ideal) (Rect.unit (s := S1x256x4096) ![0, 112, 128 * k] S1x16x128.size inb2).toLoadRect (harg2.unread x0))⟩ := by
  have hk : k < 32 := inb 0
  intro y
  refine (pay_lo _ _ _ y).trans ?_
  change S1x16x2x128.Idx at y
  idx_vars y
  have hl := y1.isLt
  rw [Memref.IsWhole.readAt_unread, Memref.IsWhole.readAt_unread, sel_first]
  refine Eq.trans ?_ (congrArg (PK i x0 x1 x2) (emb_pack (o := 0) hk inb y0 y1 y2 y3 (by omega))).symm
  show (if y2.val = 0 then _ else _) = row i x0 x1 x2 (0 + y1.val + 128 * y2.val) (lane ⟨k, hk⟩ y3)
  by_cases h : y2.val = 0
  · rw [if_pos h, row_prev (r := y1) (h := by omega), ← ld_group (o := 0) x1 hk inb3 0 y1 y3 y1 (by omega)]
  · have := y2.isLt
    rw [if_neg h, row_mid (r := ⟨112 + y1.val, by omega⟩) (h := by show _ = 112 + y1.val + 16; omega), ← ld_group (o := 112) x0 hk inb2 0 y1 y3 _ rfl]

theorem good_mid (k : ℕ) (inb inb1 inb2) :
    Good (PK i x0 x1 x2) ⟨Rect.unit (s := S32x160x2x128) ![k, 16, 0, 0] S1x128x2x128.size inb,
      k0_pay11 (k0_pay10 (arg2.view.readAt (Elt Ideal) (Rect.unit (s := S1x256x4096) ![0, 0, 128 * k] S1x128x128.size inb1).toLoadRect (harg2.unread x0)))
        (arg2.view.readAt (Elt Ideal) (Rect.unit (s := S1x256x4096) ![0, 128, 128 * k] S1x128x128.size inb2).toLoadRect (harg2.unread x0))⟩ := by
  have hk : k < 32 := inb 0
  intro y
  refine (pay_mid _ _ y).trans ?_
  change S1x128x2x128.Idx at y
  idx_vars y
  have hl := y1.isLt
  rw [Memref.IsWhole.readAt_unread, Memref.IsWhole.readAt_unread]
  refine Eq.trans ?_ (congrArg (PK i x0 x1 x2) (emb_pack (o := 16) hk inb y0 y1 y2 y3 (by omega))).symm
  show (if y2.val = 0 then _ else _) = row i x0 x1 x2 (16 + y1.val + 128 * y2.val) (lane ⟨k, hk⟩ y3)
  by_cases h : y2.val = 0
  · rw [if_pos h, row_mid (r := ⟨0 + y1.val, by omega⟩) (h := by show _ = 0 + y1.val + 16; omega), ← ld_group (o := 0) x0 hk inb1 0 y1 y3 _ rfl]
  · have := y2.isLt
    rw [if_neg h, row_mid (r := ⟨128 + y1.val, by omega⟩) (h := by show _ = 128 + y1.val + 16; omega), ← ld_group (o := 128) x0 hk inb2 0 y1 y3 _ rfl]

theorem good_hi (k : ℕ) (inb inb4 inb2) :
    Good (PK i x0 x1 x2) ⟨Rect.unit (s := S32x160x2x128) ![k, 144, 0, 0] S1x16x2x128.size inb,
      k0_pay12 (k0_pay14 (Scalar.cmpi .slt (BitVec.ofNat 32 (i 1).val) 15#32)
          (arg4.view.readAt (Elt Ideal) (Rect.unit (s := S1x16x4096) ![0, 0, 128 * k] S1x16x128.size inb4).toLoadRect (harg4.unread x2)))
        (arg2.view.readAt (Elt Ideal) (Rect.unit (s := S1x256x4096) ![0, 128, 128 * k] S1x16x128.size inb2).toLoadRect (harg2.unread x0))⟩ := by
  have hk : k < 32 := inb 0
  intro y
  refine (pay_hi _ _ _ y).trans ?_
  change S1x16x2x128.Idx at y
  idx_vars y
  have hl := y1.isLt
  rw [Memref.IsWhole.readAt_unread, Memref.IsWhole.readAt_unread, sel_last]
  refine Eq.trans ?_ (congrArg (PK i x0 x1 x2) (emb_pack (o := 144) hk inb y0 y1 y2 y3 (by omega))).symm
  show (if y2.val = 0 then _ else _) = row i x0 x1 x2 (144 + y1.val + 128 * y2.val) (lane ⟨k, hk⟩ y3)
  by_cases h : y2.val = 0
  · rw [if_pos h, row_mid (r := ⟨128 + y1.val, by omega⟩) (h := by show _ = 128 + y1.val + 16; omega), ← ld_group (o := 128) x0 hk inb2 0 y1 y3 _ rfl]
  · have := y2.isLt
    rw [if_neg h, row_next (r := y1) (h := by omega), ← ld_group (o := 0) x2 hk inb4 0 y1 y3 y1 (by omega)]

/-- A gated tile piece: rows `128 h` to `128 h + 127` of column group `k`, from every second row of the buffer of tap sums. -/
theorem good_out (k h o : ℕ) (hh : h < 2) (ho : o = 128 * h) {arg10 : Memref sig .tc .vmem S32x256x128 .f32} {X : BufTy.Contents (Elt Ideal) arg10.view.ty}
    (hX : arg10.view.read (Elt Ideal) X = CB i x0 x1 x2 x4) (inb inbc inb5) :
    Good (OUT i x0 x1 x2 x3 x4) ⟨Rect.unit (s := S1x256x4096) ![0, o, 128 * k] S1x128x128.size inb,
      k0_pay213 (arg10.view.readAt (Elt Ideal) (⟨![k, h, 0], S1x128x128.size, ![1, 2, 1], inbc⟩ : LoadRect S32x256x128) X)
        (arg5.view.readAt (Elt Ideal) (Rect.unit (s := S1x256x4096) ![0, o, 128 * k] S1x128x128.size inb5).toLoadRect (harg5.unread x3))⟩ := by
  subst ho
  have hk : k < 32 := by have : 128 * k + 128 ≤ 4096 := inb 2; omega
  intro y
  refine (pay_out _ _ y).trans ?_
  change S1x128x128.Idx at y
  idx_vars y
  have hl := y1.isLt
  have hc := y0.isLt
  have hm := y2.isLt
  rw [Memref.IsWhole.readAt_unread]
  unfold OUT
  show (_ : EReal) * _ = (_ : EReal) * _
  refine Ideal.mul_congr ?_ rfl
  rw [View.readAt_apply, hX]
  unfold CB
  rw [Rect.emb_apply, Rect.emb_apply, LoadRect.idx_apply]
  show taps i x0 x1 x2 x4 ((h + 2 * y1.val) / 2 + 128 * ((h + 2 * y1.val) % 2) + 15) _ _
    = taps i x0 x1 x2 x4 (128 * h + 1 * y1.val + 15) (Fin.ofNat 32 ((128 * k + 1 * y2.val) / 128)) (Fin.ofNat 128 (128 * k + 1 * y2.val))
  have e1 : (h + 2 * y1.val) / 2 + 128 * ((h + 2 * y1.val) % 2) + 15 = 128 * h + 1 * y1.val + 15 := by omega
  rw [e1]
  congr 1
  · refine Fin.ext ?_
    show k + 1 * y0.val = (128 * k + 1 * y2.val) / 128 % 32
    omega
  · refine Fin.ext ?_
    show 0 + 1 * y2.val = (128 * k + 1 * y2.val) % 128
    omega

end Cert.KernelIdeal.Conv

end
-- ==== Proof.LoopVals.lean ====
module

public import proofs.«01_k».proof.Proof.Spec

/-! # What the body's loops leave

The loop over column groups that widens the taps leaves `WB`; the two nested loops over column groups and halves leave
`CB`, of a packed buffer that reads `PK` and a tap buffer that reads `WB`. -/

@[expose] public section

set_option maxRecDepth 16384

noncomputable section

namespace Cert.KernelIdeal.Conv

open Idealize.ShloMosaic Idealize.ShloMosaic.TcCoe
open Idealize.SL Idealize.SL.Sem
open Cert.KernelIdeal Cert.KernelIdeal.Gen

theorem off1 : ∀ k, k0_off1 k = ![k.val, 0, 0] := by decide +kernel
theorem off2 : ∀ k, k0_off2 k = ![k.val, 0, 0, 0] := by decide +kernel
theorem off3 : ∀ k, k0_off3 k = ![k.val, 1, 0] := by decide +kernel
theorem off4 : ∀ k, k0_off4 k = ![k.val, 1, 0, 0] := by decide +kernel
theorem off5 : ∀ k, k0_off5 k = ![k.val, 2, 0] := by decide +kernel
theorem off6 : ∀ k, k0_off6 k = ![k.val, 2, 0, 0] := by decide +kernel
theorem off7 : ∀ k j, ∀ t : Fin 3, k0_off7 k j (BitVec.ofNat 32 (15 + t.val)) = ![k.val, 64 * j.val + 15 + t.val, 0, 0] := by decide +kernel
theorem off8 : ∀ k, k0_off8 k = ![k.val, 0, 0, 0] := by decide +kernel
theorem off9 : ∀ k, k0_off9 k = ![k.val, 1, 0, 0] := by decide +kernel
theorem off10 : ∀ k, k0_off10 k = ![k.val, 2, 0, 0] := by decide +kernel
theorem off11 : ∀ k j, k0_off11 k j = ![k.val, 128 * j.val, 0] := by decide +kernel

theorem trips1 : k0_t1_loop.trips = 32 := by decide +kernel
theorem trips2 : k0_t2_loop.trips = 32 := by decide +kernel
theorem trips3 : k0_t3_loop.trips = 2 := by decide +kernel

/-- The pieces of a loop are the pieces of its trips. -/
theorem mem_pieces {α : Type} (N : ℕ) (pb : ℕ → List α) (trip : Fin N → List α) (h0 : pb 0 = [])
    (hs : ∀ k : Fin N, pb (k.val + 1) = trip k ++ pb k.val) (p : α) : p ∈ pb N ↔ ∃ k : Fin N, p ∈ trip k := by
  have H : ∀ n, n ≤ N → (p ∈ pb n ↔ ∃ k : Fin N, k.val < n ∧ p ∈ trip k) := by
    intro n
    induction n with
    | zero => intro _; rw [h0]; simp
    | succ n ih =>
      intro hn
      rw [hs ⟨n, hn⟩, List.mem_append, ih (Nat.le_of_succ_le hn)]
      constructor
      · rintro (h | ⟨k, hk, h⟩)
        · exact ⟨⟨n, hn⟩, Nat.lt_succ_self n, h⟩
        · exact ⟨k, Nat.lt_succ_of_lt hk, h⟩
      · rintro ⟨k, hk, h⟩
        rcases Nat.lt_succ_iff_lt_or_eq.1 hk with hk | hk
        · exact .inr ⟨k, hk, h⟩
        · have : k = ⟨n, hn⟩ := Fin.ext hk
          exact .inl (this ▸ h)
  exact (H N le_rfl).trans ⟨fun ⟨k, _, h⟩ => ⟨k, h⟩, fun ⟨k, h⟩ => ⟨k, k.isLt, h⟩⟩

/-- An index in a unit-stride rectangle. -/
theorem mem_unit {s : Shape} {off size : Fin s.rank → ℕ} (inb) (y : s.Idx) (h : ∀ a, off a ≤ (y a).val ∧ (y a).val < off a + size a) :
    y ∈ (Rect.unit (s := s) off size inb).set :=
  (LoadRect.mem_set _).2 fun a => ⟨(y a).val - off a, by have := h a; show _ < size a; omega, by
    have := h a; show (y a).val = off a + 1 * ((y a).val - off a); omega⟩

variable (c : Dev nD) (i : grid0.Coords) (arg2 : Memref sig .tc .vmem S1x256x4096 .bf16) (harg2 : arg2.IsWhole) (arg3 : Memref sig .tc .vmem S1x16x4096 .bf16) (harg3 : arg3.IsWhole) (arg4 : Memref sig .tc .vmem S1x16x4096 .bf16) (harg4 : arg4.IsWhole) (arg5 : Memref sig .tc .vmem S1x256x4096 .bf16) (harg5 : arg5.IsWhole) (arg6 : Memref sig .tc .vmem S32x3x128 .f32) (harg6 : arg6.IsWhole) (arg7 : Memref sig .tc .vmem S1x256x4096 .bf16) (harg7 : arg7.IsWhole) (arg8 : Memref sig .tc .vmem S32x160x2x128 .bf16) (harg8 : arg8.IsWhole) (arg9 : Memref sig .tc .vmem S32x3x16x128 .bf16) (harg9 : arg9.IsWhole) (arg10 : Memref sig .tc .vmem S32x256x128 .f32) (harg10 : arg10.IsWhole)
  (x0 : Vec Ideal S1x256x4096 .bf16) (x1 x2 : Vec Ideal S1x16x4096 .bf16) (x4 : Vec Ideal S32x3x128 .f32)

/-! ## The taps -/

theorem good_tap (k t : ℕ) {off : Fin 4 → ℕ} {off' : Fin 3 → ℕ} (ho : off = ![k, t, 0, 0]) (ho' : off' = ![k, t, 0]) (inb inb') :
    Good (WB x4) ⟨Rect.unit (s := S32x3x16x128) off S1x1x16x128.size inb,
      k0_pay5 (arg6.view.readAt (Elt Ideal) (Rect.unit (s := S32x3x128) off' S1x1x128.size inb').toLoadRect (harg6.unread x4))⟩ := by
  subst ho ho'
  intro y
  refine (pay_tap _ y).trans ?_
  change S1x1x16x128.Idx at y
  idx_vars y
  have := y0.isLt
  have := y1.isLt
  rw [Memref.IsWhole.readAt_unread]
  refine congrArg x4 (funext fun a => Fin.ext ?_)
  rw [LoadRect.idx_apply]
  fin_cases a
  · show k + 1 * 0 = k + 1 * y0.val; omega
  · show t + 1 * 0 = t + 1 * y1.val; omega
  · rfl

theorem read_taps (h1 : k0_cond1 i = 1#1) (f : BufTy.Contents (Elt Ideal) arg9.view.ty) :
    arg9.view.read (Elt Ideal) (arg9.view.writes (Elt Ideal) f
      (pb_k0_t1 (F := Ideal) Variants.none c none i arg2 harg2 arg3 harg3 arg4 harg4 arg5 harg5 arg6 harg6 arg7 harg7 arg8 harg8 arg9 harg9 arg10 harg10 h1 (harg6.unread x4) (Scf.trips k0_t1_loop.lb k0_t1_loop.ub k0_t1_loop.st))) = WB x4 := by
  have hm := mem_pieces k0_t1_loop.trips (pb_k0_t1 (F := Ideal) Variants.none c none i arg2 harg2 arg3 harg3 arg4 harg4 arg5 harg5 arg6 harg6 arg7 harg7 arg8 harg8 arg9 harg9 arg10 harg10 h1 (harg6.unread x4)) _ rfl
    (pb_k0_t1_succ Variants.none c none i arg2 harg2 arg3 harg3 arg4 harg4 arg5 harg5 arg6 harg6 arg7 harg7 arg8 harg8 arg9 harg9 arg10 harg10 h1 (harg6.unread x4))
  have ht : ∀ k : Fin k0_t1_loop.trips, tripL_k0_t1 (F := Ideal) Variants.none c none i arg2 harg2 arg3 harg3 arg4 harg4 arg5 harg5 arg6 harg6 arg7 harg7 arg8 harg8 arg9 harg9 arg10 harg10 h1 (harg6.unread x4) k
      = [⟨Rect.unit (k0_off6 k) S1x1x16x128.size (k0_off6_inb i k h1), k0_pay7 (arg6.view.readAt (Elt Ideal) (Rect.unit (s := S32x3x128) (k0_off5 k) S1x1x128.size (k0_off5_inb i k h1)).toLoadRect (harg6.unread x4))⟩,
         ⟨Rect.unit (k0_off4 k) S1x1x16x128.size (k0_off4_inb i k h1), k0_pay6 (arg6.view.readAt (Elt Ideal) (Rect.unit (s := S32x3x128) (k0_off3 k) S1x1x128.size (k0_off3_inb i k h1)).toLoadRect (harg6.unread x4))⟩,
         ⟨Rect.unit (k0_off2 k) S1x1x16x128.size (k0_off2_inb i k h1), k0_pay5 (arg6.view.readAt (Elt Ideal) (Rect.unit (s := S32x3x128) (k0_off1 k) S1x1x128.size (k0_off1_inb i k h1)).toLoadRect (harg6.unread x4))⟩] := by
    intro k
    unfold tripL_k0_t1 trip_k0_t1
    rfl
  funext y
  refine View.read_writes_apply_of_pieces arg9.view f (WB x4) _ ?_ y ?_
  · intro p hp
    obtain ⟨k, hk⟩ := (hm p).1 hp
    rw [ht, List.mem_cons, List.mem_cons, List.mem_singleton] at hk
    rcases hk with rfl | rfl | rfl
    · exact good_tap arg6 harg6 x4 k.val 2 (off6 k) (off5 k) _ _
    · exact good_tap arg6 harg6 x4 k.val 1 (off4 k) (off3 k) _ _
    · exact good_tap arg6 harg6 x4 k.val 0 (off2 k) (off1 k) _ _
  · idx_vars y
    have hk : y0.val < k0_t1_loop.trips := y0.isLt.trans_eq trips1.symm
    have hc : ∀ (t : ℕ) (off : Fin 4 → ℕ) (inb), off = ![y0.val, t, 0, 0] → y1.val = t →
        (ix4 y0 y1 y2 y3 : S32x3x16x128.Idx) ∈ (Rect.unit (s := S32x3x16x128) off S1x1x16x128.size inb).set := by
      intro t off inb ho ht
      subst ho ht
      refine mem_unit _ _ fun a => ?_
      have := y2.isLt
      have := y3.isLt
      fin_cases a
      · show y0.val ≤ y0.val ∧ y0.val < y0.val + 1; omega
      · show y1.val ≤ y1.val ∧ y1.val < y1.val + 1; omega
      · show 0 ≤ y2.val ∧ y2.val < 0 + 16; omega
      · show 0 ≤ y3.val ∧ y3.val < 0 + 128; omega
    have h3 := y1.isLt
    have h : y1.val = 2 ∨ y1.val = 1 ∨ y1.val = 0 := by omega
    have hq : ∃ p ∈ tripL_k0_t1 (F := Ideal) Variants.none c none i arg2 harg2 arg3 harg3 arg4 harg4 arg5 harg5 arg6 harg6 arg7 harg7 arg8 harg8 arg9 harg9 arg10 harg10 h1 (harg6.unread x4) ⟨y0.val, hk⟩,
        (ix4 y0 y1 y2 y3 : S32x3x16x128.Idx) ∈ p.1.set := by
      rw [ht]
      rcases h with h | h | h
      · exact ⟨_, List.mem_cons_self, hc 2 _ (k0_off6_inb i ⟨y0.val, hk⟩ h1) (off6 _) h⟩
      · exact ⟨_, List.mem_cons_of_mem _ List.mem_cons_self, hc 1 _ (k0_off4_inb i ⟨y0.val, hk⟩ h1) (off4 _) h⟩
      · exact ⟨_, List.mem_cons_of_mem _ (List.mem_cons_of_mem _ List.mem_cons_self), hc 0 _ (k0_off2_inb i ⟨y0.val, hk⟩ h1) (off2 _) h⟩
    obtain ⟨p, hp, hy⟩ := hq
    exact ⟨p, (hm p).2 ⟨_, hp⟩, hy⟩

/-! ## The tap sums -/

theorem good_sum {X8 : BufTy.Contents (Elt Ideal) arg8.view.ty} {X9 : BufTy.Contents (Elt Ideal) arg9.view.ty}
    (h8 : arg8.view.read (Elt Ideal) X8 = PK i x0 x1 x2) (h9 : arg9.view.read (Elt Ideal) X9 = WB x4)
    (k j : ℕ) (hk : k < 32) (hj : j < 2) {a b d u v w : Fin 4 → ℕ} {o : Fin 3 → ℕ} (ho : o = ![k, 128 * j, 0])
    (ha : a = ![k, 64 * j + 15 + 0, 0, 0]) (hb : b = ![k, 64 * j + 15 + 1, 0, 0]) (hd : d = ![k, 64 * j + 15 + 2, 0, 0])
    (hu : u = ![k, 0, 0, 0]) (hv : v = ![k, 1, 0, 0]) (hw : w = ![k, 2, 0, 0]) (inb ia ib id iu iv iw) :
    Good (CB i x0 x1 x2 x4) ⟨Rect.unit (s := S32x256x128) o S1x128x128.size inb,
      k0_pay212 (k0_pay3 (arg8.view.readAt (Elt Ideal) (Rect.unit (s := S32x160x2x128) a S1x64x2x128.size ia).toLoadRect X8)
          (arg9.view.readAt (Elt Ideal) (Rect.unit (s := S32x3x16x128) u S1x1x16x128.size iu).toLoadRect X9)
          (arg8.view.readAt (Elt Ideal) (Rect.unit (s := S32x160x2x128) b S1x64x2x128.size ib).toLoadRect X8)
          (arg9.view.readAt (Elt Ideal) (Rect.unit (s := S32x3x16x128) v S1x1x16x128.size iv).toLoadRect X9))
        (k0_pay4 (arg8.view.readAt (Elt Ideal) (Rect.unit (s := S32x160x2x128) d S1x64x2x128.size id).toLoadRect X8))
        (arg9.view.readAt (Elt Ideal) (Rect.unit (s := S32x3x16x128) w S1x1x16x128.size iw).toLoadRect X9)⟩ := by
  subst ho ha hb hd hu hv hw
  have hwt : ∀ (t : Fin 3) (iu) (r : Fin 16) (l : Fin 128),
      arg9.view.readAt (Elt Ideal) (Rect.unit (s := S32x3x16x128) ![k, t.val, 0, 0] S1x1x16x128.size iu).toLoadRect X9 (ix4 0 0 r l) = x4 (ix3 ⟨k, hk⟩ t l) := by
    intro t iu r l
    rw [View.readAt_apply, h9]
    refine congrArg x4 (funext fun a => Fin.ext ?_)
    fin_cases a
    · rfl
    · rfl
    · show 0 + 1 * l.val = l.val; omega
  have hx : ∀ (t : ℕ) (ia) (r l : Fin 128),
      arg8.view.readAt (Elt Ideal) (Rect.unit (s := S32x160x2x128) ![k, 64 * j + 15 + t, 0, 0] S1x64x2x128.size ia).toLoadRect X8 (ix4 0 (Fin.ofNat 64 (r.val / 2)) (Fin.ofNat 2 r.val) l)
        = row i x0 x1 x2 ((128 * j + 1 * r.val) / 2 + 128 * ((128 * j + 1 * r.val) % 2) + 15 + t) (lane ⟨k, hk⟩ l) := by
    intro t ia r l
    have := r.isLt
    rw [View.readAt_apply, h8]
    unfold PK
    rw [LoadRect.idx_apply, LoadRect.idx_apply]
    show row i x0 x1 x2 (64 * j + 15 + t + 1 * (r.val / 2 % 64) + 128 * (0 + 1 * (r.val % 2))) (lane _ _) = _
    have e : 64 * j + 15 + t + 1 * (r.val / 2 % 64) + 128 * (0 + 1 * (r.val % 2)) = (128 * j + 1 * r.val) / 2 + 128 * ((128 * j + 1 * r.val) % 2) + 15 + t := by omega
    rw [e]
    refine congrArg (row i x0 x1 x2 _) (Fin.ext ?_)
    show 128 * (k + 1 * 0) + (0 + 1 * l.val) = 128 * k + l.val
    omega
  intro y
  refine (pay_sum _ _ _ _ _ _ (fun l => x4 (ix3 ⟨k, hk⟩ 0 l)) (fun l => x4 (ix3 ⟨k, hk⟩ 1 l)) (fun l => x4 (ix3 ⟨k, hk⟩ 2 l)) (hwt 0 _) (hwt 1 _) (hwt 2 _) y).trans ?_
  change S1x128x128.Idx at y
  idx_vars y
  have hc := y0.isLt
  have he : (Rect.unit (s := S32x256x128) ![k, 128 * j, 0] S1x128x128.size inb).emb (ix3 y0 y1 y2)
      = ix3 ⟨k, hk⟩ ⟨128 * j + 1 * y1.val, by have := y1.isLt; omega⟩ y2 := by
    refine funext fun a => Fin.ext ?_
    rw [Rect.emb_apply]
    fin_cases a
    · show k + 1 * y0.val = k; omega
    · rfl
    · show 0 + 1 * y2.val = y2.val; omega
  refine Eq.trans ?_ (congrArg (CB i x0 x1 x2 x4) he).symm
  exact Ideal.add_congr (Ideal.add_congr (Ideal.mul_congr (hx 0 _ y1 y2) rfl) (Ideal.mul_congr (hx 1 _ y1 y2) rfl)) (Ideal.mul_congr (hx 2 _ y1 y2) rfl)

theorem read_sums (va : FVec Ideal S16x128 .bf16) (vb : FVec Ideal S1x16x128 .bf16)
    {X8 : BufTy.Contents (Elt Ideal) arg8.view.ty} {X9 : BufTy.Contents (Elt Ideal) arg9.view.ty}
    (h8 : arg8.view.read (Elt Ideal) X8 = PK i x0 x1 x2) (h9 : arg9.view.read (Elt Ideal) X9 = WB x4) (f : BufTy.Contents (Elt Ideal) arg10.view.ty) :
    arg10.view.read (Elt Ideal) (arg10.view.writes (Elt Ideal) f
      (pb_k0_t2 (F := Ideal) Variants.none c none i arg2 harg2 arg3 harg3 arg4 harg4 arg5 harg5 arg6 harg6 arg7 harg7 arg8 harg8 arg9 harg9 arg10 harg10 va vb X8 X9 (Scf.trips k0_t2_loop.lb k0_t2_loop.ub k0_t2_loop.st))) = CB i x0 x1 x2 x4 := by
  have hm2 := mem_pieces k0_t2_loop.trips (pb_k0_t2 (F := Ideal) Variants.none c none i arg2 harg2 arg3 harg3 arg4 harg4 arg5 harg5 arg6 harg6 arg7 harg7 arg8 harg8 arg9 harg9 arg10 harg10 va vb X8 X9) _ rfl
    (pb_k0_t2_succ Variants.none c none i arg2 harg2 arg3 harg3 arg4 harg4 arg5 harg5 arg6 harg6 arg7 harg7 arg8 harg8 arg9 harg9 arg10 harg10 va vb X8 X9)
  have ht2 : ∀ k : Fin k0_t2_loop.trips, ∃ w, tripL_k0_t2 (F := Ideal) Variants.none c none i arg2 harg2 arg3 harg3 arg4 harg4 arg5 harg5 arg6 harg6 arg7 harg7 arg8 harg8 arg9 harg9 arg10 harg10 va vb X8 X9 k
      = pb_k0_t3 (F := Ideal) Variants.none c none i arg2 harg2 arg3 harg3 arg4 harg4 arg5 harg5 arg6 harg6 arg7 harg7 arg8 harg8 arg9 harg9 arg10 harg10 va vb k w X8 X9 k0_t3_loop.trips := by
    intro k
    unfold tripL_k0_t2 trip_k0_t2
    exact ⟨_, rfl⟩
  have hm3 := fun k w => mem_pieces k0_t3_loop.trips (pb_k0_t3 (F := Ideal) Variants.none c none i arg2 harg2 arg3 harg3 arg4 harg4 arg5 harg5 arg6 harg6 arg7 harg7 arg8 harg8 arg9 harg9 arg10 harg10 va vb k w X8 X9) _ rfl
    (pb_k0_t3_succ Variants.none c none i arg2 harg2 arg3 harg3 arg4 harg4 arg5 harg5 arg6 harg6 arg7 harg7 arg8 harg8 arg9 harg9 arg10 harg10 va vb k w X8 X9)
  have ht3 : ∀ k w (j : Fin k0_t3_loop.trips), tripL_k0_t3 (F := Ideal) Variants.none c none i arg2 harg2 arg3 harg3 arg4 harg4 arg5 harg5 arg6 harg6 arg7 harg7 arg8 harg8 arg9 harg9 arg10 harg10 va vb k w X8 X9 j
      = [⟨Rect.unit (s := S32x256x128) (k0_off11 k j) S1x128x128.size (k0_off11_inb k j),
          k0_pay212 (k0_pay3 (arg8.view.readAt (Elt Ideal) (Rect.unit (s := S32x160x2x128) (k0_off7 k j 15#32) S1x64x2x128.size (k0_off7_inb k j 0)).toLoadRect X8)
              (arg9.view.readAt (Elt Ideal) (Rect.unit (s := S32x3x16x128) (k0_off8 k) S1x1x16x128.size (k0_off8_inb k)).toLoadRect X9)
              (arg8.view.readAt (Elt Ideal) (Rect.unit (s := S32x160x2x128) (k0_off7 k j 16#32) S1x64x2x128.size (k0_off7_inb k j 1)).toLoadRect X8)
              (arg9.view.readAt (Elt Ideal) (Rect.unit (s := S32x3x16x128) (k0_off9 k) S1x1x16x128.size (k0_off9_inb k)).toLoadRect X9))
            (k0_pay4 (arg8.view.readAt (Elt Ideal) (Rect.unit (s := S32x160x2x128) (k0_off7 k j 17#32) S1x64x2x128.size (k0_off7_inb k j 2)).toLoadRect X8))
            (arg9.view.readAt (Elt Ideal) (Rect.unit (s := S32x3x16x128) (k0_off10 k) S1x1x16x128.size (k0_off10_inb k)).toLoadRect X9)⟩] := by
    intro k w j
    unfold tripL_k0_t3 trip_k0_t3
    rfl
  funext y
  refine View.read_writes_apply_of_pieces arg10.view f (CB i x0 x1 x2 x4) _ ?_ y ?_
  · intro p hp
    obtain ⟨k, hk⟩ := (hm2 p).1 hp
    obtain ⟨w, hw⟩ := ht2 k
    rw [hw] at hk
    obtain ⟨j, hj⟩ := (hm3 k w p).1 hk
    rw [ht3, List.mem_singleton] at hj
    subst hj
    exact good_sum i arg8 arg9 x0 x1 x2 x4 h8 h9 k.val j.val (k.isLt.trans_eq trips2) (j.isLt.trans_eq trips3) (off11 k j)
      (off7 k j 0) (off7 k j 1) (off7 k j 2) (off8 k) (off9 k) (off10 k) _ _ _ _ _ _ _
  · idx_vars y
    have hj2 := y1.isLt
    have hk : y0.val < k0_t2_loop.trips := y0.isLt.trans_eq trips2.symm
    have hj : y1.val / 128 < k0_t3_loop.trips := by rw [trips3]; omega
    obtain ⟨w, hw⟩ := ht2 ⟨y0.val, hk⟩
    have hq : ∃ p ∈ tripL_k0_t3 (F := Ideal) Variants.none c none i arg2 harg2 arg3 harg3 arg4 harg4 arg5 harg5 arg6 harg6 arg7 harg7 arg8 harg8 arg9 harg9 arg10 harg10 va vb ⟨y0.val, hk⟩ w X8 X9 ⟨y1.val / 128, hj⟩,
        (ix3 y0 y1 y2 : S32x256x128.Idx) ∈ p.1.set := by
      rw [ht3]
      refine ⟨_, List.mem_singleton_self _, mem_unit (k0_off11_inb ⟨y0.val, hk⟩ ⟨y1.val / 128, hj⟩) _ fun a => ?_⟩
      rw [off11]
      have := y2.isLt
      fin_cases a
      · show y0.val ≤ y0.val ∧ y0.val < y0.val + 1; omega
      · show 128 * (y1.val / 128) ≤ y1.val ∧ y1.val < 128 * (y1.val / 128) + 128; omega
      · show 0 ≤ y2.val ∧ y2.val < 0 + 128; omega
    obtain ⟨p, hp, hy⟩ := hq
    exact ⟨p, (hm2 p).2 ⟨_, hw ▸ (hm3 _ w p).2 ⟨_, hp⟩⟩, hy⟩

end Cert.KernelIdeal.Conv

end
-- ==== Proof.Run.lean ====
module

public import proofs.«01_k».proof.Proof.LoopVals

/-! # The body's run at one point

On whole staging buffers holding the tile `x0`, the 16 rows before and after it, the gate `x3` and the taps `x4`, the
body leaves the gated tap sums in the output's buffer and the repeated taps in the tap buffer — which it fills at the first
point of the grid and finds filled at every later one. -/

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

local notation "𝕄" => MT nD τ sig Unit (Elt Ideal) ℕ (UR sig nD τ) ℕ

/-- Pieces that hold `G` and cover a view, read back, are `G`. -/
theorem read_good {κ : Kind} {sp : Space} {s : Shape} {e : EltTy} (v : View sig κ sp s e) (G : s.Idx → Elt Ideal e) (f : BufTy.Contents (Elt Ideal) v.ty)
    (L : List (View.Piece (Elt Ideal) s e)) (hG : ∀ p ∈ L, Good G p) (g : Fin s.rank → ℕ) (hc : View.Piece.tiledBy L g = true) :
    v.read (Elt Ideal) (v.writes (Elt Ideal) f L) = G :=
  funext fun y => View.read_writes_apply_of_pieces v f G L hG y (View.cover_of_tiledBy L g hc y)

variable (c : Dev nD) (i : grid0.Coords) (arg2 : Memref sig .tc .vmem S1x256x4096 .bf16) (harg2 : arg2.IsWhole) (arg3 : Memref sig .tc .vmem S1x16x4096 .bf16) (harg3 : arg3.IsWhole) (arg4 : Memref sig .tc .vmem S1x16x4096 .bf16) (harg4 : arg4.IsWhole) (arg5 : Memref sig .tc .vmem S1x256x4096 .bf16) (harg5 : arg5.IsWhole) (arg6 : Memref sig .tc .vmem S32x3x128 .f32) (harg6 : arg6.IsWhole) (arg7 : Memref sig .tc .vmem S1x256x4096 .bf16) (harg7 : arg7.IsWhole) (arg8 : Memref sig .tc .vmem S32x160x2x128 .bf16) (harg8 : arg8.IsWhole) (arg9 : Memref sig .tc .vmem S32x3x16x128 .bf16) (harg9 : arg9.IsWhole) (arg10 : Memref sig .tc .vmem S32x256x128 .f32) (harg10 : arg10.IsWhole)
  (x0 : Vec Ideal S1x256x4096 .bf16) (x1 x2 : Vec Ideal S1x16x4096 .bf16) (x3 : Vec Ideal S1x256x4096 .bf16) (x4 : Vec Ideal S32x3x128 .f32)

set_option maxHeartbeats 8000000 in
/-- The body's run: at the first point (`k0_cond1`) the tap buffer is filled, at a later one it is found filled. -/
theorem run (d1 : Vec Ideal S32x3x16x128 .bf16) (hd : ¬ k0_cond1 i = 1#1 → d1 = WB x4) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ owns (c : Thread nD τ) arg9 fullShare d1 ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (OUT i x0 x1 x2 x3 x4) ∗ (∃ d, owns (c : Thread nD τ) arg8 fullShare d) ∗ owns (c : Thread nD τ) arg9 fullShare (WB x4) ∗ (∃ d, owns (c : Thread nD τ) arg10 fullShare d)) -∗ K ⟨⟩))
      ⊢ wp frame (wpE (defs₀ (F := Ideal)) Variants.none c none) E (cc0_short_conv i arg2 harg2 arg3 harg3 arg4 harg4 arg5 harg5 arg6 harg6 arg7 harg7 arg8 harg8 arg9 harg9 arg10 harg10) K := by
  simp only [cc0_short_conv_eq_skeleton]; unfold cc0_short_conv_skel
  simp only [k0_part68_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%fs1, %hfs1, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4
  by_cases hc0 : k0_cond1 i = 1#1
  all_goals
   sl_exec (disch := first | sl_exact hc0)
   sl_step
   iapply Hk
   isplitl [H0]
   · iexists _; isplitr; · ipureintro; exact harg2.read_unread _
     iexact H0
   isplitl [H1]
   · iexists _; isplitr; · ipureintro; exact harg3.read_unread _
     iexact H1
   isplitl [H2]
   · iexists _; isplitr; · ipureintro; exact harg4.read_unread _
     iexact H2
   isplitl [H3]
   · iexists _; isplitr; · ipureintro; exact harg5.read_unread _
     iexact H3
   isplitl [H4]
   · iexists _; isplitr; · ipureintro; exact harg6.read_unread _
     iexact H4
   isplitl [H5]
   · iexists _; isplitr; swap; · iexact H5
     ipureintro
     have h8 : arg8.view.read (Elt Ideal) (arg8.view.writes (Elt Ideal) arg8.view.junk (run.sl.HS0_96 c i arg2 harg2 arg3 harg3 arg4 harg4 x0 x1 x2)) = PK i x0 x1 x2 := by
       refine read_good _ _ _ _ ?_ ![1, 16, 2, 128] (by sl_kernel_rfl)
       unfold run.sl.HS0_96
       iterate 32
         refine List.forall_mem_cons.2 ⟨good_hi _ _ _ _ _ _ _ _ _ _ _ _, List.forall_mem_cons.2 ⟨good_mid _ _ _ _ _ _ _ _ _ _, List.forall_mem_cons.2 ⟨good_lo _ _ _ _ _ _ _ _ _ _ _ _, ?_⟩⟩⟩
       exact List.forall_mem_nil _
     first
     | have hC := fun va vb => read_sums c i arg2 harg2 arg3 harg3 arg4 harg4 arg5 harg5 arg6 harg6 arg7 harg7 arg8 harg8 arg9 harg9 arg10 harg10 x0 x1 x2 x4 va vb h8 (hfs1.trans (hd hc0)) fs2
     | have hC := fun va vb => read_sums c i arg2 harg2 arg3 harg3 arg4 harg4 arg5 harg5 arg6 harg6 arg7 harg7 arg8 harg8 arg9 harg9 arg10 harg10 x0 x1 x2 x4 va vb h8 (read_taps c i arg2 harg2 arg3 harg3 arg4 harg4 arg5 harg5 arg6 harg6 arg7 harg7 arg8 harg8 arg9 harg9 arg10 harg10 x4 hc0 fs1) fs2
     refine read_good _ _ _ _ ?_ ![1, 128, 128] (by sl_kernel_rfl)
     iterate 32
       refine List.forall_mem_cons.2 ⟨good_out _ _ _ _ _ _ _ _ _ 1 128 (by decide) rfl (hC _ _) _ _ _, List.forall_mem_cons.2 ⟨good_out _ _ _ _ _ _ _ _ _ 0 0 (by decide) rfl (hC _ _) _ _ _, ?_⟩⟩
     exact List.forall_mem_nil _
   isplitl [HS0]
   · iexists _, _; isplitr; swap; · iexact HS0
     ipureintro; rfl
   isplitl [HS1]
   · iexists _; isplitr; swap; · iexact HS1
     ipureintro
     first | exact hfs1.trans (hd hc0) | exact read_taps _ _ _ _ _ _ _ _ _ _ _ _ _ _ _ _ _ _ _ _ _ _ _
   iexists _, _; isplitr; swap; · iexact HS2
   ipureintro; rfl

end Cert.KernelIdeal.Conv

end
-- ==== Proof.Region.lean ====
module

public import proofs.«01_k».proof.Proof.Run
public import Idealize.ShloMosaic.Lib.Claim

/-! # The region's run

Every point of the grid leaves the gated tap sums of its tile in the output's buffer; between points the tap buffer keeps the
repeated taps (the taps are the same array at every point), and the two other buffers hold anything. -/

@[expose] public section

set_option maxRecDepth 16384

noncomputable section

namespace Cert.KernelIdeal.Conv

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The tap buffer is filled at the first point only. -/
theorem cond_first : ∀ t : Fin cfg0.N, k0_cond1 (grid0.coords t) = 1#1 ↔ t.val = 0 :=
  (by decide +kernel : ∀ t : Fin grid0.N, k0_cond1 (grid0.coords t) = 1#1 ↔ t.val = 0)

/-- The kernel's own buffers. -/
abbrev sc0 : Memref sig .tc .vmem S32x160x2x128 .bf16 := Memref.whole cc0_scratch0
abbrev sc1 : Memref sig .tc .vmem S32x3x16x128 .bf16 := Memref.whole cc0_scratch1
abbrev sc2 : Memref sig .tc .vmem S32x256x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The taps: every point reads the same block. -/
def tapBlk (c : Dev nD) : Vec Ideal S32x3x128 .f32 := iblk m c 4 ⟨0, by rw [show cfg0.N = 64 from N_0]; decide⟩

theorem iblk4 (c : Dev nD) (t : Fin cfg0.N) : iblk m c 4 t = tapBlk m c := rfl

/-- What the kernel's own buffers hold before point `n`. -/
def Phi (c : Dev nD) : ℕ → sProp 𝕄
  | 0 => Pipeline.ΦA spec0 c
  | _ + 1 => iprop(iprop((∃ d, owns (c : Thread nD τ) sc0 fullShare d) ∗ owns (c : Thread nD τ) sc1 fullShare (WB (tapBlk m c)) ∗ (∃ d, owns (c : Thread nD τ) sc2 fullShare d)) ∗ (∃ r, prngReg c r))

theorem Phi_open (c : Dev nD) (n : ℕ) : Phi m c n ⊢ iprop(iprop((∃ d, owns (c : Thread nD τ) sc0 fullShare d) ∗ (∃ d, ⌜¬ n = 0 → d = WB (tapBlk m c)⌝ ∗ owns (c : Thread nD τ) sc1 fullShare d) ∗ (∃ d, owns (c : Thread nD τ) sc2 fullShare d)) ∗ (∃ r, prngReg c r)) := by
  cases n with
  | zero =>
    unfold Phi; rw [PhiA_eq]
    iintro ⟨⟨HS0, ⟨%d, HS1⟩, HS2⟩, Hg⟩
    isplitl [HS0 HS1 HS2]
    · isplitl [HS0]; · iexact HS0
      isplitl [HS1]
      · iexists d; isplitr; · ipureintro; exact fun h => absurd rfl h
        iexact HS1
      iexact HS2
    iexact Hg
  | succ n =>
    unfold Phi
    iintro ⟨⟨HS0, HS1, HS2⟩, Hg⟩
    isplitl [HS0 HS1 HS2]
    · isplitl [HS0]; · iexact HS0
      isplitl [HS1]
      · iexists _; isplitr; swap; · iexact HS1
        ipureintro; exact fun _ => rfl
      iexact HS2
    iexact Hg

theorem Phi_out (c : Dev nD) (n : ℕ) : Phi m c n ⊢ Pipeline.ΦA spec0 c := by
  refine (Phi_open m c n).trans ?_
  rw [PhiA_eq]
  iintro ⟨⟨HS0, ⟨%d, -, HS1⟩, HS2⟩, Hg⟩
  isplitl [HS0 HS1 HS2]
  · isplitl [HS0]; · iexact HS0
    isplitl [HS1]; · iexists _; iexact HS1
    iexact HS2
  iexact Hg

/-- The tile the body leaves at point `t`. -/
def tile (c : Dev nD) (t : Fin cfg0.N) : Vec Ideal S1x256x4096 .bf16 :=
  OUT (grid0.coords t) (iblk m c 0 t) (iblk m c 1 t) (iblk m c 2 t) (iblk m c 3 t) (iblk m c 4 t)

/-- The region's data: the arrays as the region finds them, each input's buffer left at its block, the output's at `tile`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => tile m c t
  Φ t := Phi m c t.val
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = tile m c t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is given at point `t`, and what it gives back. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 3200000 in
theorem sound_body (c : Dev nD) (t : Fin cfg0.N) :
    pre m c t ⊢ wp frame (wpE (defs₀ (F := Ideal)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = Phi m c (t.val + 1) from rfl, show (dats m 0 c).Φ t.castSucc = Phi m c t.val from rfl]
  refine (sep_mono_left (Phi_open m c t.val)).trans ?_
  unfold Phi
  iintro ⟨⟨⟨HS0, ⟨%d1, %hd1, HS1⟩, HS2⟩, Hg⟩, Ho, ⟨%d0, H0⟩, ⟨%e1, H1⟩, ⟨%d2, H2⟩, ⟨%d3, H3⟩, ⟨%d4, H4⟩, ⟨%d5, H5⟩⟩
  iapply (run c (grid0.coords t) _ _ _ _ _ _ _ _ _ _ _ _ _ _ _ _ _ _ (iblk m c 0 t) (iblk m c 1 t) (iblk m c 2 t) (iblk m c 3 t) (iblk m c 4 t) d1
    (fun h => hd1 (fun h0 => h ((cond_first t).mpr h0))) Set.univ _)
  isplitl [H0]; · iexact H0
  isplitl [H1]; · iexact H1
  isplitl [H2]; · iexact H2
  isplitl [H3]; · iexact H3
  isplitl [H4]; · iexact H4
  isplitl [H5]; · iexists _; iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) : defs₀ (F := Ideal) .tc cfg0.body (cfg0.bodyArgs t (cfg0.slots t)) = bodyAt0 t := by
  unfold defs₀; rw [Defs.onTc_tc]

theorem body_obligation (c : Dev nD) : BodyObligation (dats m 0 c) (defs₀ (F := Ideal)) Variants.none () Set.univ := fun t => by
  rw [bigSep_W0, bigSep_W0, row_eq]
  exact triple_restated (sound_body m c t) rfl .rfl fun _ => .rfl

theorem hin (c : Dev nD) : Pipeline.ΦA spec0 c ⊢ (dats m 0 c).Φ 0 := by
  rw [show (dats m 0 c).Φ 0 = Phi m c 0 from rfl]
  exact .rfl

theorem hout (c : Dev nD) : (dats m 0 c).Φ (Fin.last cfg0.N) ⊢ Pipeline.ΦA spec0 c := by
  rw [show (dats m 0 c).Φ (Fin.last cfg0.N) = Phi m c cfg0.N from rfl]
  exact Phi_out m c _

set_option backward.isDefEq.respectTransparency.types false in
set_option maxHeartbeats 800000 in
/-- The launch: every execution ends with the region's arrays at what the points wrote and every counter at zero. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The argument arrays end as launched and the counters at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Conv

end
-- ==== Proof.Value.lean ====
module

public import proofs.«01_k».proof.Proof.Region
public import proofs.«01_k».proof.Proof.Gen.ReferenceIdeal.Run
public import Idealize.ShloMosaic.Lib.Pipeline.ValueKit

/-! # The result array

Tile row `r` of tile `s` is row `256 s + r` of the sample, and the 16-row windows before and after the tile are the rows
that precede and follow it, so the padded rows of a tile are the rows of the padded sample, and the result is the gated
three-tap sum of the padded sample. -/

@[expose] public section

set_option maxRecDepth 16384

noncomputable section

namespace Cert.KernelIdeal.Conv

open Idealize.ShloMosaic Idealize.ShloMosaic.TcCoe Idealize.SL.Sem
open Idealize.ShloMosaic.Pipeline (Dat)
open Cert.KernelIdeal Cert.KernelIdeal.Gen

/-- Row `p` of a sample padded by one zero row at each end. -/
def padRow (X : FVec Ideal S4x4096x4096 .bf16) (b : Fin 4) (p : ℕ) (q : Fin 4096) : EReal :=
  if 1 ≤ p ∧ p ≤ 4096 then X (ix3 b (Fin.ofNat 4096 (p - 1)) q) else 0

/-- The gated three-tap sum. -/
def conv (X G : FVec Ideal S4x4096x4096 .bf16) (w : FVec Ideal S1x3x4096 .f32) : FVec Ideal S4x4096x4096 .bf16 :=
  fun y => (padRow X (y 0) (y 1).val (y 2) * w (ix3 0 0 (y 2)) + padRow X (y 0) ((y 1).val + 1) (y 2) * w (ix3 0 1 (y 2))
    + padRow X (y 0) ((y 1).val + 2) (y 2) * w (ix3 0 2 (y 2))) * (show EReal from G y)

variable (m : (ℓ : Loc nD τ sig) → Buf (Elt Ideal) ℓ)

theorem idx : ∀ t : Fin cfg0.N, win0_0.index t = ![t.val / 16, t.val % 16, 0]
    ∧ win0_1.index t = ![t.val / 16, 16 * (t.val % 16) - 1, 0]
    ∧ win0_2.index t = ![t.val / 16, if t.val % 16 = 15 then 255 else 16 * (t.val % 16) + 16, 0]
    ∧ win0_3.index t = ![t.val / 16, t.val % 16, 0] ∧ win0_4.index t = ![0, 0, 0]
    ∧ win0_5.index t = ![t.val / 16, t.val % 16, 0] ∧ (grid0.coords t 1).val = t.val % 16 ∧ t.val / 16 < 4 :=
  (by decide +kernel : ∀ t : Fin grid0.N, _)

/-- The three arrays the region reads, from the arguments. -/
abbrev XA (c : Dev nD) : FVec Ideal S4x4096x4096 .bf16 := V m c main_v1
abbrev GA (c : Dev nD) : FVec Ideal S4x4096x4096 .bf16 := V m c main_v2

theorem row_pad (c : Dev nD) (t : Fin cfg0.N) (b : Fin 4) (hb : b.val = t.val / 16) (p : ℕ) (q : Fin 4096) (h15 : 15 ≤ p) (h272 : p ≤ 272) :
    row (grid0.coords t) (iblk m c 0 t) (iblk m c 1 t) (iblk m c 2 t) p q = padRow (XA m c) b (256 * (t.val % 16) + p - 15) q := by
  obtain ⟨e0, e1, e2, e3, e4, e5, ec, e6⟩ := idx t
  unfold row padRow
  rw [ec]
  split_ifs
  all_goals try (exfalso; omega)
  · obtain rfl : p = 15 := by omega
    blk_ext [iblk, e1]
    simp only [Fin.ofNat]; omega
  · rfl
  · blk_ext [iblk, e0]
    simp only [Fin.ofNat]; omega
  · rw [if_neg (by omega)] at e2
    blk_ext [iblk, e2]
    simp only [Fin.ofNat]; omega
  · rfl

theorem v4_eq (c : Dev nD) : V m c main_v4 = transpose S32x3x128 [1, 0, 2] (shapeCast S3x32x128 (shapeCast S3x4096
    (m ((c : Thread nD τ).loc main_arg2) : FVec Ideal S1x3x4096 .f32) shapeCasts_S1x3x4096_S3x4096) shapeCasts_S3x4096_S3x32x128) transposes_S3x32x128_S32x3x128_1_0_2 := by
  show StableHlo.after (List.flatten [hostOps0]) _ _ = _
  simp only [hostOps0, List.flatten_cons, List.flatten_nil, List.append_nil, List.cons_append, List.nil_append]
  after_results
  rfl

theorem taps_read (w : FVec Ideal S1x3x4096 .f32) (k : Fin 32) (j : Fin 3) (l : Fin 128) :
    transpose S32x3x128 [1, 0, 2] (shapeCast S3x32x128 (shapeCast S3x4096 w shapeCasts_S1x3x4096_S3x4096)
      shapeCasts_S3x4096_S3x32x128) transposes_S3x32x128_S32x3x128_1_0_2 (ix3 k j l) = w (ix3 0 j (lane k l)) := by
  pointwise
  rw [show lane k l = ⟨k.val * 128 + l.val, by have := k.isLt; have := l.isLt; omega⟩ from
    Fin.ext (by simp only [lane]; omega)]

theorem tap_eq (c : Dev nD) (k : Fin 32) (j : Fin 3) (l : Fin 128) :
    tapBlk m c (ix3 k j l) = (m ((c : Thread nD τ).loc main_arg2) : FVec Ideal S1x3x4096 .f32) (ix3 0 j (lane k l)) := by
  have h : tapBlk m c (ix3 k j l) = V m c main_v4 (ix3 k j l) := by
    unfold tapBlk
    blk_ext [iblk]
    all_goals (show 0 * _ + _ = _; omega)
  rw [h, v4_eq, taps_read]

theorem point (c : Dev nD) (t : Fin cfg0.N) (y : S1x256x4096.Idx) :
    tile m c t y = conv (XA m c) (GA m c) (m ((c : Thread nD τ).loc main_arg2)) (((cfg0.win 5).blk t).view.emb y) := by
  unfold tile OUT conv taps
  rw [iblk4]
  simp only [tap_eq]
  have hl : lane (Fin.ofNat 32 ((y 2).val / 128)) (Fin.ofNat 128 (y 2).val) = y 2 := by
    apply Fin.ext; have : (y 2).val < 4096 := (y 2).isLt; simp only [lane, Fin.ofNat]; omega
  have h1 : (y 1).val < 256 := (y 1).isLt
  have e1 (b : Fin 4) (hb : b.val = t.val / 16) := row_pad m c t b hb ((y 1).val + 15) (y 2) (by omega) (by omega)
  have e2 (b : Fin 4) (hb : b.val = t.val / 16) := row_pad m c t b hb ((y 1).val + 15 + 1) (y 2) (by omega) (by omega)
  have e3 (b : Fin 4) (hb : b.val = t.val / 16) := row_pad m c t b hb ((y 1).val + 15 + 2) (y 2) (by omega) (by omega)
  obtain ⟨i0, i1, i2, i3, i4, i5, ec, e6⟩ := idx t
  have b0 : (((cfg0.win 5).blk t).view.emb y 0).val = t.val / 16 := by blk_simp [idx t]
  have b1 : (((cfg0.win 5).blk t).view.emb y 1).val = 256 * (t.val % 16) + (y 1).val := by blk_simp [idx t]; omega
  have b2 : ((cfg0.win 5).blk t).view.emb y 2 = y 2 := by apply Fin.ext; blk_simp [idx t]
  have bg : iblk m c 3 t y = GA m c (((cfg0.win 5).blk t).view.emb y) := by blk_ext [iblk, idx t]
  rw [hl, b2, e1 _ b0, e2 _ b0, e3 _ b0, bg, b1]
  rw [show 256 * (t.val % 16) + ((y 1).val + 15) - 15 = 256 * (t.val % 16) + (y 1).val by omega,
    show 256 * (t.val % 16) + ((y 1).val + 15 + 1) - 15 = 256 * (t.val % 16) + (y 1).val + 1 by omega,
    show 256 * (t.val % 16) + ((y 1).val + 15 + 2) - 15 = 256 * (t.val % 16) + (y 1).val + 2 by omega]

theorem final (c : Dev nD) : (dats m 0 c).arrAt 5 (cfgs 0).N = conv (XA m c) (GA m c) (m ((c : Thread nD τ).loc main_arg2)) := by
  refine (dats m 0 c).arrAt_eq_of_covers 5 _ (by decide +kernel) fun t _ y => ?_
  blk_simp
  rw [after_5]
  exact point m c t y

end Cert.KernelIdeal.Conv

end
-- ==== Proof.Reference.lean ====
module

public import proofs.«01_k».proof.Proof.Value
public import Idealize.ShloMosaic.Lib.KernelVsHost

/-! # The reference's operations at an index

A window of the padded sample is the padded sample's row, shifted; a tap is its 4096 lanes over every row. -/

@[expose] public section

set_option maxRecDepth 16384

noncomputable section

namespace Cert.ReferenceIdeal.Conv

open Idealize.ShloMosaic Idealize.ShloMosaic.TcCoe
open Cert.ReferenceIdeal Cert.ReferenceIdeal.Gen
open Cert.KernelIdeal.Conv (padRow conv)

/-- The padded sample at a row and a lane. -/
theorem pad_at (X : FVec Ideal S4x4096x4096 .bf16) (b : Fin 4) (p : Fin 4098) (q : Fin 4096) :
    pad S4x4098x4096 ![0, 1, 0] ![0, 1, 0] ![0, 0, 0] (X : FVec Ideal S4x4096x4096 .f32) (sitofp (F := Ideal) .f32 (constantI S_ 32 0#32))
      pads_S4x4096x4096_S4x4098x4096_000_110_000 h_S_ (ix3 b p q) = padRow X b p.val q := by
  have hp := p.isLt
  have hb := b.isLt
  have hq := q.isLt
  unfold padRow
  split_ifs with h
  · refine pad_apply_of_inside _ _ _ _ _ _ _ _ (ix3 b (Fin.ofNat 4096 (p.val - 1)) q) fun a => ?_
    match a with
    | ⟨0, _⟩ => show b.val = 0 + b.val * 1; omega
    | ⟨1, _⟩ => show p.val = 1 + (p.val - 1) % 4096 * 1; omega
    | ⟨2, _⟩ => show q.val = 0 + q.val * 1; omega
  · rw [pad_apply_of_not_inside _ _ _ _ _ _ _ _ (1 : Fin 3) fun h' => h (by
      have h1 : 1 ≤ p.val := h'.1
      have h2 : (p.val - 1) / 1 < 4096 := h'.2.2
      omega)]
    show ((((0#32 : BitVec 32).toInt : ℝ)) : EReal) = 0
    simp

/-- A window of the padded sample. -/
theorem window_at (X : FVec Ideal S4x4096x4096 .bf16) (o : ℕ) (ho : o ≤ 2) (h : S4x4098x4096.Slices ![0, o, 0] S4x4096x4096)
    (b : Fin 4) (r q : Fin 4096) :
    extractStridedSlice S4x4096x4096 ![0, o, 0] (pad S4x4098x4096 ![0, 1, 0] ![0, 1, 0] ![0, 0, 0] (X : FVec Ideal S4x4096x4096 .f32)
      (sitofp (F := Ideal) .f32 (constantI S_ 32 0#32)) pads_S4x4096x4096_S4x4098x4096_000_110_000 h_S_) h (ix3 b r q)
      = padRow X b (r.val + o) q := by
  exact (extractStridedSlice_apply _ _ h (ix3 b r q) (ix3 b (⟨r.val + o, by have := r.isLt; omega⟩ : Fin 4098) q) fun a => by
    match a with
    | ⟨0, _⟩ => show b.val = 0 + b.val; omega
    | ⟨1, _⟩ => show r.val + o = o + r.val; omega
    | ⟨2, _⟩ => show q.val = 0 + q.val; omega).trans (pad_at X b _ q)

/-- A tap over every row. -/
theorem tap_at (w : FVec Ideal S1x3x4096 .f32) (k : Fin 3) (h : S3x4096.Slices ![k.val, 0] S1x4096) (b : Fin 4) (r q : Fin 4096) :
    broadcastInDim S4x4096x4096 ![0, 1, 2] bcast_S1x1x4096_S4x4096x4096_0_1_2 (broadcastInDim S1x1x4096 ![2] bcast_S4096_S1x1x4096_2
      (shapeCast S4096 (extractStridedSlice S1x4096 ![k.val, 0] (shapeCast S3x4096 w shapeCasts_S1x3x4096_S3x4096) h)
        shapeCasts_S1x4096_S4096)) (ix3 b r q) = w (ix3 0 k q) := by
  pointwise

/-- The gated sum of the windows times the taps, from the windows' and the taps' elements. -/
theorem gated_sum (P0 P1 P2 W0 W1 W2 : FVec Ideal S4x4096x4096 .f32) (X G : FVec Ideal S4x4096x4096 .bf16) (w : FVec Ideal S1x3x4096 .f32)
    (p0 : ∀ b r q, P0 (ix3 b r q) = padRow X b (r.val + 0) q) (p1 : ∀ b r q, P1 (ix3 b r q) = padRow X b (r.val + 1) q)
    (p2 : ∀ b r q, P2 (ix3 b r q) = padRow X b (r.val + 2) q) (w0 : ∀ b r q, W0 (ix3 b r q) = w (ix3 0 0 q))
    (w1 : ∀ b r q, W1 (ix3 b r q) = w (ix3 0 1 q)) (w2 : ∀ b r q, W2 (ix3 b r q) = w (ix3 0 2 q)) :
    (mulf (addf (addf (mulf P0 W0) (mulf P1 W1)) (mulf P2 W2)) (G : FVec Ideal S4x4096x4096 .f32) : FVec Ideal S4x4096x4096 .f32)
      = conv X G w := by
  funext y
  obtain ⟨b, r, q, rfl⟩ : ∃ (b : Fin 4) (r q : Fin 4096), y = ix3 b r q :=
    ⟨y 0, y 1, y 2, funext fun a => by match a with | ⟨0, _⟩ => rfl | ⟨1, _⟩ => rfl | ⟨2, _⟩ => rfl⟩
  show (P0 (ix3 b r q) * W0 (ix3 b r q) + P1 (ix3 b r q) * W1 (ix3 b r q) + P2 (ix3 b r q) * W2 (ix3 b r q))
    * (show EReal from G (ix3 b r q)) = _
  rw [p0, p1, p2, w0, w1, w2]
  rfl

end Cert.ReferenceIdeal.Conv

end
-- ==== Proof.Result.lean ====
module

public import proofs.«01_k».proof.Proof.Reference
public import proofs.«01_k».proof.Defs

/-! # The result of the launch

After the launch the host lays the four samples out one after the other again, so the result is the convolution of the
arguments' rows, and that is what the reference computes. -/

@[expose] public section

set_option maxRecDepth 16384

noncomputable section

namespace Cert.KernelIdeal.Conv

open Idealize.ShloMosaic Idealize.ShloMosaic.TcCoe Idealize.SL.Sem
open Idealize.ShloMosaic.Pipeline (Dat)
open Cert.KernelIdeal Cert.KernelIdeal.Gen
open Cert.ReferenceIdeal.Conv (gated_sum window_at tap_at)

/-- The result, from the arguments. -/
def mixed (x g : FVec Ideal S16384x4096 .bf16) (w : FVec Ideal S1x3x4096 .f32) : FVec Ideal S16384x4096 .bf16 :=
  shapeCast S16384x4096 (conv (shapeCast S4x4096x4096 x shapeCasts_S16384x4096_S4x4096x4096)
    (shapeCast S4x4096x4096 g shapeCasts_S16384x4096_S4x4096x4096) w) shapeCasts_S4x4096x4096_S16384x4096

variable (m : (ℓ : Loc nD τ sig) → Buf (Elt Ideal) ℓ) (ρ : Dev nD → PrngReg)

theorem XA_eq (c : Dev nD) : XA m c = shapeCast S4x4096x4096 (m ((c : Thread nD τ).loc main_arg0) : FVec Ideal S16384x4096 .bf16)
    shapeCasts_S16384x4096_S4x4096x4096 := by
  show StableHlo.after (List.flatten [hostOps0]) _ _ = _
  simp only [hostOps0, List.flatten_cons, List.flatten_nil, List.append_nil, List.cons_append, List.nil_append]
  after_results
  rfl

theorem GA_eq (c : Dev nD) : GA m c = shapeCast S4x4096x4096 (m ((c : Thread nD τ).loc main_arg1) : FVec Ideal S16384x4096 .bf16)
    shapeCasts_S16384x4096_S4x4096x4096 := by
  show StableHlo.after (List.flatten [hostOps0]) _ _ = _
  simp only [hostOps0, List.flatten_cons, List.flatten_nil, List.append_nil, List.cons_append, List.nil_append]
  after_results
  rfl

theorem tail_eq (c : Dev nD) : Pipeline.afterTail₀ cfgs (dats m) 0 (V0 m) [hostOps1] c main_v6
    = mixed (m ((c : Thread nD τ).loc main_arg0)) (m ((c : Thread nD τ).loc main_arg1)) (m ((c : Thread nD τ).loc main_arg2)) := by
  unfold Pipeline.afterTail₀
  simp only [hostOps1, List.flatten_cons, List.flatten_nil, List.append_nil, List.cons_append, List.nil_append]
  after_region_results
  rw [show Pipeline.withArrays (cfgs 0).spec c (V0 m c) (fun w => (dats m 0 c).arrAt w (cfgs 0).N) (Proc.tc.devRef main_v5)
    = (dats m 0 c).arrAt 5 (cfgs 0).N from (dats m 0 c).withArrays_arrAt sharedIn0 (V0 m c) (A_eq m c) 5, final, XA_eq, GA_eq]
  rfl

/-- Every execution ends with the result at the convolution of the arguments and the arguments as launched. -/
theorem result : θ_run defs (onTc (τ := τ) (main (F := Ideal))) ⟨m, fun _ => 0, ρ⟩ (fun r => ∀ c : Dev nD,
      r.2.mem ((c.tc : Thread nD τ).loc main_v6)
        = mixed (m ((c : Thread nD τ).loc main_arg0)) (m ((c : Thread nD τ).loc main_arg1)) (m ((c : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun r h c => ⟨((h.1.1 c).2 main_v6 (by decide)).trans (tail_eq m c), h.2.1 c⟩)
    (θ_run_and (run_main m ρ) (frame m ρ))

/-- Kernel and reference, of the same arguments, end with the same result. -/
theorem algebraic [hR : Cert.ReferenceIdeal.Facts] : Cert.algebraic_KernelIdeal_ReferenceIdeal := by
  intro m g m' g' _ ag
  refine ⟨fun c => mixed (m ((c : Thread nD τ).loc main_arg0)) (m ((c : Thread nD τ).loc main_arg1)) (m ((c : Thread nD τ).loc main_arg2)),
    result m g, (θ_run Cert.ReferenceIdeal.defs _ _).mono (fun r h c => ⟨?_, (h c).2⟩) (Cert.ReferenceIdeal.Value.run (F := Ideal) m' g')⟩
  refine (h c).1.trans ?_
  rw [(ag c).1, (ag c).2.1, (ag c).2.2]
  exact congrArg (fun z : FVec Ideal S4x4096x4096 .f32 => shapeCast S16384x4096 z shapeCasts_S4x4096x4096_S16384x4096)
    (gated_sum _ _ _ _ _ _ _ _ (m ((c : Thread nD τ).loc main_arg2)) (window_at _ 0 (by decide) _) (window_at _ 1 (by decide) _)
      (window_at _ 2 (by decide) _) (tap_at _ 0 _) (tap_at _ 1 _) (tap_at _ 2 _))

end Cert.KernelIdeal.Conv

end
-- ==== Proof.Whole.lean ====
module

public import proofs.«01_k».proof.Proof.Gen.Kernel.Launch
public import proofs.«01_k».proof.Proof.Gen.Kernel.Loops
public import proofs.«01_k».proof.Proof.Gen.Kernel.Skeleton
public import proofs.«01_k».proof.Proof.Gen.Kernel.Points
public import proofs.«01_k».proof.Proof.Gen.Kernel.Frame
public import Idealize.ShloMosaic.Lib.Claim

/-! # The bit-level kernel's run

At any floating-point values the kernel runs to its end, leaves its argument arrays as launched and every counter at zero.
Nothing is stated of what it stores: the output's buffer and the kernel's own three buffers hold anything between points. -/

@[expose] public section

set_option maxRecDepth 16384

noncomputable section

namespace Cert.Kernel.Whole

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [BitOps F]

local notation "𝕄" => MT nD τ sig Unit (Elt F) ℕ (UR sig nD τ) ℕ

set_option maxHeartbeats 8000000 in
/-- The body's run at one point: the inputs' buffers are given back as they were, the others at some contents. -/
theorem body_run (c : Dev nD) (i : grid0.Coords) (arg2 : Memref sig .tc .vmem S1x256x4096 .bf16) (harg2 : arg2.IsWhole) (arg3 : Memref sig .tc .vmem S1x16x4096 .bf16) (harg3 : arg3.IsWhole) (arg4 : Memref sig .tc .vmem S1x16x4096 .bf16) (harg4 : arg4.IsWhole) (arg5 : Memref sig .tc .vmem S1x256x4096 .bf16) (harg5 : arg5.IsWhole) (arg6 : Memref sig .tc .vmem S32x3x128 .f32) (harg6 : arg6.IsWhole) (arg7 : Memref sig .tc .vmem S1x256x4096 .bf16) (harg7 : arg7.IsWhole) (arg8 : Memref sig .tc .vmem S32x160x128 .i32) (harg8 : arg8.IsWhole) (arg9 : Memref sig .tc .vmem S32x3x16x128 .bf16) (harg9 : arg9.IsWhole) (arg10 : Memref sig .tc .vmem S32x256x128 .f32) (harg10 : arg10.IsWhole)
    (x0 : Vec F S1x256x4096 .bf16) (x1 x2 : Vec F S1x16x4096 .bf16) (x3 : Vec F S1x256x4096 .bf16) (x4 : Vec F S32x3x128 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_short_conv i arg2 harg2 arg3 harg3 arg4 harg4 arg5 harg5 arg6 harg6 arg7 harg7 arg8 harg8 arg9 harg9 arg10 harg10) K := by
  simp only [cc0_short_conv_eq_skeleton]; unfold cc0_short_conv_skel
  simp only [k0_part58_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton]
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%ds0, %fs0, -, HS0⟩, ⟨%ds1, %fs1, -, HS1⟩, ⟨%ds2, %fs2, -, HS2⟩, Hk⟩
  obtain rfl := harg2.eq_unread hf0; obtain rfl := harg3.eq_unread hf1; obtain rfl := harg4.eq_unread hf2; obtain rfl := harg5.eq_unread hf3; obtain rfl := harg6.eq_unread hf4
  by_cases hc0 : k0_cond1 i = 1#1
  all_goals
   sl_exec (disch := first | sl_exact hc0)
   sl_step
   iapply Hk
   isplitl [H0]
   · iexists _; isplitr; · ipureintro; exact harg2.read_unread _
     iexact H0
   isplitl [H1]
   · iexists _; isplitr; · ipureintro; exact harg3.read_unread _
     iexact H1
   isplitl [H2]
   · iexists _; isplitr; · ipureintro; exact harg4.read_unread _
     iexact H2
   isplitl [H3]
   · iexists _; isplitr; · ipureintro; exact harg5.read_unread _
     iexact H3
   isplitl [H4]
   · iexists _; isplitr; · ipureintro; exact harg6.read_unread _
     iexact H4
   isplitl [H5]
   · iexists _, _; isplitr; swap; · iexact H5
     ipureintro; rfl
   isplitl [HS0]
   · iexists _, _; isplitr; swap; · iexact HS0
     ipureintro; rfl
   isplitl [HS1]
   · iexists _, _; isplitr; swap; · iexact HS1
     ipureintro; rfl
   iexists _, _; isplitr; swap; · iexact HS2
   ipureintro; rfl

variable (m : (ℓ : Loc nD τ sig) → Buf (Elt F) ℓ) (ρ : Dev nD → PrngReg)

/-- The kernel's own buffers. -/
abbrev sc0 : Memref sig .tc .vmem S32x160x128 .i32 := Memref.whole cc0_scratch0
abbrev sc1 : Memref sig .tc .vmem S32x3x16x128 .bf16 := Memref.whole cc0_scratch1
abbrev sc2 : Memref sig .tc .vmem S32x256x128 .f32 := Memref.whole cc0_scratch2

theorem PhiA_eq (c : Dev nD) :
    (Pipeline.ΦA spec0 c : sProp 𝕄)
      = iprop(iprop((∃ d, owns (c : Thread nD τ) sc0 fullShare d) ∗ (∃ d, owns (c : Thread nD τ) sc1 fullShare d) ∗ (∃ d, owns (c : Thread nD τ) sc2 fullShare d)) ∗ (∃ r, prngReg c r)) := by
  unfold Pipeline.ΦA; rw [scopedRest0_eq]; simp only [sc0, sc1, sc2, owns_whole]; try rfl

/-- The output's window is the one nothing is stated of. -/
def unstated : Fin 6 → Bool := fun w => w.val == 5

/-- The buffers the lines after the region write. -/
def late : Finset (Ref sig .tc) := {main_v6}

theorem late_writes : ∀ ops ∈ ([hostOps1] : List (List (HloOp τ sig (Elt F)))), ∀ op ∈ ops,
    ∀ b : Ref sig .tc, Proc.devRef .tc b ∈ op.writes → b ∈ late := by
  intro ops hops op hop b hb
  simp only [List.mem_singleton] at hops
  subst hops
  simp only [hostOps1, List.mem_singleton] at hop
  subst hop
  simp only [StableHlo.reshape_writes, Finset.mem_singleton] at hb
  cases Proc.devRef_injective _ hb
  decide

/-- The region's data: the arrays as the region finds them, each input's buffer left at its block, the output's unnamed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]

theorem before_0 (c : Dev nD) (t : Fin cfg0.N) (d) : (dats m 0 c).before 0 t d = iblk m c 0 t := before0_0_of m (dats m 0 c) (A_eq m c 0) (after_0 m c) t d
theorem before_1 (c : Dev nD) (t : Fin cfg0.N) (d) : (dats m 0 c).before 1 t d = iblk m c 1 t := before0_1_of m (dats m 0 c) (A_eq m c 1) (after_1 m c) t d
theorem before_2 (c : Dev nD) (t : Fin cfg0.N) (d) : (dats m 0 c).before 2 t d = iblk m c 2 t := before0_2_of m (dats m 0 c) (A_eq m c 2) (after_2 m c) t d
theorem before_3 (c : Dev nD) (t : Fin cfg0.N) (d) : (dats m 0 c).before 3 t d = iblk m c 3 t := before0_3_of m (dats m 0 c) (A_eq m c 3) (after_3 m c) t d
theorem before_4 (c : Dev nD) (t : Fin cfg0.N) (d) : (dats m 0 c).before 4 t d = iblk m c 4 t := before0_4_of m (dats m 0 c) (A_eq m c 4) (after_4 m c) t d

/-- What the body is given at point `t`, and what it gives back. -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d))

def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ d, owns (c : Thread nD τ) (st0_5 t) fullShare d))

set_option maxHeartbeats 3200000 in
theorem sound_body (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3, before_4]
  rw [show (dats m 0 c).owesAt () t.succ = (dats m 0 c).owesAt () t.castSucc from rfl,
    after_0, after_1, after_2, after_3, after_4]
  rw [show (dats m 0 c).Φ t.succ = Pipeline.ΦA spec0 c from rfl, show (dats m 0 c).Φ t.castSucc = Pipeline.ΦA spec0 c from rfl, PhiA_eq]
  iintro ⟨⟨⟨HS0, HS1, HS2⟩, Hg⟩, Ho, ⟨%d0, H0⟩, ⟨%d1, H1⟩, ⟨%d2, H2⟩, ⟨%d3, H3⟩, ⟨%d4, H4⟩, H5⟩
  iapply (body_run c (grid0.coords t) _ _ _ _ _ _ _ _ _ _ _ _ _ _ _ _ _ _ (iblk m c 0 t) (iblk m c 1 t) (iblk m c 2 t) (iblk m c 3 t) (iblk m c 4 t) Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  isplitl [HS2]; · iexact HS2
  iintro ⟨H0, H1, H2, H3, H4, H5, HS0, HS1, HS2⟩
  isplitl [HS0 HS1 HS2 Hg]
  · isplitl [HS0 HS1 HS2]
    · isplitl [HS0]; · iexact HS0
      isplitl [HS1]; · iexact HS1
      iexact HS2
    iexact Hg
  isplitl [Ho]; · iexact Ho
  isplitl [H0]; · iexact H0
  isplitl [H1]; · iexact H1
  isplitl [H2]; · iexact H2
  isplitl [H3]; · iexact H3
  isplitl [H4]; · iexact H4
  iexact H5

theorem row_eq (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ unstated := fun t => by
  rw [bigSep_W0, bigSep_W0, row_eq]
  exact triple_restated (sound_body m c t) rfl .rfl fun _ => .rfl

set_option backward.isDefEq.respectTransparency.types false in
set_option maxHeartbeats 800000 in
/-- The launch: every execution ends, with every counter at zero. -/
theorem run_main : θ_run defs (onTc (τ := τ) (main (F := F))) (s₀ m ρ)
    (fun r => Pipeline.RDat.FramePostR (cfgs 0) (fun c => (dats m 0 c).toRForget unstated) late (V m) r ∧ r.2.sem = fun _ => 0) :=
  Pipeline.θ_run_frame_around_T_track_forget_shared (Q' := _) cfgs (dats m) (0 : Fin 1) launch₀0 defs₀ Variants.none unstated late m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := late_writes)
    (hmain := hmain m Variants.none) (hA := A_eq m) (hin := fun _ => .rfl) (hout := fun _ => .rfl)

/-- The argument arrays end as launched and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨((h.1 c).2 main_arg0 (Finset.mem_sdiff.mpr ⟨Pipeline.mem_restRefs_of main_arg0 (by decide) (by decide), by decide⟩)).trans (V_main_arg0 m c),
      ((h.1 c).2 main_arg1 (Finset.mem_sdiff.mpr ⟨Pipeline.mem_restRefs_of main_arg1 (by decide) (by decide), by decide⟩)).trans (V_main_arg1 m c),
      ((h.1 c).2 main_arg2 (Finset.mem_sdiff.mpr ⟨Pipeline.mem_restRefs_of main_arg2 (by decide) (by decide), by decide⟩)).trans (V_main_arg2 m c)⟩,
    h.2⟩) (run_main m ρ)

end Cert.Kernel.Whole

end
-- ==== Proof.Gates.lean ====
module

public import Idealize.ShloMosaic.Lib.Pointwise
public import Idealize.ShloMosaic.Lib.WholeRead
public import Idealize.ShloMosaic.Lib.KernelVsHost
public import Idealize.ShloMosaic.Lib.Pipeline.Value
public import Idealize.ShloMosaic.Lib.Pipeline.ValueKit

/-! # The arithmetic the projections share

A product of a row and a column, the logistic gate a kernel writes with a power of two, and what it takes for the pieces a
body stores to be the parts of one array. -/

@[expose] public section

noncomputable section

namespace Cert.Gates

open Idealize.ShloMosaic

/-- Row `r` of `x` against column `c` of `w`. -/
def dot {M K N : ℕ} (x : (⟨2, ![M, K]⟩ : Shape).Idx → EReal) (w : (⟨2, ![K, N]⟩ : Shape).Idx → EReal) (r : Fin M) (c : Fin N) : EReal :=
  ∑ k : Fin K, x (ix2 r k) * w (ix2 k c)

/-- The logistic function, as a quotient. -/
def gate (x : EReal) : EReal := Ideal.div 1 (1 + Ideal.exp (-x))

/-- Two to the power of `-x / log 2` is the exponential of `-x`, at the infinities too. -/
theorem exp2_scaled (x : EReal) : Ideal.exp2 (x * ((-((Real.log 2)⁻¹) : ℝ) : EReal)) = Ideal.exp (-x) := by
  have hl : 0 < Real.log 2 := Real.log_pos one_lt_two
  have hn : (-((Real.log 2)⁻¹) : ℝ) < 0 := neg_lt_zero.2 (inv_pos.2 hl)
  induction x with
  | bot => rw [EReal.bot_mul_coe_of_neg hn, EReal.neg_bot]; rfl
  | top => rw [EReal.top_mul_coe_of_neg hn, EReal.neg_top]; rfl
  | coe r =>
    rw [← EReal.coe_mul, ← EReal.coe_neg]
    show ((Real.rpow 2 _ : ℝ) : EReal) = ((Real.exp (-r) : ℝ) : EReal)
    have : Real.rpow 2 (r * -(Real.log 2)⁻¹) = Real.exp (-r) := by
      change (2 : ℝ) ^ (r * -(Real.log 2)⁻¹) = _
      rw [Real.rpow_def_of_pos two_pos]
      congr 1
      field_simp
    rw [this]

theorem exp2_scaled' (x : EReal) : FloatOps.exp2 (F := Ideal) (φ := .f32) (x * ((-((Real.log 2)⁻¹) : ℝ) : EReal)) = Ideal.exp (-x) := exp2_scaled x

/-- A stored piece holds the part of `G` it covers. -/
def Holds {s : Shape} {e : EltTy} (G : s.Idx → Elt Ideal e) (p : View.Piece (Elt Ideal) s e) : Prop :=
  ∀ x : p.1.shape.Idx, p.2 x = G (p.1.emb x)

/-- Pieces that cover the array and hold the parts of `G` leave `G`. -/
theorem read_holds {sig : RefSig} {κ : Kind} {sp : Space} {s : Shape} {e : EltTy} (v : View sig κ sp s e) (G : s.Idx → Elt Ideal e) (f : BufTy.Contents (Elt Ideal) v.ty)
    (L : List (View.Piece (Elt Ideal) s e)) (hG : ∀ p ∈ L, Holds G p) (hc : ∀ y, ∃ p ∈ L, y ∈ p.1.set) :
    v.read (Elt Ideal) (v.writes (Elt Ideal) f L) = G :=
  funext fun y => View.read_writes_apply_of_pieces v f G L hG y (hc y)

theorem fin_eq {N : ℕ} [NeZero N] (n : ℕ) (h : n < N) : (⟨n, h⟩ : Fin N) = Fin.ofNat N n := Fin.ext (Nat.mod_eq_of_lt h).symm

/-- One over the root of the head size. -/
def root : EReal := (((Real.sqrt 128)⁻¹ : ℝ) : EReal)

/-- The pattern of the head size denotes 128. -/
theorem head_size : Ideal.ofBits .f32 0x43000000#32 = ((128 : ℝ) : EReal) := by
  simp [Ideal.ofBits, Ideal.ieee, -EReal.coe_mul]
  norm_num

/-- Dividing by the root is multiplying by `root`. -/
theorem div_root (x : EReal) : Ideal.div x (Ideal.sqrt ((128 : ℝ) : EReal)) = x * root := by
  have h : (0 : ℝ) < Real.sqrt 128 := Real.sqrt_pos.2 (by norm_num)
  rw [Ideal.sqrt_coe, if_neg (by norm_num)]
  unfold Ideal.div root
  rw [if_neg (fun e => h.ne' (EReal.coe_eq_zero.1 e)), EReal.coe_inv]

end Cert.Gates

end
-- ==== Proof.Norms.lean ====
module

public import proofs.«01_k».proof.Proof.Gates

/-! # A normed row added to a row

What the output projection does with one row of its product: norm it by its root mean square, scale it by a weight and a
gate and add it to the row it updates; and what it does to make the next layer's input. -/

@[expose] public section

noncomputable section

namespace Cert.Norms

open Idealize.ShloMosaic Cert.Gates

/-- One over the root of a row's mean square. -/
def perRoot (v : Fin 2048 → EReal) : EReal :=
  Ideal.rsqrt (Ideal.div (∑ q : Fin 2048, v q * v q) (Ideal.ofBits .f32 0x45000000#32) + Ideal.ofBits .f32 0x358637BD#32)

/-- The row `x`, and the normed row `d` weighted by `gp` and gated by `gt`. -/
def step (d x gt gp : Fin 2048 → EReal) (q : Fin 2048) : EReal := x q + gt q * ((d q * perRoot d) * gp q)

/-- The normed row `y` weighted by `gp`, scaled by one more than `sc` and shifted by `sh`. -/
def next (y gp sc sh : Fin 2048 → EReal) (q : Fin 2048) : EReal := (y q * perRoot y) * gp q * (1 + sc q) + sh q

/-- Pieces that cover an array and hold the parts of `G` are `G`. -/
theorem canon_holds {s : Shape} {e : EltTy} (G : s.Idx → Elt Ideal e) (L : List (View.Piece (Elt Ideal) s e)) (hG : ∀ p ∈ L, Holds G p)
    (hc : ∀ y, ∃ p ∈ L, y ∈ p.1.set) : View.canon L = G :=
  funext fun y => View.canon_apply_of_pieces G L hG y (hc y)

end Cert.Norms

end
-- ==== Proof.OutProj.lean ====
module

public import proofs.«01_k».proof.Proof.Norms
public import proofs.«01_k».proof.Proof.Gen.Kernel2Ideal.Value

/-! # The output projection: one block -/

@[expose] public section

set_option maxRecDepth 16384

noncomputable section

namespace Cert.Kernel2Ideal.OutProj

open Idealize.ShloMosaic Idealize.ShloMosaic.TcCoe Idealize.SL.Sem
open Idealize.ShloMosaic.Pipeline (Dat)
open Cert.Kernel2Ideal Cert.Kernel2Ideal.Gen Cert.Gates Cert.Norms

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of the block's product. -/
def prod (x : Vec Ideal S256x4096 .bf16) (w : Vec Ideal S1x4096x2048 .bf16) (r : Fin 256) (q : Fin 2048) : EReal :=
  ∑ k : Fin 4096, x (ix2 r k) * w (ix3 0 k q)

/-- A block of one row. -/
def line (g : Vec Ideal S1x1x2048 .f32) (q : Fin 2048) : EReal := g (ix3 0 0 q)

theorem pay_y (x : Vec Ideal S256x4096 .bf16) (w : Vec Ideal S1x4096x2048 .bf16) (xr : Vec Ideal S256x2048 .f32) (gt gp : Vec Ideal S1x1x2048 .f32)
    (r : Fin 256) (q : Fin 2048) :
    k0_pay2 x w xr gt gp (ix2 r q) = step (prod x w r) (fun q => xr (ix2 r q)) (line gt) (line gp) q := by
  unfold step perRoot prod line
  pointwise [k0_pay2]

theorem pay_low (x : Vec Ideal S256x4096 .bf16) (w : Vec Ideal S1x4096x2048 .bf16) (xr : Vec Ideal S256x2048 .f32) (gt gp : Vec Ideal S1x1x2048 .f32) :
    k0_pay1 (k0_pay3 x w) (k0_pay4 x w) xr gt gp = k0_pay2 x w xr gt gp := rfl

/-- Row `p` of the block, from its two slabs of rows. -/
def upd (gs : Fin 2 → Vec Ideal S256x4096 .bf16) (w : Vec Ideal S1x4096x2048 .bf16) (xs : Fin 2 → Vec Ideal S256x2048 .f32) (gp gt : Vec Ideal S1x1x2048 .f32)
    (p : Fin 512) : Fin 2048 → EReal :=
  step (prod (gs (Fin.ofNat 2 (p.val / 256))) w (Fin.ofNat 256 p.val)) (fun q => xs (Fin.ofNat 2 (p.val / 256)) (ix2 (Fin.ofNat 256 p.val) q)) (line gt) (line gp)

def YB (gs : Fin 2 → Vec Ideal S256x4096 .bf16) (w : Vec Ideal S1x4096x2048 .bf16) (xs : Fin 2 → Vec Ideal S256x2048 .f32) (gp gt : Vec Ideal S1x1x2048 .f32) :
    Vec Ideal S512x2048 .f32 := fun y => upd gs w xs gp gt (y 0) (y 1)

/-- A slab's index in the block. -/
theorem emb_slab (n : Fin 2) {o : ℕ} (ho : o = 256 * n.val) (inb) (r : Fin 256) (q : Fin 2048) :
    (Rect.unit (s := S512x2048) ![o, 0] S256x2048.size inb).emb (ix2 r q) = ix2 ⟨256 * n.val + r.val, by have := n.isLt; have := r.isLt; omega⟩ q := by
  subst ho
  refine funext fun a => Fin.ext ?_
  rw [Rect.emb_apply]
  fin_cases a
  · show 256 * n.val + 1 * r.val = 256 * n.val + r.val; omega
  · show 0 + 1 * q.val = q.val; omega

theorem upd_slab (gs : Fin 2 → Vec Ideal S256x4096 .bf16) (w : Vec Ideal S1x4096x2048 .bf16) (xs : Fin 2 → Vec Ideal S256x2048 .f32) (gp gt : Vec Ideal S1x1x2048 .f32)
    (n : Fin 2) (r : Fin 256) :
    upd gs w xs gp gt ⟨256 * n.val + r.val, by have := n.isLt; have := r.isLt; omega⟩ = step (prod (gs n) w r) (fun q => xs n (ix2 r q)) (line gt) (line gp) := by
  have h1 : Fin.ofNat 2 ((256 * n.val + r.val) / 256) = n := Fin.ext (by have := n.isLt; have := r.isLt; simp only [Fin.ofNat]; omega)
  have h2 : Fin.ofNat 256 (256 * n.val + r.val) = r := Fin.ext (by have := r.isLt; simp only [Fin.ofNat]; omega)
  unfold upd
  dsimp only
  rw [h1, h2]

theorem holds_y (gs : Fin 2 → Vec Ideal S256x4096 .bf16) (w : Vec Ideal S1x4096x2048 .bf16) (xs : Fin 2 → Vec Ideal S256x2048 .f32) (gp gt : Vec Ideal S1x1x2048 .f32)
    (n : Fin 2) {o : ℕ} (ho : o = 256 * n.val) (inb) :
    Holds (e := .f32) (YB gs w xs gp gt) ⟨Rect.unit (s := S512x2048) ![o, 0] S256x2048.size inb, k0_pay2 (gs n) w (xs n) gt gp⟩ := by
  intro y
  change S256x2048.Idx at y
  idx_vars y
  refine (pay_y _ _ _ _ _ _ _).trans ?_
  refine Eq.trans ?_ (congrArg (YB gs w xs gp gt) (emb_slab n ho inb y0 y1)).symm
  exact (congrFun (upd_slab gs w xs gp gt n y0) y1).symm

section Block
variable (x0 x1 : Vec Ideal S256x4096 .bf16) (x2 : Vec Ideal S1x4096x2048 .bf16) (x3 x4 : Vec Ideal S256x2048 .f32) (x5 x6 : Vec Ideal S1x1x2048 .f32)

theorem ld_g (x : Vec Ideal S256x4096 .bf16) : View.ld x r0_0 = x := View.ld_unit_zero (S := S256x4096) hz _ x
theorem ld_w (x : Vec Ideal S1x4096x2048 .bf16) : View.ld x r0_1 = x := View.ld_unit_zero (S := S1x4096x2048) hz3 _ x
theorem ld_x (x : Vec Ideal S256x2048 .f32) : View.ld x r0_2 = x := View.ld_unit_zero (S := S256x2048) hz _ x
theorem ld_l (x : Vec Ideal S1x1x2048 .f32) : View.ld x r0_3 = x := View.ld_unit_zero (S := S1x1x2048) hz3 _ x

theorem block_y : out0_7 x0 x1 x2 x3 x4 x5 x6 = YB ![x0, x1] x2 ![x3, x4] x5 x6 := by
  unfold out0_7
  rw [ld_g, ld_g, ld_w, ld_x, ld_x, ld_l, ld_l, pay_low]
  refine canon_holds _ _ ?_ (cover0_7 _ _)
  exact List.forall_mem_cons.2 ⟨holds_y ![x0, x1] x2 ![x3, x4] x5 x6 1 rfl _,
    List.forall_mem_cons.2 ⟨holds_y ![x0, x1] x2 ![x3, x4] x5 x6 0 rfl _, List.forall_mem_nil _⟩⟩

end Block

variable (m : (ℓ : Loc nD τ sig) → Buf (Elt Ideal) ℓ)

/-! ## The arrays -/

abbrev GA (c : Dev nD) : FVec Ideal S16384x4096 .bf16 := m ((c : Thread nD τ).loc main_arg0)
abbrev WA (c : Dev nD) : FVec Ideal S4x4096x2048 .f32 := m ((c : Thread nD τ).loc main_arg1)
abbrev XA (c : Dev nD) : FVec Ideal S16384x2048 .f32 := m ((c : Thread nD τ).loc main_arg2)
abbrev MA (c : Dev nD) : FVec Ideal S32x1x6144 .f32 := m ((c : Thread nD τ).loc main_arg3)
abbrev PA (c : Dev nD) : FVec Ideal S4x2048 .f32 := m ((c : Thread nD τ).loc main_arg4)
abbrev NA (c : Dev nD) : FVec Ideal S4x2048 .f32 := m ((c : Thread nD τ).loc main_arg5)

theorem V_w (c : Dev nD) : V m c main_v0 = truncf .bf16 (WA m c) bitsLt_bf16_f32 := by
  show StableHlo.after (List.flatten [hostOps0]) _ _ = _
  simp only [hostOps0, List.flatten_cons, List.flatten_nil, List.append_nil, List.cons_append, List.nil_append]
  after_results

theorem V_p (c : Dev nD) : V m c main_v1 = shapeCast S4x1x2048 (PA m c) shapeCasts_S4x2048_S4x1x2048 := by
  show StableHlo.after (List.flatten [hostOps0]) _ _ = _
  simp only [hostOps0, List.flatten_cons, List.flatten_nil, List.append_nil, List.cons_append, List.nil_append]
  after_results
  rfl

theorem read_w (W : FVec Ideal S4x4096x2048 .f32) (l : Fin 4) (k : Fin 4096) (q : Fin 2048) :
    (truncf .bf16 W bitsLt_bf16_f32) (ix3 l k q) = W (ix3 l k q) := by
  pointwise

theorem read_p (W : FVec Ideal S4x2048 .f32) (l : Fin 4) (q : Fin 2048) :
    shapeCast S4x1x2048 W shapeCasts_S4x2048_S4x1x2048 (ix3 l 0 q) = W (ix2 l q) := by
  pointwise

theorem idx : ∀ t : Fin cfg0.N, win0_0.index t = ![2 * t.val, 0] ∧ win0_1.index t = ![2 * t.val + 1, 0]
    ∧ win0_2.index t = ![3, 0, 0] ∧ win0_3.index t = ![2 * t.val, 0] ∧ win0_4.index t = ![2 * t.val + 1, 0]
    ∧ win0_5.index t = ![3, 0, 0] ∧ win0_6.index t = ![25 + t.val / 8, 0, 2]
    ∧ win0_7.index t = ![t.val, 0] ∧ t.val < 32 :=
  (by decide +kernel : ∀ t : Fin grid0.N, _)

/-- Row `R` of the product with the layer's weights. -/
def proj (g : FVec Ideal S16384x4096 .bf16) (w : FVec Ideal S4x4096x2048 .f32) (R : Fin 16384) (q : Fin 2048) : EReal :=
  ∑ k : Fin 4096, g (ix2 R k) * w (ix3 3 k q)

/-- Columns `o` on of row `a` of a frame's modulation, of the frame of row `R`. -/
def modOf (mods : FVec Ideal S32x1x6144 .f32) (a o : ℕ) (R : Fin 16384) (q : Fin 2048) : EReal :=
  mods (ix3 (Fin.ofNat 32 (a + R.val / 4096)) 0 (Fin.ofNat 6144 (o + q.val)))

def rowOf (g : FVec Ideal S16384x4096 .bf16) (w : FVec Ideal S4x4096x2048 .f32) (x : FVec Ideal S16384x2048 .f32) (mods : FVec Ideal S32x1x6144 .f32)
    (gp : FVec Ideal S4x2048 .f32) (R : Fin 16384) : Fin 2048 → EReal :=
  step (proj g w R) (fun q => x (ix2 R q)) (modOf mods 25 4096 R) (fun q => gp (ix2 3 q))

def yOf (g : FVec Ideal S16384x4096 .bf16) (w : FVec Ideal S4x4096x2048 .f32) (x : FVec Ideal S16384x2048 .f32) (mods : FVec Ideal S32x1x6144 .f32)
    (gp : FVec Ideal S4x2048 .f32) : FVec Ideal S16384x2048 .f32 := fun y => rowOf g w x mods gp (y 0) (y 1)

abbrev gs (c : Dev nD) (t : Fin cfg0.N) : Fin 2 → Vec Ideal S256x4096 .bf16 := ![iblk m c 0 t, iblk m c 1 t]
abbrev xs (c : Dev nD) (t : Fin cfg0.N) : Fin 2 → Vec Ideal S256x2048 .f32 := ![iblk m c 3 t, iblk m c 4 t]

theorem gs_at (c : Dev nD) (t : Fin cfg0.N) (n : Fin 2) (r : Fin 256) (k : Fin 4096) (R : Fin 16384) (hR : R.val = 512 * t.val + 256 * n.val + r.val) :
    gs m c t n (ix2 r k) = GA m c (ix2 R k) := by
  obtain ⟨a0, a1, a2, a3, a4, a5, a6, aw, at32⟩ := idx t
  have hA : GA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)

theorem xs_at (c : Dev nD) (t : Fin cfg0.N) (n : Fin 2) (r : Fin 256) (k : Fin 2048) (R : Fin 16384) (hR : R.val = 512 * t.val + 256 * n.val + r.val) :
    xs m c t n (ix2 r k) = XA m c (ix2 R k) := by
  obtain ⟨a0, a1, a2, a3, a4, a5, a6, aw, at32⟩ := idx t
  have hA : XA m c = V m c main_arg2 := (V_main_arg2 m c).symm
  rw [hA]
  fin_cases n
  · show iblk m c 3 t (ix2 r k) = _
    blk_ext [iblk, a3]
    all_goals (simp at hR; omega)
  · show iblk m c 4 t (ix2 r k) = _
    blk_ext [iblk, a4]
    all_goals (simp at hR; omega)

theorem w_at (c : Dev nD) (t : Fin cfg0.N) (k : Fin 4096) (q : Fin 2048) :
    (iblk m c 2 t : Vec Ideal S1x4096x2048 .bf16) (ix3 0 k q) = WA m c (ix3 3 k q) := by
  obtain ⟨a0, a1, a2, a3, a4, a5, a6, aw, at32⟩ := idx t
  refine Eq.trans ?_ (read_w (WA m c) 3 k q)
  rw [← V_w]
  blk_ext [iblk, a2]

theorem p_at (c : Dev nD) (t : Fin cfg0.N) (q : Fin 2048) : line (iblk m c 5 t) q = PA m c (ix2 3 q) := by
  obtain ⟨a0, a1, a2, a3, a4, a5, a6, aw, at32⟩ := idx t
  refine Eq.trans ?_ (read_p (PA m c) 3 q)
  rw [← V_p]
  unfold line
  blk_ext [iblk, a5]

theorem m6_at (c : Dev nD) (t : Fin cfg0.N) (R : Fin 16384) (hR : R.val / 512 = t.val) (q : Fin 2048) :
    line (iblk m c 6 t) q = modOf (MA m c) 25 4096 R q := by
  obtain ⟨a0, a1, a2, a3, a4, a5, a6, aw, at32⟩ := idx t
  have hA : MA m c = V m c main_arg3 := (V_main_arg3 m c).symm
  have hq := q.isLt
  rw [hA]
  unfold line modOf
  blk_ext [iblk, a6]
  all_goals (simp [Fin.ofNat]; omega)

theorem row_at (c : Dev nD) (t : Fin cfg0.N) (p : Fin 512) (R : Fin 16384) (hR : R.val = 512 * t.val + p.val) :
    upd (gs m c t) (iblk m c 2 t) (xs m c t) (iblk m c 5 t) (iblk m c 6 t) p = rowOf (GA m c) (WA m c) (XA m c) (MA m c) (PA m c) R := by
  have hp := p.isLt
  have hs : R.val = 512 * t.val + 256 * (Fin.ofNat 2 (p.val / 256)).val + (Fin.ofNat 256 p.val).val := by simp only [Fin.ofNat]; omega
  unfold upd rowOf
  rw [show prod (gs m c t (Fin.ofNat 2 (p.val / 256))) (iblk m c 2 t) (Fin.ofNat 256 p.val) = proj (GA m c) (WA m c) R from funext fun q => by
      unfold prod proj
      exact Finset.sum_congr rfl fun k _ => by rw [gs_at m c t _ _ k R hs, w_at],
    show (fun q => xs m c t (Fin.ofNat 2 (p.val / 256)) (ix2 (Fin.ofNat 256 p.val) q)) = fun q => XA m c (ix2 R q) from funext fun q => xs_at m c t _ _ q R hs,
    show line (iblk m c 6 t) = modOf (MA m c) 25 4096 R from funext fun q => m6_at m c t R (by omega) q,
    show line (iblk m c 5 t) = fun q => PA m c (ix2 3 q) from funext fun q => p_at m c t q]

theorem final_y (c : Dev nD) : (dats m 0 c).arrAt 7 cfg0.N = yOf (GA m c) (WA m c) (XA m c) (MA m c) (PA m c) := by
  refine (dats m 0 c).arrAt_eq_of_covers 7 _ (by decide +kernel) fun t _ y => ?_
  obtain ⟨a0, a1, a2, a3, a4, a5, a6, aw, at32⟩ := idx t
  have b0 : (((cfg0.win 7).blk t).view.emb y 0).val = 512 * t.val + (y 0).val := by blk_simp [aw]; omega
  have b1 : ((cfg0.win 7).blk t).view.emb y 1 = y 1 := Fin.ext (by blk_simp [aw])
  blk_simp
  rw [after0_7, block_y]
  unfold YB yOf
  rw [b1]
  exact congrFun (row_at m c t (y 0) _ b0) _

end Cert.Kernel2Ideal.OutProj

end
-- ==== Proof.OutRef2.lean ====
module

public import proofs.«01_k».proof.Proof.Norms
public import proofs.«01_k».proof.Proof.Gen.Reference2Ideal.Run

/-! # The reference of the output projection, row by row -/

@[expose] public section

set_option maxRecDepth 16384

noncomputable section

namespace Cert.Reference2Ideal.Rows

open Idealize.ShloMosaic Cert.Norms
open Cert.Reference2Ideal Cert.Reference2Ideal.Facts₀

variable [hR : Cert.Reference2Ideal.Facts]

/-- The product, of the layer's weights. -/
abbrev mm (g : FVec Ideal S16384x4096 .bf16) (w : FVec Ideal S4x4096x2048 .f32) : FVec Ideal S16384x2048 .f32 :=
  Host.dotGeneral dot_S16384x4096_S4096x2048_S16384x2048_1_0_0_1_n_n none (extf .f32 g bitsLt_bf16_f32)
    (shapeCast _ (extractStridedSlice S1x4096x2048 ![3, 0, 0] w slices_S4x4096x2048_S1x4096x2048_3_0_0) shapeCasts_S1x4096x2048_S4096x2048)

theorem mm_at (g : FVec Ideal S16384x4096 .bf16) (w : FVec Ideal S4x4096x2048 .f32) (R : Fin 16384) (q : Fin 2048) :
    mm g w (ix2 R q) = ∑ k : Fin 4096, g (ix2 R k) * w (ix3 3 k q) := by
  unfold mm
  pointwise

/-- The gate, along the frames. -/
abbrev gate3 (M : FVec Ideal S32x1x6144 .f32) : FVec Ideal S4x4096x2048 .f32 :=
  broadcastInDim S4x4096x2048 ![0, 1, 2] bcast_S4x1x2048_S4x4096x2048_0_1_2 (broadcastInDim S4x1x2048 ![0, 2] bcast_S4x2048_S4x1x2048_0_2
    (shapeCast _ (extractStridedSlice S1x4x2048 ![3, 1, 4096] (shapeCast _ M shapeCasts_S32x1x6144_S4x8x6144) slices_S4x8x6144_S1x4x2048_3_1_4096) shapeCasts_S1x4x2048_S4x2048))

theorem gate3_at (M : FVec Ideal S32x1x6144 .f32) (b : Fin 4) (p : Fin 4096) (q : Fin 2048) :
    gate3 M (ix3 b p q) = M (ix3 (Fin.ofNat 32 (25 + b.val)) 0 (Fin.ofNat 6144 (4096 + q.val))) := by
  have hb := b.isLt
  have hq := q.isLt
  unfold gate3
  pointwise
  congr 2
  all_goals exact Fin.ext (by simp [Fin.ofNat]; omega)

/-- The product's rows normed and weighted. -/
abbrev normed (D : FVec Ideal S16384x2048 .f32) (P : FVec Ideal S4x2048 .f32) : FVec Ideal S16384x2048 .f32 :=
  mulf (mulf D (broadcastInDim S16384x2048 ![0, 1] bcast_S16384x1_S16384x2048_0_1 (Host.rsqrt (addf (Host.divf (broadcastInDim S16384x1 ![0] bcast_S16384_S16384x1_0
    (Host.reduceAdd (mulf D D) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1
      (shapeCast _ (extractStridedSlice S1x2048 ![3, 0] P slices_S4x2048_S1x2048_3_0) shapeCasts_S1x2048_S2048)))

theorem normed_at (D : FVec Ideal S16384x2048 .f32) (P : FVec Ideal S4x2048 .f32) (R : Fin 16384) (q : Fin 2048) :
    normed D P (ix2 R q) = (D (ix2 R q) * perRoot (fun q => D (ix2 R q))) * P (ix2 3 q) := by
  unfold normed perRoot
  pointwise

theorem flat_at (X : FVec Ideal S16384x2048 .f32) (R : Fin 16384) (b : Fin 4) (p : Fin 4096) (hR : R.val = b.val * 4096 + p.val) (q : Fin 2048) :
    shapeCast S4x4096x2048 X shapeCasts_S16384x2048_S4x4096x2048 (ix3 b p q) = X (ix2 R q) := by
  rw [show R = ⟨b.val * 4096 + p.val, by have := b.isLt; have := p.isLt; omega⟩ from Fin.ext hR]
  pointwise

theorem unflat_at (X : FVec Ideal S4x4096x2048 .f32) (R : Fin 16384) (q : Fin 2048) :
    shapeCast S16384x2048 X shapeCasts_S4x4096x2048_S16384x2048 (ix2 R q) = X (ix3 ⟨R.val / 4096, by omega⟩ ⟨R.val % 4096, by omega⟩ q) := by
  pointwise

/-- The rows updated, along the frames. -/
abbrev upd3 (D X : FVec Ideal S16384x2048 .f32) (M : FVec Ideal S32x1x6144 .f32) (P : FVec Ideal S4x2048 .f32) : FVec Ideal S4x4096x2048 .f32 :=
  addf (shapeCast _ X shapeCasts_S16384x2048_S4x4096x2048) (mulf (gate3 M) (shapeCast _ (normed D P) shapeCasts_S16384x2048_S4x4096x2048))

theorem upd3_at (D X : FVec Ideal S16384x2048 .f32) (M : FVec Ideal S32x1x6144 .f32) (P : FVec Ideal S4x2048 .f32)
    (R : Fin 16384) (b : Fin 4) (p : Fin 4096) (hR : R.val = b.val * 4096 + p.val) (q : Fin 2048) :
    upd3 D X M P (ix3 b p q) = step (fun q => D (ix2 R q)) (fun q => X (ix2 R q))
      (fun q => M (ix3 (Fin.ofNat 32 (25 + R.val / 4096)) 0 (Fin.ofNat 6144 (4096 + q.val)))) (fun q => P (ix2 3 q)) q := by
  have hp := p.isLt
  have hb : b.val = R.val / 4096 := by omega
  unfold step
  rw [← hb]
  refine (congrArg₂ (· + ·) (flat_at X R b p hR q) (congrArg₂ (· * ·) (gate3_at M b p q) ((flat_at (normed D P) R b p hR q).trans (normed_at D P R q))))

end Cert.Reference2Ideal.Rows

end
-- ==== Proof.OutProjResult.lean ====
module

public import proofs.«01_k».proof.Proof.OutProj
public import proofs.«01_k».proof.Proof.OutRef2
public import proofs.«01_k».proof.Defs

/-! # The output projection and its reference -/

@[expose] public section

set_option maxRecDepth 16384

noncomputable section

namespace Cert.Kernel2Ideal.OutProj

open Idealize.ShloMosaic Idealize.ShloMosaic.TcCoe Idealize.SL.Sem
open Idealize.ShloMosaic.Pipeline (Dat)
open Cert.Kernel2Ideal Cert.Kernel2Ideal.Gen Cert.Gates Cert.Norms

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v2) = yOf (GA m c) (WA m c) (XA m c) (MA m c) (PA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_y m c), (h c).2⟩)
    (Cert.Kernel2Ideal.Value.run_blocks m ρ)

/-- A row of the reference's update. -/
theorem at_row [hR : Cert.Reference2Ideal.Facts] (g : FVec Ideal S16384x4096 .bf16) (w : FVec Ideal S4x4096x2048 .f32) (x : FVec Ideal S16384x2048 .f32) (mods : FVec Ideal S32x1x6144 .f32)
    (gp : FVec Ideal S4x2048 .f32) (R : Fin 16384) (q : Fin 2048) :
    Cert.Reference2Ideal.Rows.upd3 (Cert.Reference2Ideal.Rows.mm g w) x mods gp (ix3 ⟨R.val / 4096, by omega⟩ ⟨R.val % 4096, by omega⟩ q) = rowOf g w x mods gp R q := by
  refine (Cert.Reference2Ideal.Rows.upd3_at _ _ _ _ R _ _ (by show R.val = R.val / 4096 * 4096 + R.val % 4096; omega) q).trans ?_
  rw [show (fun q => Cert.Reference2Ideal.Rows.mm g w (ix2 R q)) = proj g w R from funext fun q => Cert.Reference2Ideal.Rows.mm_at g w R q]
  rfl

/-- Kernel and reference, of the same arguments, end with the same results. -/
theorem algebraic [hR : Cert.Reference2Ideal.Facts] : Cert.algebraic_Kernel2Ideal_Reference2Ideal := by
  intro m g m' g' _ ag
  refine ⟨_, result m g, (θ_run Cert.Reference2Ideal.defs _ _).mono (fun r h c => ⟨?_, (h c).2⟩) (Cert.Reference2Ideal.Value.run (F := Ideal) m' g')⟩
  · refine (h c).1.trans ?_
    obtain ⟨g0, g1, g2, g3, g4, g5⟩ := ag c
    rw [g0, g1, g2, g3, g4]
    funext y
    idx_vars y
    refine (Cert.Reference2Ideal.Rows.unflat_at (Cert.Reference2Ideal.Rows.upd3 (Cert.Reference2Ideal.Rows.mm (GA m c) (WA m c)) (XA m c) (MA m c) (PA m c)) y0 y1).trans ?_
    exact at_row (GA m c) (WA m c) (XA m c) (MA m c) (PA m c) y0 y1

theorem preserves : Cert.preserves_Kernel2_Kernel2Ideal := trivial

end Cert.Kernel2Ideal.OutProj

end
-- ==== Proof.Attn.lean ====
module

public import proofs.«01_k».proof.Proof.Gates
public import proofs.«01_k».proof.Proof.Gen.Kernel3Ideal.Value

/-! # The attention projections: one block -/

@[expose] public section

set_option maxRecDepth 16384

noncomputable section

namespace Cert.Kernel3Ideal.Attn

open Idealize.ShloMosaic Idealize.ShloMosaic.TcCoe Idealize.SL.Sem
open Idealize.ShloMosaic.Pipeline (Dat)
open Cert.Kernel3Ideal Cert.Kernel3Ideal.Gen Cert.Gates

theorem hz : (![0, 0] : Fin 2 → Nat) = fun _ => 0 := funext fun a => by fin_cases a <;> rfl
theorem hz3 : (![0, 0, 0] : Fin 3 → Nat) = fun _ => 0 := funext fun a => by fin_cases a <;> rfl

theorem scale_eq : Named.named (F := Ideal) Cert.Kernel3Ideal.κ "neg_log2_e" (φ := .f32) 0xBFB8AA3B#32 = ((-((Real.log 2)⁻¹) : ℝ) : EReal) :=
  IdealRules.named_const.ideal_named_scalar _ _ _ _ rfl

theorem root_eq : Named.named (F := Ideal) Cert.Kernel3Ideal.κ "attn_scale" (φ := .f32) 0x3DB504F3#32 = root :=
  IdealRules.named_const.ideal_named_scalar _ _ _ _ rfl

/-- Column `q` of group `g` of the block's weights, which stand side by side. -/
def at4 (g : ℕ) (q : Fin 256) : Fin 1024 := Fin.ofNat 1024 (256 * g + q.val)

/-- The four weight blocks side by side. -/
def WB (x4 x5 x6 x7 : Vec Ideal S1x2048x256 .f32) : Vec Ideal S2048x1024 .bf16 :=
  fun y => (![x4, x5, x6, x7] (Fin.ofNat 4 ((y 1).val / 256))) (ix3 0 (y 0) (Fin.ofNat 256 (y 1).val))

def qf (x : Vec Ideal S256x2048 .bf16) (W : Vec Ideal S2048x1024 .bf16) (r : Fin 256) (q : Fin 256) : EReal :=
  dot x W r (at4 0 q) * root

def kf (x : Vec Ideal S256x2048 .bf16) (W : Vec Ideal S2048x1024 .bf16) (r : Fin 256) (q : Fin 256) : EReal :=
  dot x W r (at4 1 q)

def vf (x : Vec Ideal S256x2048 .bf16) (W : Vec Ideal S2048x1024 .bf16) (r : Fin 256) (q : Fin 256) : EReal :=
  dot x W r (at4 2 q)

def zf (x : Vec Ideal S256x2048 .bf16) (W : Vec Ideal S2048x1024 .bf16) (r : Fin 256) (q : Fin 256) : EReal :=
  dot x W r (at4 3 q) * gate (dot x W r (at4 3 q))

def k32 (x : Vec Ideal S256x2048 .bf16) (W : Vec Ideal S2048x1024 .bf16) (r : Fin 256) (q : Fin 256) : EReal :=
  dot x W r (at4 1 q)

def v32 (x : Vec Ideal S256x2048 .bf16) (W : Vec Ideal S2048x1024 .bf16) (r : Fin 256) (q : Fin 256) : EReal :=
  dot x W r (at4 2 q)

theorem at0 (q : Fin 256) : at4 0 q = ⟨q.val, by have := q.isLt; omega⟩ := Fin.ext (by have := q.isLt; simp only [at4, Fin.ofNat]; omega)
theorem at1 (q : Fin 256) : at4 1 q = ⟨256 + q.val, by have := q.isLt; omega⟩ := Fin.ext (by have := q.isLt; simp only [at4, Fin.ofNat]; omega)
theorem at2 (q : Fin 256) : at4 2 q = ⟨512 + q.val, by have := q.isLt; omega⟩ := Fin.ext (by have := q.isLt; simp only [at4, Fin.ofNat]; omega)
theorem at3 (q : Fin 256) : at4 3 q = ⟨768 + q.val, by have := q.isLt; omega⟩ := Fin.ext (by have := q.isLt; simp only [at4, Fin.ofNat]; omega)

theorem pay_qf (x : Vec Ideal S256x2048 .bf16) (W : Vec Ideal S2048x1024 .bf16) (r : Fin 256) (q : Fin 256) :
    k0_pay13 x W (ix2 r q) = qf x W r q := by
  unfold qf dot
  pointwise [k0_pay13, k0_pay10, root_eq]
  rw [at0]

theorem pay_kf (x : Vec Ideal S256x2048 .bf16) (W : Vec Ideal S2048x1024 .bf16) (r : Fin 256) (q : Fin 256) :
    k0_pay14 x W (ix2 r q) = kf x W r q := by
  unfold kf dot
  pointwise [k0_pay14, k0_pay11, k0_pay10]
  rw [at1]

theorem pay_vf (x : Vec Ideal S256x2048 .bf16) (W : Vec Ideal S2048x1024 .bf16) (r : Fin 256) (q : Fin 256) :
    k0_pay15 x W (ix2 r q) = vf x W r q := by
  unfold vf dot
  pointwise [k0_pay15, k0_pay12, k0_pay10]
  rw [at2]

theorem pay_zf (x : Vec Ideal S256x2048 .bf16) (W : Vec Ideal S2048x1024 .bf16) (r : Fin 256) (q : Fin 256) :
    k0_pay16 x W (ix2 r q) = zf x W r q := by
  unfold zf gate dot
  pointwise [k0_pay16, k0_pay10, scale_eq]
  rw [exp2_scaled', at3]

theorem pay_k32 (x : Vec Ideal S256x2048 .bf16) (W : Vec Ideal S2048x1024 .bf16) (r : Fin 256) (q : Fin 256) :
    k0_pay11 x W (ix2 r q) = k32 x W r q := by
  unfold k32 dot
  pointwise [k0_pay11, k0_pay10]
  rw [at1]

theorem pay_v32 (x : Vec Ideal S256x2048 .bf16) (W : Vec Ideal S2048x1024 .bf16) (r : Fin 256) (q : Fin 256) :
    k0_pay12 x W (ix2 r q) = v32 x W r q := by
  unfold v32 dot
  pointwise [k0_pay12, k0_pay10]
  rw [at2]

theorem pay_w (x : Vec Ideal S1x2048x256 .f32) (r : Fin 2048) (q : Fin 256) :
    k0_pay6 x (ix2 r q) = x (ix3 0 r q) := by
  pointwise [k0_pay6]

/-- A block of an output, from the four slabs of rows and the weights: `f` is what the output is made of. -/
def BLK (f : Vec Ideal S256x2048 .bf16 → Vec Ideal S2048x1024 .bf16 → Fin 256 → Fin 256 → EReal)
    (xs : Fin 4 → Vec Ideal S256x2048 .bf16) (W : Vec Ideal S2048x1024 .bf16) : S1024x256.Idx → EReal :=
  fun y => f (xs (Fin.ofNat 4 ((y 0).val / 256))) W (Fin.ofNat 256 (y 0).val) (y 1)

/-- A piece's index in the block. -/
theorem emb_slab (n : Fin 4) {o : ℕ} (ho : o = 256 * n.val) (inb) (r : Fin 256) (q : Fin 256) :
    (Rect.unit (s := S1024x256) ![o, 0] S256x256.size inb).emb (ix2 r q) = ix2 ⟨256 * n.val + r.val, by have := n.isLt; have := r.isLt; omega⟩ q := by
  subst ho
  refine funext fun a => Fin.ext ?_
  rw [Rect.emb_apply]
  fin_cases a
  · show 256 * n.val + 1 * r.val = 256 * n.val + r.val; omega
  · show 0 + 1 * q.val = q.val; omega

theorem blk_slab (f : Vec Ideal S256x2048 .bf16 → Vec Ideal S2048x1024 .bf16 → Fin 256 → Fin 256 → EReal) (xs : Fin 4 → Vec Ideal S256x2048 .bf16)
    (W : Vec Ideal S2048x1024 .bf16) (n : Fin 4) {o : ℕ} (ho : o = 256 * n.val) (inb) (r : Fin 256) (q : Fin 256) :
    f (xs n) W r q = BLK f xs W ((Rect.unit (s := S1024x256) ![o, 0] S256x256.size inb).emb (ix2 r q)) := by
  refine Eq.trans ?_ (congrArg (BLK f xs W) (emb_slab n ho inb r q)).symm
  unfold BLK
  have h1 : Fin.ofNat 4 ((256 * n.val + r.val) / 256) = n := Fin.ext (by have := n.isLt; have := r.isLt; simp only [Fin.ofNat]; omega)
  have h2 : Fin.ofNat 256 (256 * n.val + r.val) = r := Fin.ext (by have := r.isLt; simp only [Fin.ofNat]; omega)
  show _ = f (xs (Fin.ofNat 4 ((256 * n.val + r.val) / 256))) W (Fin.ofNat 256 (256 * n.val + r.val)) q
  rw [h1, h2]

theorem holds_qf (xs : Fin 4 → Vec Ideal S256x2048 .bf16) (W : Vec Ideal S2048x1024 .bf16) (n : Fin 4) {o : ℕ} (ho : o = 256 * n.val) (inb)
    (x : Vec Ideal S256x2048 .bf16) (hx : x = xs n) (W' : Vec Ideal S2048x1024 .bf16) (hW : W' = W) :
    Holds (e := .bf16) (BLK qf xs W) ⟨Rect.unit (s := S1024x256) ![o, 0] S256x256.size inb, k0_pay13 x W'⟩ := by
  subst hx hW
  intro y
  change S256x256.Idx at y
  idx_vars y
  exact (pay_qf _ _ _ _).trans (blk_slab qf xs W' n ho inb y0 y1)

theorem holds_kf (xs : Fin 4 → Vec Ideal S256x2048 .bf16) (W : Vec Ideal S2048x1024 .bf16) (n : Fin 4) {o : ℕ} (ho : o = 256 * n.val) (inb)
    (x : Vec Ideal S256x2048 .bf16) (hx : x = xs n) (W' : Vec Ideal S2048x1024 .bf16) (hW : W' = W) :
    Holds (e := .bf16) (BLK kf xs W) ⟨Rect.unit (s := S1024x256) ![o, 0] S256x256.size inb, k0_pay14 x W'⟩ := by
  subst hx hW
  intro y
  change S256x256.Idx at y
  idx_vars y
  exact (pay_kf _ _ _ _).trans (blk_slab kf xs W' n ho inb y0 y1)

theorem holds_vf (xs : Fin 4 → Vec Ideal S256x2048 .bf16) (W : Vec Ideal S2048x1024 .bf16) (n : Fin 4) {o : ℕ} (ho : o = 256 * n.val) (inb)
    (x : Vec Ideal S256x2048 .bf16) (hx : x = xs n) (W' : Vec Ideal S2048x1024 .bf16) (hW : W' = W) :
    Holds (e := .bf16) (BLK vf xs W) ⟨Rect.unit (s := S1024x256) ![o, 0] S256x256.size inb, k0_pay15 x W'⟩ := by
  subst hx hW
  intro y
  change S256x256.Idx at y
  idx_vars y
  exact (pay_vf _ _ _ _).trans (blk_slab vf xs W' n ho inb y0 y1)

theorem holds_zf (xs : Fin 4 → Vec Ideal S256x2048 .bf16) (W : Vec Ideal S2048x1024 .bf16) (n : Fin 4) {o : ℕ} (ho : o = 256 * n.val) (inb)
    (x : Vec Ideal S256x2048 .bf16) (hx : x = xs n) (W' : Vec Ideal S2048x1024 .bf16) (hW : W' = W) :
    Holds (e := .bf16) (BLK zf xs W) ⟨Rect.unit (s := S1024x256) ![o, 0] S256x256.size inb, k0_pay16 x W'⟩ := by
  subst hx hW
  intro y
  change S256x256.Idx at y
  idx_vars y
  exact (pay_zf _ _ _ _).trans (blk_slab zf xs W' n ho inb y0 y1)

theorem holds_k32 (xs : Fin 4 → Vec Ideal S256x2048 .bf16) (W : Vec Ideal S2048x1024 .bf16) (n : Fin 4) {o : ℕ} (ho : o = 256 * n.val) (inb)
    (x : Vec Ideal S256x2048 .bf16) (hx : x = xs n) (W' : Vec Ideal S2048x1024 .bf16) (hW : W' = W) :
    Holds (e := .f32) (BLK k32 xs W) ⟨Rect.unit (s := S1024x256) ![o, 0] S256x256.size inb, k0_pay11 x W'⟩ := by
  subst hx hW
  intro y
  change S256x256.Idx at y
  idx_vars y
  exact (pay_k32 _ _ _ _).trans (blk_slab k32 xs W' n ho inb y0 y1)

theorem holds_v32 (xs : Fin 4 → Vec Ideal S256x2048 .bf16) (W : Vec Ideal S2048x1024 .bf16) (n : Fin 4) {o : ℕ} (ho : o = 256 * n.val) (inb)
    (x : Vec Ideal S256x2048 .bf16) (hx : x = xs n) (W' : Vec Ideal S2048x1024 .bf16) (hW : W' = W) :
    Holds (e := .f32) (BLK v32 xs W) ⟨Rect.unit (s := S1024x256) ![o, 0] S256x256.size inb, k0_pay12 x W'⟩ := by
  subst hx hW
  intro y
  change S256x256.Idx at y
  idx_vars y
  exact (pay_v32 _ _ _ _).trans (blk_slab v32 xs W' n ho inb y0 y1)

theorem holds_w (x4 x5 x6 x7 : Vec Ideal S1x2048x256 .f32) (n : Fin 4) {o : ℕ} (ho : o = 256 * n.val) (inb)
    (x : Vec Ideal S1x2048x256 .f32) (hx : x = (![x4, x5, x6, x7] : Fin 4 → Vec Ideal S1x2048x256 .f32) n) :
    Holds (e := .bf16) (WB x4 x5 x6 x7) ⟨Rect.unit (s := S2048x1024) ![0, o] S2048x256.size inb, k0_pay6 x⟩ := by
  subst hx ho
  intro y
  change S2048x256.Idx at y
  idx_vars y
  refine (pay_w _ _ _).trans ?_
  have he : (Rect.unit (s := S2048x1024) ![0, 256 * n.val] S2048x256.size inb).emb (ix2 y0 y1)
      = ix2 y0 ⟨256 * n.val + y1.val, by have := n.isLt; have := y1.isLt; omega⟩ := by
    refine funext fun a => Fin.ext ?_
    rw [Rect.emb_apply]
    fin_cases a
    · show 0 + 1 * y0.val = y0.val; omega
    · show 256 * n.val + 1 * y1.val = 256 * n.val + y1.val; omega
  refine Eq.trans ?_ (congrArg (WB x4 x5 x6 x7) he).symm
  unfold WB
  have h1 : Fin.ofNat 4 ((256 * n.val + y1.val) / 256) = n := Fin.ext (by have := n.isLt; have := y1.isLt; simp only [Fin.ofNat]; omega)
  have h2 : Fin.ofNat 256 (256 * n.val + y1.val) = y1 := Fin.ext (by have := y1.isLt; simp only [Fin.ofNat]; omega)
  show _ = (![x4, x5, x6, x7] : Fin 4 → Vec Ideal S1x2048x256 .f32) (Fin.ofNat 4 ((256 * n.val + y1.val) / 256)) (ix3 0 y0 (Fin.ofNat 256 (256 * n.val + y1.val)))
  rw [h1, h2]

theorem read_rows {arg : Memref sig .tc .vmem S256x2048 .bf16} (harg : arg.IsWhole) (x : Vec Ideal S256x2048 .bf16) (inb) :
    View.readAt (Elt Ideal) arg.view (Rect.unit (s := S256x2048) ![0, 0] S256x2048.size inb).toLoadRect (harg.unread x) = x := by
  simp only [View.readAt_eq_ld, harg.read_unread, View.ld_unit_zero (S := S256x2048) hz]

theorem read_w {arg : Memref sig .tc .vmem S2048x1024 .bf16} (harg : arg.IsWhole) (x : Vec Ideal S2048x1024 .bf16) (inb) :
    View.readAt (Elt Ideal) arg.view (Rect.unit (s := S2048x1024) ![0, 0] S2048x1024.size inb).toLoadRect (harg.unread x) = x := by
  simp only [View.readAt_eq_ld, harg.read_unread, View.ld_unit_zero (S := S2048x1024) hz]

theorem read_wblk {arg : Memref sig .tc .vmem S1x2048x256 .f32} (harg : arg.IsWhole) (x : Vec Ideal S1x2048x256 .f32) (inb) :
    View.readAt (Elt Ideal) arg.view (Rect.unit (s := S1x2048x256) ![0, 0, 0] S1x2048x256.size inb).toLoadRect (harg.unread x) = x := by
  simp only [View.readAt_eq_ld, harg.read_unread, View.ld_unit_zero (S := S1x2048x256) hz3]

variable (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S1024x256 .bf16) (harg10 : arg10.IsWhole) (arg11 : Memref sig .tc .vmem S1024x256 .bf16) (harg11 : arg11.IsWhole) (arg12 : Memref sig .tc .vmem S1024x256 .bf16) (harg12 : arg12.IsWhole) (arg13 : Memref sig .tc .vmem S1024x256 .bf16) (harg13 : arg13.IsWhole) (arg14 : Memref sig .tc .vmem S1024x256 .f32) (harg14 : arg14.IsWhole) (arg15 : Memref sig .tc .vmem S1024x256 .f32) (harg15 : arg15.IsWhole) (arg16 : Memref sig .tc .vmem S2048x1024 .bf16) (harg16 : arg16.IsWhole)
  (x0 x1 x2 x3 : Vec Ideal S256x2048 .bf16) (x4 x5 x6 x7 : Vec Ideal S1x2048x256 .f32)

theorem fill : ∀ p ∈ kernelRun0_A.sl.HS0_4 c arg6 harg6 arg7 harg7 arg8 harg8 arg9 harg9 x4 x5 x6 x7, Holds (e := .bf16) (WB x4 x5 x6 x7) p := by
  unfold kernelRun0_A.sl.HS0_4
  exact List.forall_mem_cons.2 ⟨holds_w x4 x5 x6 x7 3 rfl _ _ (read_wblk harg9 x7 _), List.forall_mem_cons.2 ⟨holds_w x4 x5 x6 x7 2 rfl _ _ (read_wblk harg8 x6 _), List.forall_mem_cons.2 ⟨holds_w x4 x5 x6 x7 1 rfl _ _ (read_wblk harg7 x5 _),
    List.forall_mem_cons.2 ⟨holds_w x4 x5 x6 x7 0 rfl _ _ (read_wblk harg6 x4 _), List.forall_mem_nil _⟩⟩⟩⟩

theorem filled : kernelRun0_A.sl.v4 c arg6 harg6 arg7 harg7 arg8 harg8 arg9 harg9 arg16 x4 x5 x6 x7 = WB x4 x5 x6 x7 := by
  unfold kernelRun0_A.sl.v4
  refine (View.readAt_eq_ld ..).trans ?_
  rw [read_holds arg16.view (WB x4 x5 x6 x7) _ _ (fill c arg6 harg6 arg7 harg7 arg8 harg8 arg9 harg9 x4 x5 x6 x7)
    (View.cover_of_tiledL (kernelRun0_A.sl.HS0_4 c arg6 harg6 arg7 harg7 arg8 harg8 arg9 harg9 x4 x5 x6 x7) S2048x256.size (by sl_kernel_rfl)), View.ld_unit_zero (S := S2048x1024) hz]

theorem scratch_A (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = WB x4 x5 x6 x7 := by
  unfold sout0_A_0
  refine read_holds _ _ _ _ ?_ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  exact fill c arg6 harg6 arg7 harg7 arg8 harg8 arg9 harg9 x4 x5 x6 x7

theorem out8_B (hc0 : ¬cond0_0 i) (xs0 : Vec Ideal S2048x1024 .bf16) :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = BLK qf ![x0, x1, x2, x3] xs0 := by
  unfold out0_B_8
  refine read_holds _ _ _ _ ?_ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)
  unfold kernelRun0_B
  dsimp only
  exact List.forall_mem_cons.2 ⟨holds_qf _ xs0 3 rfl _ _ (read_rows harg5 x3 _) _ (read_w harg16 xs0 _),
    List.forall_mem_cons.2 ⟨holds_qf _ xs0 2 rfl _ _ (read_rows harg4 x2 _) _ (read_w harg16 xs0 _),
    List.forall_mem_cons.2 ⟨holds_qf _ xs0 1 rfl _ _ (read_rows harg3 x1 _) _ (read_w harg16 xs0 _),
    List.forall_mem_cons.2 ⟨holds_qf _ xs0 0 rfl _ _ (read_rows harg2 x0 _) _ (read_w harg16 xs0 _), List.forall_mem_nil _⟩⟩⟩⟩

theorem out8_A (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = BLK qf ![x0, x1, x2, x3] (WB x4 x5 x6 x7) := by
  unfold out0_A_8
  refine read_holds _ _ _ _ ?_ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  have hf := filled c arg6 harg6 arg7 harg7 arg8 harg8 arg9 harg9 arg16 x4 x5 x6 x7
  exact List.forall_mem_cons.2 ⟨holds_qf _ _ 3 rfl _ _ (read_rows harg5 x3 _) _ hf,
    List.forall_mem_cons.2 ⟨holds_qf _ _ 2 rfl _ _ (read_rows harg4 x2 _) _ hf,
    List.forall_mem_cons.2 ⟨holds_qf _ _ 1 rfl _ _ (read_rows harg3 x1 _) _ hf,
    List.forall_mem_cons.2 ⟨holds_qf _ _ 0 rfl _ _ (read_rows harg2 x0 _) _ hf, List.forall_mem_nil _⟩⟩⟩⟩

theorem out9_B (hc0 : ¬cond0_0 i) (xs0 : Vec Ideal S2048x1024 .bf16) :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = BLK kf ![x0, x1, x2, x3] xs0 := by
  unfold out0_B_9
  refine read_holds _ _ _ _ ?_ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)
  unfold kernelRun0_B
  dsimp only
  exact List.forall_mem_cons.2 ⟨holds_kf _ xs0 3 rfl _ _ (read_rows harg5 x3 _) _ (read_w harg16 xs0 _),
    List.forall_mem_cons.2 ⟨holds_kf _ xs0 2 rfl _ _ (read_rows harg4 x2 _) _ (read_w harg16 xs0 _),
    List.forall_mem_cons.2 ⟨holds_kf _ xs0 1 rfl _ _ (read_rows harg3 x1 _) _ (read_w harg16 xs0 _),
    List.forall_mem_cons.2 ⟨holds_kf _ xs0 0 rfl _ _ (read_rows harg2 x0 _) _ (read_w harg16 xs0 _), List.forall_mem_nil _⟩⟩⟩⟩

theorem out9_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = BLK kf ![x0, x1, x2, x3] (WB x4 x5 x6 x7) := by
  unfold out0_A_9
  refine read_holds _ _ _ _ ?_ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  have hf := filled c arg6 harg6 arg7 harg7 arg8 harg8 arg9 harg9 arg16 x4 x5 x6 x7
  exact List.forall_mem_cons.2 ⟨holds_kf _ _ 3 rfl _ _ (read_rows harg5 x3 _) _ hf,
    List.forall_mem_cons.2 ⟨holds_kf _ _ 2 rfl _ _ (read_rows harg4 x2 _) _ hf,
    List.forall_mem_cons.2 ⟨holds_kf _ _ 1 rfl _ _ (read_rows harg3 x1 _) _ hf,
    List.forall_mem_cons.2 ⟨holds_kf _ _ 0 rfl _ _ (read_rows harg2 x0 _) _ hf, List.forall_mem_nil _⟩⟩⟩⟩

theorem out10_B (hc0 : ¬cond0_0 i) (xs0 : Vec Ideal S2048x1024 .bf16) :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = BLK vf ![x0, x1, x2, x3] xs0 := by
  unfold out0_B_10
  refine read_holds _ _ _ _ ?_ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)
  unfold kernelRun0_B
  dsimp only
  exact List.forall_mem_cons.2 ⟨holds_vf _ xs0 3 rfl _ _ (read_rows harg5 x3 _) _ (read_w harg16 xs0 _),
    List.forall_mem_cons.2 ⟨holds_vf _ xs0 2 rfl _ _ (read_rows harg4 x2 _) _ (read_w harg16 xs0 _),
    List.forall_mem_cons.2 ⟨holds_vf _ xs0 1 rfl _ _ (read_rows harg3 x1 _) _ (read_w harg16 xs0 _),
    List.forall_mem_cons.2 ⟨holds_vf _ xs0 0 rfl _ _ (read_rows harg2 x0 _) _ (read_w harg16 xs0 _), List.forall_mem_nil _⟩⟩⟩⟩

theorem out10_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = BLK vf ![x0, x1, x2, x3] (WB x4 x5 x6 x7) := by
  unfold out0_A_10
  refine read_holds _ _ _ _ ?_ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  have hf := filled c arg6 harg6 arg7 harg7 arg8 harg8 arg9 harg9 arg16 x4 x5 x6 x7
  exact List.forall_mem_cons.2 ⟨holds_vf _ _ 3 rfl _ _ (read_rows harg5 x3 _) _ hf,
    List.forall_mem_cons.2 ⟨holds_vf _ _ 2 rfl _ _ (read_rows harg4 x2 _) _ hf,
    List.forall_mem_cons.2 ⟨holds_vf _ _ 1 rfl _ _ (read_rows harg3 x1 _) _ hf,
    List.forall_mem_cons.2 ⟨holds_vf _ _ 0 rfl _ _ (read_rows harg2 x0 _) _ hf, List.forall_mem_nil _⟩⟩⟩⟩

theorem out11_B (hc0 : ¬cond0_0 i) (xs0 : Vec Ideal S2048x1024 .bf16) :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = BLK zf ![x0, x1, x2, x3] xs0 := by
  unfold out0_B_11
  refine read_holds _ _ _ _ ?_ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)
  unfold kernelRun0_B
  dsimp only
  exact List.forall_mem_cons.2 ⟨holds_zf _ xs0 3 rfl _ _ (read_rows harg5 x3 _) _ (read_w harg16 xs0 _),
    List.forall_mem_cons.2 ⟨holds_zf _ xs0 2 rfl _ _ (read_rows harg4 x2 _) _ (read_w harg16 xs0 _),
    List.forall_mem_cons.2 ⟨holds_zf _ xs0 1 rfl _ _ (read_rows harg3 x1 _) _ (read_w harg16 xs0 _),
    List.forall_mem_cons.2 ⟨holds_zf _ xs0 0 rfl _ _ (read_rows harg2 x0 _) _ (read_w harg16 xs0 _), List.forall_mem_nil _⟩⟩⟩⟩

theorem out11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = BLK zf ![x0, x1, x2, x3] (WB x4 x5 x6 x7) := by
  unfold out0_A_11
  refine read_holds _ _ _ _ ?_ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  have hf := filled c arg6 harg6 arg7 harg7 arg8 harg8 arg9 harg9 arg16 x4 x5 x6 x7
  exact List.forall_mem_cons.2 ⟨holds_zf _ _ 3 rfl _ _ (read_rows harg5 x3 _) _ hf,
    List.forall_mem_cons.2 ⟨holds_zf _ _ 2 rfl _ _ (read_rows harg4 x2 _) _ hf,
    List.forall_mem_cons.2 ⟨holds_zf _ _ 1 rfl _ _ (read_rows harg3 x1 _) _ hf,
    List.forall_mem_cons.2 ⟨holds_zf _ _ 0 rfl _ _ (read_rows harg2 x0 _) _ hf, List.forall_mem_nil _⟩⟩⟩⟩

theorem out12_B (hc0 : ¬cond0_0 i) (xs0 : Vec Ideal S2048x1024 .bf16) :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = BLK k32 ![x0, x1, x2, x3] xs0 := by
  unfold out0_B_12
  refine read_holds _ _ _ _ ?_ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)
  unfold kernelRun0_B
  dsimp only
  exact List.forall_mem_cons.2 ⟨holds_k32 _ xs0 3 rfl _ _ (read_rows harg5 x3 _) _ (read_w harg16 xs0 _),
    List.forall_mem_cons.2 ⟨holds_k32 _ xs0 2 rfl _ _ (read_rows harg4 x2 _) _ (read_w harg16 xs0 _),
    List.forall_mem_cons.2 ⟨holds_k32 _ xs0 1 rfl _ _ (read_rows harg3 x1 _) _ (read_w harg16 xs0 _),
    List.forall_mem_cons.2 ⟨holds_k32 _ xs0 0 rfl _ _ (read_rows harg2 x0 _) _ (read_w harg16 xs0 _), List.forall_mem_nil _⟩⟩⟩⟩

theorem out12_A (hc0 : cond0_0 i) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = BLK k32 ![x0, x1, x2, x3] (WB x4 x5 x6 x7) := by
  unfold out0_A_12
  refine read_holds _ _ _ _ ?_ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  have hf := filled c arg6 harg6 arg7 harg7 arg8 harg8 arg9 harg9 arg16 x4 x5 x6 x7
  exact List.forall_mem_cons.2 ⟨holds_k32 _ _ 3 rfl _ _ (read_rows harg5 x3 _) _ hf,
    List.forall_mem_cons.2 ⟨holds_k32 _ _ 2 rfl _ _ (read_rows harg4 x2 _) _ hf,
    List.forall_mem_cons.2 ⟨holds_k32 _ _ 1 rfl _ _ (read_rows harg3 x1 _) _ hf,
    List.forall_mem_cons.2 ⟨holds_k32 _ _ 0 rfl _ _ (read_rows harg2 x0 _) _ hf, List.forall_mem_nil _⟩⟩⟩⟩

theorem out13_B (hc0 : ¬cond0_0 i) (xs0 : Vec Ideal S2048x1024 .bf16) :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0 = BLK v32 ![x0, x1, x2, x3] xs0 := by
  unfold out0_B_13
  refine read_holds _ _ _ _ ?_ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 xs0)
  unfold kernelRun0_B
  dsimp only
  exact List.forall_mem_cons.2 ⟨holds_v32 _ xs0 3 rfl _ _ (read_rows harg5 x3 _) _ (read_w harg16 xs0 _),
    List.forall_mem_cons.2 ⟨holds_v32 _ xs0 2 rfl _ _ (read_rows harg4 x2 _) _ (read_w harg16 xs0 _),
    List.forall_mem_cons.2 ⟨holds_v32 _ xs0 1 rfl _ _ (read_rows harg3 x1 _) _ (read_w harg16 xs0 _),
    List.forall_mem_cons.2 ⟨holds_v32 _ xs0 0 rfl _ _ (read_rows harg2 x0 _) _ (read_w harg16 xs0 _), List.forall_mem_nil _⟩⟩⟩⟩

theorem out13_A (hc0 : cond0_0 i) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 = BLK v32 ![x0, x1, x2, x3] (WB x4 x5 x6 x7) := by
  unfold out0_A_13
  refine read_holds _ _ _ _ ?_ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7)
  unfold kernelRun0_A
  dsimp only
  have hf := filled c arg6 harg6 arg7 harg7 arg8 harg8 arg9 harg9 arg16 x4 x5 x6 x7
  exact List.forall_mem_cons.2 ⟨holds_v32 _ _ 3 rfl _ _ (read_rows harg5 x3 _) _ hf,
    List.forall_mem_cons.2 ⟨holds_v32 _ _ 2 rfl _ _ (read_rows harg4 x2 _) _ hf,
    List.forall_mem_cons.2 ⟨holds_v32 _ _ 1 rfl _ _ (read_rows harg3 x1 _) _ hf,
    List.forall_mem_cons.2 ⟨holds_v32 _ _ 0 rfl _ _ (read_rows harg2 x0 _) _ hf, List.forall_mem_nil _⟩⟩⟩⟩

variable (m : (ℓ : Loc nD τ sig) → Buf (Elt Ideal) ℓ)

theorem idx : ∀ t : Fin cfg0.N, win0_0.index t = ![4 * (t.val % 4), 0] ∧ win0_1.index t = ![4 * (t.val % 4) + 1, 0] ∧ win0_2.index t = ![4 * (t.val % 4) + 2, 0] ∧ win0_3.index t = ![4 * (t.val % 4) + 3, 0]
    ∧ win0_4.index t = ![0, 0, t.val / 4] ∧ win0_5.index t = ![0, 0, t.val / 4 + 16] ∧ win0_6.index t = ![0, 0, t.val / 4 + 32] ∧ win0_7.index t = ![0, 0, t.val / 4 + 48]
    ∧ win0_8.index t = ![t.val % 4, t.val / 4] ∧ win0_9.index t = ![t.val % 4, t.val / 4] ∧ win0_10.index t = ![t.val % 4, t.val / 4] ∧ win0_11.index t = ![t.val % 4, t.val / 4] ∧ win0_12.index t = ![t.val % 4, t.val / 4] ∧ win0_13.index t = ![t.val % 4, t.val / 4] ∧ t.val / 4 < 16 :=
  (by decide +kernel : ∀ t : Fin grid0.N, _)

theorem prev (c : Dev nD) (t t' : Fin cfg0.N) (h0 : ¬t.val % 4 = 0) (ht : t'.val = t.val - 1) :
    iblk m c 4 t' = iblk m c 4 t ∧ iblk m c 5 t' = iblk m c 5 t ∧ iblk m c 6 t' = iblk m c 6 t ∧ iblk m c 7 t' = iblk m c 7 t := by
  obtain ⟨a0, a1, a2, a3, a4, a5, a6, a7, a8, a9, a10, a11, a12, a13, a14⟩ := idx t
  obtain ⟨b0, b1, b2, b3, b4, b5, b6, b7, b8, b9, b10, b11, b12, b13, b14⟩ := idx t'
  have e : t'.val / 4 = t.val / 4 := by omega
  rw [e] at b4 b5 b6 b7
  refine ⟨funext fun y => ?_, funext fun y => ?_, funext fun y => ?_, funext fun y => ?_⟩
  · blk_ext [iblk, a4, b4]
  · blk_ext [iblk, a5, b5]
  · blk_ext [iblk, a6, b6]
  · blk_ext [iblk, a7, b7]

abbrev rows (c : Dev nD) (t : Fin cfg0.N) : Fin 4 → Vec Ideal S256x2048 .bf16 := ![iblk m c 0 t, iblk m c 1 t, iblk m c 2 t, iblk m c 3 t]
abbrev wts (c : Dev nD) (t : Fin cfg0.N) : Vec Ideal S2048x1024 .bf16 := WB (iblk m c 4 t) (iblk m c 5 t) (iblk m c 6 t) (iblk m c 7 t)

theorem fresh (c : Dev nD) (t : Fin cfg0.N) (h0 : t.val % 4 = 0) :
    outsAt0 m c t.val t.isLt = (BLK qf (rows m c t) (wts m c t), BLK kf (rows m c t) (wts m c t), BLK vf (rows m c t) (wts m c t), BLK zf (rows m c t) (wts m c t), BLK k32 (rows m c t) (wts m c t), BLK v32 (rows m c t) (wts m c t), (wts m c t)) := by
  rw [outsAt0_A m c t h0, out8_A, out9_A, out10_A, out11_A, out12_A, out13_A, scratch_A]

theorem kept (c : Dev nD) (t : Fin cfg0.N) (h0 : ¬t.val % 4 = 0) (W : Vec Ideal S2048x1024 .bf16)
    (hW : (outsAt0 m c (t.val - 1) (Nat.lt_of_le_of_lt (Nat.sub_le _ _) t.isLt)).2.2.2.2.2.2 = W) :
    outsAt0 m c t.val t.isLt = (BLK qf (rows m c t) W, BLK kf (rows m c t) W, BLK vf (rows m c t) W, BLK zf (rows m c t) W, BLK k32 (rows m c t) W, BLK v32 (rows m c t) W, W) := by
  rw [outsAt0_B m c t h0, out8_B, out9_B, out10_B, out11_B, out12_B, out13_B, sout0_B_0, hW]

/-- After every point the scratch holds the weights of the point's column block, and the output blocks are theirs. -/
theorem carried (c : Dev nD) : ∀ (n : ℕ) (h : n < cfg0.N),
    outsAt0 m c n h = (BLK qf (rows m c ⟨n, h⟩) (wts m c ⟨n, h⟩), BLK kf (rows m c ⟨n, h⟩) (wts m c ⟨n, h⟩), BLK vf (rows m c ⟨n, h⟩) (wts m c ⟨n, h⟩), BLK zf (rows m c ⟨n, h⟩) (wts m c ⟨n, h⟩), BLK k32 (rows m c ⟨n, h⟩) (wts m c ⟨n, h⟩), BLK v32 (rows m c ⟨n, h⟩) (wts m c ⟨n, h⟩), (wts m c ⟨n, h⟩)) := by
  intro n
  induction n with
  | zero => exact fun h => fresh m c ⟨0, h⟩ rfl
  | succ n ih =>
    intro h
    by_cases h0 : (n + 1) % 4 = 0
    · exact fresh m c ⟨n + 1, h⟩ h0
    · refine kept m c ⟨n + 1, h⟩ h0 _ ?_
      obtain ⟨e4, e5, e6, e7⟩ := prev m c ⟨n + 1, h⟩ ⟨n, Nat.lt_of_succ_lt h⟩ h0 rfl
      unfold wts
      rw [← e4, ← e5, ← e6, ← e7]
      exact congrArg (fun p => p.2.2.2.2.2.2) (ih (Nat.lt_of_succ_lt h))

theorem block8 (c : Dev nD) (t : Fin cfg0.N) : (outsAt0 m c t.val t.isLt).1 = BLK qf (rows m c t) (wts m c t) := by rw [carried]
theorem block9 (c : Dev nD) (t : Fin cfg0.N) : (outsAt0 m c t.val t.isLt).2.1 = BLK kf (rows m c t) (wts m c t) := by rw [carried]
theorem block10 (c : Dev nD) (t : Fin cfg0.N) : (outsAt0 m c t.val t.isLt).2.2.1 = BLK vf (rows m c t) (wts m c t) := by rw [carried]
theorem block11 (c : Dev nD) (t : Fin cfg0.N) : (outsAt0 m c t.val t.isLt).2.2.2.1 = BLK zf (rows m c t) (wts m c t) := by rw [carried]
theorem block12 (c : Dev nD) (t : Fin cfg0.N) : (outsAt0 m c t.val t.isLt).2.2.2.2.1 = BLK k32 (rows m c t) (wts m c t) := by rw [carried]
theorem block13 (c : Dev nD) (t : Fin cfg0.N) : (outsAt0 m c t.val t.isLt).2.2.2.2.2.1 = BLK v32 (rows m c t) (wts m c t) := by rw [carried]

/-! ## The arrays -/

abbrev HA (c : Dev nD) : FVec Ideal S4096x2048 .bf16 := m ((c : Thread nD τ).loc main_arg0)
abbrev WA (c : Dev nD) : FVec Ideal S1x2048x16384 .f32 := m ((c : Thread nD τ).loc main_arg1)

/-- Row `r` of the input against column `q` of the weights. -/
def proj (h : FVec Ideal S4096x2048 .bf16) (w : FVec Ideal S1x2048x16384 .f32) (r : Fin 4096) (q : ℕ) : EReal :=
  ∑ k : Fin 2048, h (ix2 r k) * w (ix3 0 k (Fin.ofNat 16384 q))

def qOf (h : FVec Ideal S4096x2048 .bf16) (w : FVec Ideal S1x2048x16384 .f32) : FVec Ideal S4096x4096 .bf16 :=
  fun y => proj h w (y 0) (y 1).val * root

def kOf (h : FVec Ideal S4096x2048 .bf16) (w : FVec Ideal S1x2048x16384 .f32) : FVec Ideal S4096x4096 .bf16 :=
  fun y => proj h w (y 0) (4096 + (y 1).val)

def vOf (h : FVec Ideal S4096x2048 .bf16) (w : FVec Ideal S1x2048x16384 .f32) : FVec Ideal S4096x4096 .bf16 :=
  fun y => proj h w (y 0) (8192 + (y 1).val)

def zOf (h : FVec Ideal S4096x2048 .bf16) (w : FVec Ideal S1x2048x16384 .f32) : FVec Ideal S4096x4096 .bf16 :=
  fun y => proj h w (y 0) (12288 + (y 1).val) * gate (proj h w (y 0) (12288 + (y 1).val))

def kkOf (h : FVec Ideal S4096x2048 .bf16) (w : FVec Ideal S1x2048x16384 .f32) : FVec Ideal S4096x4096 .f32 :=
  fun y => proj h w (y 0) (4096 + (y 1).val)

def vvOf (h : FVec Ideal S4096x2048 .bf16) (w : FVec Ideal S1x2048x16384 .f32) : FVec Ideal S4096x4096 .f32 :=
  fun y => proj h w (y 0) (8192 + (y 1).val)

theorem rows_at (c : Dev nD) (t : Fin cfg0.N) (n : Fin 4) (r : Fin 256) (k : Fin 2048) (R : Fin 4096) (hR : R.val = 1024 * (t.val % 4) + 256 * n.val + r.val) :
    rows m c t n (ix2 r k) = HA m c (ix2 R k) := by
  obtain ⟨a0, a1, a2, a3, a4, a5, a6, a7, a8, a9, a10, a11, a12, a13, a14⟩ := idx t
  have hA : HA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)
  · show iblk m c 2 t (ix2 r k) = _
    blk_ext [iblk, a2]
    all_goals (simp at hR; omega)
  · show iblk m c 3 t (ix2 r k) = _
    blk_ext [iblk, a3]
    all_goals (simp at hR; omega)

theorem wts_at (c : Dev nD) (t : Fin cfg0.N) (g : Fin 4) (k : Fin 2048) (q : Fin 256) :
    wts m c t (ix2 k (at4 g.val q)) = WA m c (ix3 0 k (Fin.ofNat 16384 (4096 * g.val + (256 * (t.val / 4) + q.val)))) := by
  obtain ⟨a0, a1, a2, a3, a4, a5, a6, a7, a8, a9, a10, a11, a12, a13, a14⟩ := idx t
  have hA : WA m c = V m c main_arg1 := (V_main_arg1 m c).symm
  rw [hA]
  have hq := q.isLt
  have hg := g.isLt
  unfold wts WB
  have h0 : (at4 g.val q).val = 256 * g.val + q.val := by simp only [at4, Fin.ofNat]; omega
  have h1 : Fin.ofNat 4 ((at4 g.val q).val / 256) = g := Fin.ext (by rw [h0]; simp only [Fin.ofNat]; omega)
  have h2 : Fin.ofNat 256 (at4 g.val q).val = q := Fin.ext (by rw [h0]; simp only [Fin.ofNat]; omega)
  show (![iblk m c 4 t, iblk m c 5 t, iblk m c 6 t, iblk m c 7 t] : Fin 4 → Vec Ideal S1x2048x256 .f32) (Fin.ofNat 4 ((at4 g.val q).val / 256)) (ix3 0 k (Fin.ofNat 256 (at4 g.val q).val)) = _
  rw [h1, h2]
  fin_cases g
  · show iblk m c 4 t (ix3 0 k q) = _
    blk_ext [iblk, a4]
    all_goals (simp [Fin.ofNat]; omega)
  · show iblk m c 5 t (ix3 0 k q) = _
    blk_ext [iblk, a5]
    all_goals (simp [Fin.ofNat]; omega)
  · show iblk m c 6 t (ix3 0 k q) = _
    blk_ext [iblk, a6]
    all_goals (simp [Fin.ofNat]; omega)
  · show iblk m c 7 t (ix3 0 k q) = _
    blk_ext [iblk, a7]
    all_goals (simp [Fin.ofNat]; omega)

theorem dot_at (c : Dev nD) (t : Fin cfg0.N) (p : Fin 1024) (g : Fin 4) (q : Fin 256) (R : Fin 4096) (hR : R.val = 1024 * (t.val % 4) + p.val) :
    dot (rows m c t (Fin.ofNat 4 (p.val / 256))) (wts m c t) (Fin.ofNat 256 p.val) (at4 g.val q)
      = proj (HA m c) (WA m c) R (4096 * g.val + (256 * (t.val / 4) + q.val)) := by
  unfold dot proj
  refine Finset.sum_congr rfl fun k _ => ?_
  rw [wts_at, rows_at m c t _ _ k R (by have := p.isLt; simp only [Fin.ofNat]; omega)]

theorem final8 (c : Dev nD) : (dats m 0 c).arrAt 8 cfg0.N = qOf (HA m c) (WA m c) := by
  refine (dats m 0 c).arrAt_eq_of_covers 8 _ (by decide +kernel) fun t _ y => ?_
  obtain ⟨a0, a1, a2, a3, a4, a5, a6, a7, a8, a9, a10, a11, a12, a13, a14⟩ := idx t
  have b0 : (((cfg0.win 8).blk t).view.emb y 0).val = 1024 * (t.val % 4) + (y 0).val := by blk_simp [a8]; omega
  have b1 : (((cfg0.win 8).blk t).view.emb y 1).val = 256 * (t.val / 4) + (y 1).val := by blk_simp [a8]; omega
  blk_simp
  rw [after0_8, block8]
  unfold BLK qf qOf
  rw [b1]
  have d0 : dot (rows m c t (Fin.ofNat 4 ((y 0).val / 256))) (wts m c t) (Fin.ofNat 256 (y 0).val) (at4 0 (y 1)) = proj (HA m c) (WA m c) ((win0_8.blk t).view.emb y 0) _ :=
    dot_at m c t (y 0) 0 (y 1) _ b0
  rw [d0]
  rw [show 4096 * ((0 : Fin 4).val) + (256 * (t.val / 4) + (y 1).val) = 256 * (t.val / 4) + (y 1).val from by simp]

theorem final9 (c : Dev nD) : (dats m 0 c).arrAt 9 cfg0.N = kOf (HA m c) (WA m c) := by
  refine (dats m 0 c).arrAt_eq_of_covers 9 _ (by decide +kernel) fun t _ y => ?_
  obtain ⟨a0, a1, a2, a3, a4, a5, a6, a7, a8, a9, a10, a11, a12, a13, a14⟩ := idx t
  have b0 : (((cfg0.win 9).blk t).view.emb y 0).val = 1024 * (t.val % 4) + (y 0).val := by blk_simp [a9]; omega
  have b1 : (((cfg0.win 9).blk t).view.emb y 1).val = 256 * (t.val / 4) + (y 1).val := by blk_simp [a9]; omega
  blk_simp
  rw [after0_9, block9]
  unfold BLK kf kOf
  rw [b1]
  have d1 : dot (rows m c t (Fin.ofNat 4 ((y 0).val / 256))) (wts m c t) (Fin.ofNat 256 (y 0).val) (at4 1 (y 1)) = proj (HA m c) (WA m c) ((win0_9.blk t).view.emb y 0) _ :=
    dot_at m c t (y 0) 1 (y 1) _ b0
  rw [d1]
  rfl

theorem final10 (c : Dev nD) : (dats m 0 c).arrAt 10 cfg0.N = vOf (HA m c) (WA m c) := by
  refine (dats m 0 c).arrAt_eq_of_covers 10 _ (by decide +kernel) fun t _ y => ?_
  obtain ⟨a0, a1, a2, a3, a4, a5, a6, a7, a8, a9, a10, a11, a12, a13, a14⟩ := idx t
  have b0 : (((cfg0.win 10).blk t).view.emb y 0).val = 1024 * (t.val % 4) + (y 0).val := by blk_simp [a10]; omega
  have b1 : (((cfg0.win 10).blk t).view.emb y 1).val = 256 * (t.val / 4) + (y 1).val := by blk_simp [a10]; omega
  blk_simp
  rw [after0_10, block10]
  unfold BLK vf vOf
  rw [b1]
  have d2 : dot (rows m c t (Fin.ofNat 4 ((y 0).val / 256))) (wts m c t) (Fin.ofNat 256 (y 0).val) (at4 2 (y 1)) = proj (HA m c) (WA m c) ((win0_10.blk t).view.emb y 0) _ :=
    dot_at m c t (y 0) 2 (y 1) _ b0
  rw [d2]
  rfl

theorem final11 (c : Dev nD) : (dats m 0 c).arrAt 11 cfg0.N = zOf (HA m c) (WA m c) := by
  refine (dats m 0 c).arrAt_eq_of_covers 11 _ (by decide +kernel) fun t _ y => ?_
  obtain ⟨a0, a1, a2, a3, a4, a5, a6, a7, a8, a9, a10, a11, a12, a13, a14⟩ := idx t
  have b0 : (((cfg0.win 11).blk t).view.emb y 0).val = 1024 * (t.val % 4) + (y 0).val := by blk_simp [a11]; omega
  have b1 : (((cfg0.win 11).blk t).view.emb y 1).val = 256 * (t.val / 4) + (y 1).val := by blk_simp [a11]; omega
  blk_simp
  rw [after0_11, block11]
  unfold BLK zf zOf
  rw [b1]
  have d3 : dot (rows m c t (Fin.ofNat 4 ((y 0).val / 256))) (wts m c t) (Fin.ofNat 256 (y 0).val) (at4 3 (y 1)) = proj (HA m c) (WA m c) ((win0_11.blk t).view.emb y 0) _ :=
    dot_at m c t (y 0) 3 (y 1) _ b0
  rw [d3]
  rfl

theorem final12 (c : Dev nD) : (dats m 0 c).arrAt 12 cfg0.N = kkOf (HA m c) (WA m c) := by
  refine (dats m 0 c).arrAt_eq_of_covers 12 _ (by decide +kernel) fun t _ y => ?_
  obtain ⟨a0, a1, a2, a3, a4, a5, a6, a7, a8, a9, a10, a11, a12, a13, a14⟩ := idx t
  have b0 : (((cfg0.win 12).blk t).view.emb y 0).val = 1024 * (t.val % 4) + (y 0).val := by blk_simp [a12]; omega
  have b1 : (((cfg0.win 12).blk t).view.emb y 1).val = 256 * (t.val / 4) + (y 1).val := by blk_simp [a12]; omega
  blk_simp
  rw [after0_12, block12]
  unfold BLK k32 kkOf
  rw [b1]
  have d1 : dot (rows m c t (Fin.ofNat 4 ((y 0).val / 256))) (wts m c t) (Fin.ofNat 256 (y 0).val) (at4 1 (y 1)) = proj (HA m c) (WA m c) ((win0_12.blk t).view.emb y 0) _ :=
    dot_at m c t (y 0) 1 (y 1) _ b0
  rw [d1]
  rfl

theorem final13 (c : Dev nD) : (dats m 0 c).arrAt 13 cfg0.N = vvOf (HA m c) (WA m c) := by
  refine (dats m 0 c).arrAt_eq_of_covers 13 _ (by decide +kernel) fun t _ y => ?_
  obtain ⟨a0, a1, a2, a3, a4, a5, a6, a7, a8, a9, a10, a11, a12, a13, a14⟩ := idx t
  have b0 : (((cfg0.win 13).blk t).view.emb y 0).val = 1024 * (t.val % 4) + (y 0).val := by blk_simp [a13]; omega
  have b1 : (((cfg0.win 13).blk t).view.emb y 1).val = 256 * (t.val / 4) + (y 1).val := by blk_simp [a13]; omega
  blk_simp
  rw [after0_13, block13]
  unfold BLK v32 vvOf
  rw [b1]
  have d2 : dot (rows m c t (Fin.ofNat 4 ((y 0).val / 256))) (wts m c t) (Fin.ofNat 256 (y 0).val) (at4 2 (y 1)) = proj (HA m c) (WA m c) ((win0_13.blk t).view.emb y 0) _ :=
    dot_at m c t (y 0) 2 (y 1) _ b0
  rw [d2]
  rfl

end Cert.Kernel3Ideal.Attn

end
-- ==== Proof.AttnResult.lean ====
module

public import proofs.«01_k».proof.Proof.Attn
public import proofs.«01_k».proof.Proof.Gen.Reference3Ideal.Run
public import proofs.«01_k».proof.Defs

/-! # The attention projections and their reference -/

@[expose] public section

set_option maxRecDepth 16384

noncomputable section

namespace Cert.Kernel3Ideal.Attn

open Idealize.ShloMosaic Idealize.ShloMosaic.TcCoe Idealize.SL.Sem
open Idealize.ShloMosaic.Pipeline (Dat)
open Cert.Kernel3Ideal Cert.Kernel3Ideal.Gen Cert.Gates

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = qOf (HA m c) (WA m c)
      ∧ r.2.mem ((c : Thread nD τ).loc main_v0_1) = kOf (HA m c) (WA m c)
      ∧ r.2.mem ((c : Thread nD τ).loc main_v0_2) = vOf (HA m c) (WA m c)
      ∧ r.2.mem ((c : Thread nD τ).loc main_v0_3) = zOf (HA m c) (WA m c)
      ∧ r.2.mem ((c : Thread nD τ).loc main_v0_4) = kkOf (HA m c) (WA m c)
      ∧ r.2.mem ((c : Thread nD τ).loc main_v0_5) = vvOf (HA m c) (WA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final8 m c), (h c).2.1.trans (final9 m c), (h c).2.2.1.trans (final10 m c), (h c).2.2.2.1.trans (final11 m c), (h c).2.2.2.2.1.trans (final12 m c), (h c).2.2.2.2.2.1.trans (final13 m c), (h c).2.2.2.2.2.2⟩)
    (Cert.Kernel3Ideal.Value.run_blocks m ρ)

/-- The reference's product, at an index. -/
theorem ref_dot (h : FVec Ideal S4096x2048 .bf16) (w : FVec Ideal S1x2048x16384 .f32) (h1) (h2) (r : Fin 4096) (q : Fin 16384) :
    Host.dotGeneral Cert.Reference3Ideal.dot_S4096x2048_S2048x16384_S4096x16384_1_0_0_1_n_n none (extf .f32 h h1)
      (shapeCast _ w h2) (ix2 r q) = proj h w r q.val := by
  unfold proj
  rw [show Fin.ofNat 16384 q.val = q from Fin.ext (Nat.mod_eq_of_lt q.isLt)]
  pointwise

/-- Kernel and reference, of the same arguments, end with the same results. -/
theorem algebraic [hR : Cert.Reference3Ideal.Facts] : Cert.algebraic_Kernel3Ideal_Reference3Ideal := by
  intro m g m' g' _ ag
  refine ⟨_, _, _, _, _, _, result m g, (θ_run Cert.Reference3Ideal.defs _ _).mono (fun r h c => ⟨?_, ?_, ?_, ?_, ?_, ?_, (h c).2.2.2.2.2.2⟩) (Cert.Reference3Ideal.Value.run (F := Ideal) m' g')⟩
  · refine (h c).1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold qOf
    pointwise
    simp only [hp, head_size, div_root]
  · refine (h c).2.1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold kOf
    pointwise
    simp only [hp]
  · refine (h c).2.2.1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold vOf
    pointwise
    simp only [hp]
  · refine (h c).2.2.2.1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold zOf gate
    pointwise
    simp only [hp]
  · refine (h c).2.2.2.2.1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold kkOf
    pointwise
    simp only [hp]
  · refine (h c).2.2.2.2.2.1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold vvOf
    pointwise
    simp only [hp]

theorem preserves : Cert.preserves_Kernel3_Kernel3Ideal :=
  ⟨IdealRules.named_const.statement Cert.Kernel3Ideal.κ "attn_scale" .f32 0x3DB504F3#32 (((Real.sqrt 128)⁻¹ : ℝ) : EReal) rfl, IdealRules.named_const.statement Cert.Kernel3Ideal.κ "neg_log2_e" .f32 0xBFB8AA3B#32 ((-((Real.log 2)⁻¹) : ℝ) : EReal) rfl⟩

end Cert.Kernel3Ideal.Attn

end
-- ==== Proof.Glu.lean ====
module

public import proofs.«01_k».proof.Proof.Gates
public import proofs.«01_k».proof.Proof.Gen.Kernel4Ideal.Value

/-! # The gated projection: one block -/

@[expose] public section

set_option maxRecDepth 16384

noncomputable section

namespace Cert.Kernel4Ideal.Glu

open Idealize.ShloMosaic Idealize.ShloMosaic.TcCoe Idealize.SL.Sem
open Idealize.ShloMosaic.Pipeline (Dat)
open Cert.Kernel4Ideal Cert.Kernel4Ideal.Gen Cert.Gates

theorem hz : (![0, 0] : Fin 2 → Nat) = fun _ => 0 := funext fun a => by fin_cases a <;> rfl
theorem hz3 : (![0, 0, 0] : Fin 3 → Nat) = fun _ => 0 := funext fun a => by fin_cases a <;> rfl

theorem scale_eq : Named.named (F := Ideal) Cert.Kernel4Ideal.κ "neg_log2_e" (φ := .f32) 0xBFB8AA3B#32 = ((-((Real.log 2)⁻¹) : ℝ) : EReal) :=
  IdealRules.named_const.ideal_named_scalar _ _ _ _ rfl

/-- Column `q` of group `g` of the block's weights, which stand side by side. -/
def at4 (g : ℕ) (q : Fin 512) : Fin 1536 := Fin.ofNat 1536 (512 * g + q.val)

/-- The three weight blocks side by side. -/
def WB (x4 x5 x6 : Vec Ideal S1x2048x512 .f32) : Vec Ideal S2048x1536 .bf16 :=
  fun y => (![x4, x5, x6] (Fin.ofNat 3 ((y 1).val / 512))) (ix3 0 (y 0) (Fin.ofNat 512 (y 1).val))

def glu (x : Vec Ideal S256x2048 .bf16) (W : Vec Ideal S2048x1536 .bf16) (r : Fin 256) (q : Fin 512) : EReal :=
  dot x W r (at4 0 q) * gate (dot x W r (at4 1 q))

def silu (x : Vec Ideal S256x2048 .bf16) (W : Vec Ideal S2048x1536 .bf16) (r : Fin 256) (q : Fin 512) : EReal :=
  dot x W r (at4 2 q) * gate (dot x W r (at4 2 q))

theorem at0 (q : Fin 512) : at4 0 q = ⟨q.val, by have := q.isLt; omega⟩ := Fin.ext (by have := q.isLt; simp only [at4, Fin.ofNat]; omega)
theorem at1 (q : Fin 512) : at4 1 q = ⟨512 + q.val, by have := q.isLt; omega⟩ := Fin.ext (by have := q.isLt; simp only [at4, Fin.ofNat]; omega)
theorem at2 (q : Fin 512) : at4 2 q = ⟨1024 + q.val, by have := q.isLt; omega⟩ := Fin.ext (by have := q.isLt; simp only [at4, Fin.ofNat]; omega)

theorem pay_glu (x : Vec Ideal S256x2048 .bf16) (W : Vec Ideal S2048x1536 .bf16) (r : Fin 256) (q : Fin 512) :
    k0_pay5 x W (ix2 r q) = glu x W r q := by
  unfold glu gate dot
  pointwise [k0_pay5, k0_pay4, scale_eq]
  rw [exp2_scaled', at0, at1]

theorem pay_silu (x : Vec Ideal S256x2048 .bf16) (W : Vec Ideal S2048x1536 .bf16) (r : Fin 256) (q : Fin 512) :
    k0_pay6 x W (ix2 r q) = silu x W r q := by
  unfold silu gate dot
  pointwise [k0_pay6, k0_pay4, scale_eq]
  rw [exp2_scaled', at2]

theorem pay_w (x : Vec Ideal S1x2048x512 .f32) (r : Fin 2048) (q : Fin 512) :
    k0_pay1 x (ix2 r q) = x (ix3 0 r q) := by
  pointwise [k0_pay1]

/-- The output blocks, from the four slabs of rows and the weights. -/
def GLU (xs : Fin 4 → Vec Ideal S256x2048 .bf16) (W : Vec Ideal S2048x1536 .bf16) : Vec Ideal S1024x512 .bf16 :=
  fun y => glu (xs (Fin.ofNat 4 ((y 0).val / 256))) W (Fin.ofNat 256 (y 0).val) (y 1)

def SILU (xs : Fin 4 → Vec Ideal S256x2048 .bf16) (W : Vec Ideal S2048x1536 .bf16) : Vec Ideal S1024x512 .bf16 :=
  fun y => silu (xs (Fin.ofNat 4 ((y 0).val / 256))) W (Fin.ofNat 256 (y 0).val) (y 1)

/-- A piece's index in the block. -/
theorem emb_slab (n : Fin 4) {o : ℕ} (ho : o = 256 * n.val) (inb) (r : Fin 256) (q : Fin 512) :
    (Rect.unit (s := S1024x512) ![o, 0] S256x512.size inb).emb (ix2 r q) = ix2 ⟨256 * n.val + r.val, by have := n.isLt; have := r.isLt; omega⟩ q := by
  subst ho
  refine funext fun a => Fin.ext ?_
  rw [Rect.emb_apply]
  fin_cases a
  · show 256 * n.val + 1 * r.val = 256 * n.val + r.val; omega
  · show 0 + 1 * q.val = q.val; omega

theorem holds_glu (xs : Fin 4 → Vec Ideal S256x2048 .bf16) (W : Vec Ideal S2048x1536 .bf16) (n : Fin 4) {o : ℕ} (ho : o = 256 * n.val) (inb)
    (x : Vec Ideal S256x2048 .bf16) (hx : x = xs n) (W' : Vec Ideal S2048x1536 .bf16) (hW : W' = W) :
    Holds (e := .bf16) (GLU xs W) ⟨Rect.unit (s := S1024x512) ![o, 0] S256x512.size inb, k0_pay5 x W'⟩ := by
  subst hx hW
  intro y
  change S256x512.Idx at y
  idx_vars y
  refine (pay_glu _ _ _ _).trans ?_
  refine Eq.trans ?_ (congrArg (GLU xs W') (emb_slab n ho inb y0 y1)).symm
  unfold GLU
  have h1 : Fin.ofNat 4 ((256 * n.val + y0.val) / 256) = n := Fin.ext (by have := n.isLt; have := y0.isLt; simp only [Fin.ofNat]; omega)
  have h2 : Fin.ofNat 256 (256 * n.val + y0.val) = y0 := Fin.ext (by have := y0.isLt; simp only [Fin.ofNat]; omega)
  show _ = glu (xs (Fin.ofNat 4 ((256 * n.val + y0.val) / 256))) W' (Fin.ofNat 256 (256 * n.val + y0.val)) y1
  rw [h1, h2]

theorem holds_silu (xs : Fin 4 → Vec Ideal S256x2048 .bf16) (W : Vec Ideal S2048x1536 .bf16) (n : Fin 4) {o : ℕ} (ho : o = 256 * n.val) (inb)
    (x : Vec Ideal S256x2048 .bf16) (hx : x = xs n) (W' : Vec Ideal S2048x1536 .bf16) (hW : W' = W) :
    Holds (e := .bf16) (SILU xs W) ⟨Rect.unit (s := S1024x512) ![o, 0] S256x512.size inb, k0_pay6 x W'⟩ := by
  subst hx hW
  intro y
  change S256x512.Idx at y
  idx_vars y
  refine (pay_silu _ _ _ _).trans ?_
  refine Eq.trans ?_ (congrArg (SILU xs W') (emb_slab n ho inb y0 y1)).symm
  unfold SILU
  have h1 : Fin.ofNat 4 ((256 * n.val + y0.val) / 256) = n := Fin.ext (by have := n.isLt; have := y0.isLt; simp only [Fin.ofNat]; omega)
  have h2 : Fin.ofNat 256 (256 * n.val + y0.val) = y0 := Fin.ext (by have := y0.isLt; simp only [Fin.ofNat]; omega)
  show _ = silu (xs (Fin.ofNat 4 ((256 * n.val + y0.val) / 256))) W' (Fin.ofNat 256 (256 * n.val + y0.val)) y1
  rw [h1, h2]

theorem holds_w (x4 x5 x6 : Vec Ideal S1x2048x512 .f32) (n : Fin 3) {o : ℕ} (ho : o = 512 * n.val) (inb)
    (x : Vec Ideal S1x2048x512 .f32) (hx : x = (![x4, x5, x6] : Fin 3 → Vec Ideal S1x2048x512 .f32) n) :
    Holds (e := .bf16) (WB x4 x5 x6) ⟨Rect.unit (s := S2048x1536) ![0, o] S2048x512.size inb, k0_pay1 x⟩ := by
  subst hx ho
  intro y
  change S2048x512.Idx at y
  idx_vars y
  refine (pay_w _ _ _).trans ?_
  have he : (Rect.unit (s := S2048x1536) ![0, 512 * n.val] S2048x512.size inb).emb (ix2 y0 y1)
      = ix2 y0 ⟨512 * n.val + y1.val, by have := n.isLt; have := y1.isLt; omega⟩ := by
    refine funext fun a => Fin.ext ?_
    rw [Rect.emb_apply]
    fin_cases a
    · show 0 + 1 * y0.val = y0.val; omega
    · show 512 * n.val + 1 * y1.val = 512 * n.val + y1.val; omega
  refine Eq.trans ?_ (congrArg (WB x4 x5 x6) he).symm
  unfold WB
  have h1 : Fin.ofNat 3 ((512 * n.val + y1.val) / 512) = n := Fin.ext (by have := n.isLt; have := y1.isLt; simp only [Fin.ofNat]; omega)
  have h2 : Fin.ofNat 512 (512 * n.val + y1.val) = y1 := Fin.ext (by have := y1.isLt; simp only [Fin.ofNat]; omega)
  show _ = (![x4, x5, x6] : Fin 3 → Vec Ideal S1x2048x512 .f32) (Fin.ofNat 3 ((512 * n.val + y1.val) / 512)) (ix3 0 y0 (Fin.ofNat 512 (512 * n.val + y1.val)))
  rw [h1, h2]

theorem read_rows {arg : Memref sig .tc .vmem S256x2048 .bf16} (harg : arg.IsWhole) (x : Vec Ideal S256x2048 .bf16) (inb) :
    View.readAt (Elt Ideal) arg.view (Rect.unit (s := S256x2048) ![0, 0] S256x2048.size inb).toLoadRect (harg.unread x) = x := by
  simp only [View.readAt_eq_ld, harg.read_unread, View.ld_unit_zero (S := S256x2048) hz]

theorem read_w {arg : Memref sig .tc .vmem S2048x1536 .bf16} (harg : arg.IsWhole) (x : Vec Ideal S2048x1536 .bf16) (inb) :
    View.readAt (Elt Ideal) arg.view (Rect.unit (s := S2048x1536) ![0, 0] S2048x1536.size inb).toLoadRect (harg.unread x) = x := by
  simp only [View.readAt_eq_ld, harg.read_unread, View.ld_unit_zero (S := S2048x1536) hz]

theorem read_wblk {arg : Memref sig .tc .vmem S1x2048x512 .f32} (harg : arg.IsWhole) (x : Vec Ideal S1x2048x512 .f32) (inb) :
    View.readAt (Elt Ideal) arg.view (Rect.unit (s := S1x2048x512) ![0, 0, 0] S1x2048x512.size inb).toLoadRect (harg.unread x) = x := by
  simp only [View.readAt_eq_ld, harg.read_unread, View.ld_unit_zero (S := S1x2048x512) hz3]

variable (c : Dev nD) (i : grid0.Coords) (arg2 : Memref sig .tc .vmem S256x2048 .bf16) (harg2 : arg2.IsWhole) (arg3 : Memref sig .tc .vmem S256x2048 .bf16) (harg3 : arg3.IsWhole) (arg4 : Memref sig .tc .vmem S256x2048 .bf16) (harg4 : arg4.IsWhole) (arg5 : Memref sig .tc .vmem S256x2048 .bf16) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1x2048x512 .f32) (harg8 : arg8.IsWhole) (arg9 : Memref sig .tc .vmem S1024x512 .bf16) (harg9 : arg9.IsWhole) (arg10 : Memref sig .tc .vmem S1024x512 .bf16) (harg10 : arg10.IsWhole) (arg11 : Memref sig .tc .vmem S2048x1536 .bf16) (harg11 : arg11.IsWhole)
  (x0 x1 x2 x3 : Vec Ideal S256x2048 .bf16) (x4 x5 x6 : Vec Ideal S1x2048x512 .f32)

theorem fill : ∀ p ∈ kernelRun0_A.sl.HS0_3 c arg6 harg6 arg7 harg7 arg8 harg8 x4 x5 x6, Holds (e := .bf16) (WB x4 x5 x6) p := by
  unfold kernelRun0_A.sl.HS0_3
  exact List.forall_mem_cons.2 ⟨holds_w x4 x5 x6 2 rfl _ _ (read_wblk harg8 x6 _), List.forall_mem_cons.2 ⟨holds_w x4 x5 x6 1 rfl _ _ (read_wblk harg7 x5 _),
    List.forall_mem_cons.2 ⟨holds_w x4 x5 x6 0 rfl _ _ (read_wblk harg6 x4 _), List.forall_mem_nil _⟩⟩⟩

theorem filled : kernelRun0_A.sl.v4 c arg6 harg6 arg7 harg7 arg8 harg8 arg11 x4 x5 x6 = WB x4 x5 x6 := by
  unfold kernelRun0_A.sl.v4
  refine (View.readAt_eq_ld ..).trans ?_
  rw [read_holds arg11.view (WB x4 x5 x6) _ _ (fill c arg6 harg6 arg7 harg7 arg8 harg8 x4 x5 x6)
    (View.cover_of_tiledL (kernelRun0_A.sl.HS0_3 c arg6 harg6 arg7 harg7 arg8 harg8 x4 x5 x6) S2048x512.size (by sl_kernel_rfl)), View.ld_unit_zero (S := S2048x1536) hz]

theorem scratch_A (hc0 : cond0_0 i) :
    sout0_A_0 c i arg2 harg2 arg3 harg3 arg4 harg4 arg5 harg5 arg6 harg6 arg7 harg7 arg8 harg8 arg9 harg9 arg10 harg10 arg11 harg11 hc0 x0 x1 x2 x3 x4 x5 x6 = WB x4 x5 x6 := by
  unfold sout0_A_0
  refine read_holds _ _ _ _ ?_ (scover0_A_0 c i arg2 harg2 arg3 harg3 arg4 harg4 arg5 harg5 arg6 harg6 arg7 harg7 arg8 harg8 arg9 harg9 arg10 harg10 arg11 harg11 hc0 x0 x1 x2 x3 x4 x5 x6)
  unfold kernelRun0_A
  dsimp only
  exact fill c arg6 harg6 arg7 harg7 arg8 harg8 x4 x5 x6

theorem out7_B (hc0 : ¬cond0_0 i) (xs0 : Vec Ideal S2048x1536 .bf16) :
    out0_B_7 c i arg2 harg2 arg3 harg3 arg4 harg4 arg5 harg5 arg6 harg6 arg7 harg7 arg8 harg8 arg9 harg9 arg10 harg10 arg11 harg11 hc0 x0 x1 x2 x3 x4 x5 x6 xs0 = GLU ![x0, x1, x2, x3] xs0 := by
  unfold out0_B_7
  refine read_holds _ _ _ _ ?_ (cover0_B_7 c i arg2 harg2 arg3 harg3 arg4 harg4 arg5 harg5 arg6 harg6 arg7 harg7 arg8 harg8 arg9 harg9 arg10 harg10 arg11 harg11 hc0 x0 x1 x2 x3 x4 x5 x6 xs0)
  unfold kernelRun0_B
  dsimp only
  exact List.forall_mem_cons.2 ⟨holds_glu _ xs0 3 rfl _ _ (read_rows harg5 x3 _) _ (read_w harg11 xs0 _),
    List.forall_mem_cons.2 ⟨holds_glu _ xs0 2 rfl _ _ (read_rows harg4 x2 _) _ (read_w harg11 xs0 _),
    List.forall_mem_cons.2 ⟨holds_glu _ xs0 1 rfl _ _ (read_rows harg3 x1 _) _ (read_w harg11 xs0 _),
    List.forall_mem_cons.2 ⟨holds_glu _ xs0 0 rfl _ _ (read_rows harg2 x0 _) _ (read_w harg11 xs0 _), List.forall_mem_nil _⟩⟩⟩⟩

theorem out7_A (hc0 : cond0_0 i) :
    out0_A_7 c i arg2 harg2 arg3 harg3 arg4 harg4 arg5 harg5 arg6 harg6 arg7 harg7 arg8 harg8 arg9 harg9 arg10 harg10 arg11 harg11 hc0 x0 x1 x2 x3 x4 x5 x6 = GLU ![x0, x1, x2, x3] (WB x4 x5 x6) := by
  unfold out0_A_7
  refine read_holds _ _ _ _ ?_ (cover0_A_7 c i arg2 harg2 arg3 harg3 arg4 harg4 arg5 harg5 arg6 harg6 arg7 harg7 arg8 harg8 arg9 harg9 arg10 harg10 arg11 harg11 hc0 x0 x1 x2 x3 x4 x5 x6)
  unfold kernelRun0_A
  dsimp only
  have hf := filled c arg6 harg6 arg7 harg7 arg8 harg8 arg11 x4 x5 x6
  exact List.forall_mem_cons.2 ⟨holds_glu _ _ 3 rfl _ _ (read_rows harg5 x3 _) _ hf,
    List.forall_mem_cons.2 ⟨holds_glu _ _ 2 rfl _ _ (read_rows harg4 x2 _) _ hf,
    List.forall_mem_cons.2 ⟨holds_glu _ _ 1 rfl _ _ (read_rows harg3 x1 _) _ hf,
    List.forall_mem_cons.2 ⟨holds_glu _ _ 0 rfl _ _ (read_rows harg2 x0 _) _ hf, List.forall_mem_nil _⟩⟩⟩⟩

theorem out8_B (hc0 : ¬cond0_0 i) (xs0 : Vec Ideal S2048x1536 .bf16) :
    out0_B_8 c i arg2 harg2 arg3 harg3 arg4 harg4 arg5 harg5 arg6 harg6 arg7 harg7 arg8 harg8 arg9 harg9 arg10 harg10 arg11 harg11 hc0 x0 x1 x2 x3 x4 x5 x6 xs0 = SILU ![x0, x1, x2, x3] xs0 := by
  unfold out0_B_8
  refine read_holds _ _ _ _ ?_ (cover0_B_8 c i arg2 harg2 arg3 harg3 arg4 harg4 arg5 harg5 arg6 harg6 arg7 harg7 arg8 harg8 arg9 harg9 arg10 harg10 arg11 harg11 hc0 x0 x1 x2 x3 x4 x5 x6 xs0)
  unfold kernelRun0_B
  dsimp only
  exact List.forall_mem_cons.2 ⟨holds_silu _ xs0 3 rfl _ _ (read_rows harg5 x3 _) _ (read_w harg11 xs0 _),
    List.forall_mem_cons.2 ⟨holds_silu _ xs0 2 rfl _ _ (read_rows harg4 x2 _) _ (read_w harg11 xs0 _),
    List.forall_mem_cons.2 ⟨holds_silu _ xs0 1 rfl _ _ (read_rows harg3 x1 _) _ (read_w harg11 xs0 _),
    List.forall_mem_cons.2 ⟨holds_silu _ xs0 0 rfl _ _ (read_rows harg2 x0 _) _ (read_w harg11 xs0 _), List.forall_mem_nil _⟩⟩⟩⟩

theorem out8_A (hc0 : cond0_0 i) :
    out0_A_8 c i arg2 harg2 arg3 harg3 arg4 harg4 arg5 harg5 arg6 harg6 arg7 harg7 arg8 harg8 arg9 harg9 arg10 harg10 arg11 harg11 hc0 x0 x1 x2 x3 x4 x5 x6 = SILU ![x0, x1, x2, x3] (WB x4 x5 x6) := by
  unfold out0_A_8
  refine read_holds _ _ _ _ ?_ (cover0_A_8 c i arg2 harg2 arg3 harg3 arg4 harg4 arg5 harg5 arg6 harg6 arg7 harg7 arg8 harg8 arg9 harg9 arg10 harg10 arg11 harg11 hc0 x0 x1 x2 x3 x4 x5 x6)
  unfold kernelRun0_A
  dsimp only
  have hf := filled c arg6 harg6 arg7 harg7 arg8 harg8 arg11 x4 x5 x6
  exact List.forall_mem_cons.2 ⟨holds_silu _ _ 3 rfl _ _ (read_rows harg5 x3 _) _ hf,
    List.forall_mem_cons.2 ⟨holds_silu _ _ 2 rfl _ _ (read_rows harg4 x2 _) _ hf,
    List.forall_mem_cons.2 ⟨holds_silu _ _ 1 rfl _ _ (read_rows harg3 x1 _) _ hf,
    List.forall_mem_cons.2 ⟨holds_silu _ _ 0 rfl _ _ (read_rows harg2 x0 _) _ hf, List.forall_mem_nil _⟩⟩⟩⟩

variable (m : (ℓ : Loc nD τ sig) → Buf (Elt Ideal) ℓ)

theorem idx : ∀ t : Fin cfg0.N, win0_0.index t = ![4 * (t.val % 16), 0] ∧ win0_1.index t = ![4 * (t.val % 16) + 1, 0]
    ∧ win0_2.index t = ![4 * (t.val % 16) + 2, 0] ∧ win0_3.index t = ![4 * (t.val % 16) + 3, 0]
    ∧ win0_4.index t = ![0, 0, t.val / 16] ∧ win0_5.index t = ![0, 0, t.val / 16 + 8] ∧ win0_6.index t = ![0, 0, t.val / 16 + 16]
    ∧ win0_7.index t = ![t.val % 16, t.val / 16] ∧ win0_8.index t = ![t.val % 16, t.val / 16] ∧ t.val / 16 < 8 :=
  (by decide +kernel : ∀ t : Fin grid0.N, _)

theorem prev (c : Dev nD) (t t' : Fin cfg0.N) (h0 : ¬t.val % 16 = 0) (ht : t'.val = t.val - 1) :
    iblk m c 4 t' = iblk m c 4 t ∧ iblk m c 5 t' = iblk m c 5 t ∧ iblk m c 6 t' = iblk m c 6 t := by
  obtain ⟨a0, a1, a2, a3, a4, a5, a6, a7, a8, a9⟩ := idx t
  obtain ⟨b0, b1, b2, b3, b4, b5, b6, b7, b8, b9⟩ := idx t'
  have e : t'.val / 16 = t.val / 16 := by omega
  rw [e] at b4 b5 b6
  refine ⟨funext fun y => ?_, funext fun y => ?_, funext fun y => ?_⟩
  · blk_ext [iblk, a4, b4]
  · blk_ext [iblk, a5, b5]
  · blk_ext [iblk, a6, b6]

abbrev rows (c : Dev nD) (t : Fin cfg0.N) : Fin 4 → Vec Ideal S256x2048 .bf16 := ![iblk m c 0 t, iblk m c 1 t, iblk m c 2 t, iblk m c 3 t]
abbrev wts (c : Dev nD) (t : Fin cfg0.N) : Vec Ideal S2048x1536 .bf16 := WB (iblk m c 4 t) (iblk m c 5 t) (iblk m c 6 t)

theorem fresh (c : Dev nD) (t : Fin cfg0.N) (h0 : t.val % 16 = 0) :
    outsAt0 m c t.val t.isLt = (GLU (rows m c t) (wts m c t), SILU (rows m c t) (wts m c t), wts m c t) := by
  rw [outsAt0_A m c t h0, out7_A, out8_A, scratch_A]

theorem kept (c : Dev nD) (t : Fin cfg0.N) (h0 : ¬t.val % 16 = 0) (W : Vec Ideal S2048x1536 .bf16)
    (hW : (outsAt0 m c (t.val - 1) (Nat.lt_of_le_of_lt (Nat.sub_le _ _) t.isLt)).2.2 = W) :
    outsAt0 m c t.val t.isLt = (GLU (rows m c t) W, SILU (rows m c t) W, W) := by
  rw [outsAt0_B m c t h0, out7_B, out8_B, sout0_B_0, hW]

/-- After every point the scratch holds the weights of the point's column block, and the output blocks are theirs. -/
theorem carried (c : Dev nD) : ∀ (n : ℕ) (h : n < cfg0.N),
    outsAt0 m c n h = (GLU (rows m c ⟨n, h⟩) (wts m c ⟨n, h⟩), SILU (rows m c ⟨n, h⟩) (wts m c ⟨n, h⟩), wts m c ⟨n, h⟩) := by
  intro n
  induction n with
  | zero => exact fun h => fresh m c ⟨0, h⟩ rfl
  | succ n ih =>
    intro h
    by_cases h0 : (n + 1) % 16 = 0
    · exact fresh m c ⟨n + 1, h⟩ h0
    · refine kept m c ⟨n + 1, h⟩ h0 _ ?_
      obtain ⟨e4, e5, e6⟩ := prev m c ⟨n + 1, h⟩ ⟨n, Nat.lt_of_succ_lt h⟩ h0 rfl
      unfold wts
      rw [← e4, ← e5, ← e6]
      exact congrArg (fun p => p.2.2) (ih (Nat.lt_of_succ_lt h))

theorem block7 (c : Dev nD) (t : Fin cfg0.N) : (outsAt0 m c t.val t.isLt).1 = GLU (rows m c t) (wts m c t) := by rw [carried]
theorem block8 (c : Dev nD) (t : Fin cfg0.N) : (outsAt0 m c t.val t.isLt).2.1 = SILU (rows m c t) (wts m c t) := by rw [carried]

/-! ## The arrays -/

abbrev HA (c : Dev nD) : FVec Ideal S16384x2048 .bf16 := m ((c : Thread nD τ).loc main_arg0)
abbrev WA (c : Dev nD) : FVec Ideal S2x2048x12288 .f32 := m ((c : Thread nD τ).loc main_arg1)

/-- Row `r` of the input against column `q` of the first layer's weights. -/
def proj (h : FVec Ideal S16384x2048 .bf16) (w : FVec Ideal S2x2048x12288 .f32) (r : Fin 16384) (q : ℕ) : EReal :=
  ∑ k : Fin 2048, h (ix2 r k) * w (ix3 0 k (Fin.ofNat 12288 q))

def gluOf (h : FVec Ideal S16384x2048 .bf16) (w : FVec Ideal S2x2048x12288 .f32) : FVec Ideal S16384x4096 .bf16 :=
  fun y => proj h w (y 0) (y 1).val * gate (proj h w (y 0) (4096 + (y 1).val))

def siluOf (h : FVec Ideal S16384x2048 .bf16) (w : FVec Ideal S2x2048x12288 .f32) : FVec Ideal S16384x4096 .bf16 :=
  fun y => proj h w (y 0) (8192 + (y 1).val) * gate (proj h w (y 0) (8192 + (y 1).val))

theorem rows_at (c : Dev nD) (t : Fin cfg0.N) (n : Fin 4) (r : Fin 256) (k : Fin 2048) (R : Fin 16384) (hR : R.val = 1024 * (t.val % 16) + 256 * n.val + r.val) :
    rows m c t n (ix2 r k) = HA m c (ix2 R k) := by
  obtain ⟨a0, a1, a2, a3, a4, a5, a6, a7, a8, a9⟩ := idx t
  have hA : HA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)
  · show iblk m c 2 t (ix2 r k) = _
    blk_ext [iblk, a2]
    all_goals (simp at hR; omega)
  · show iblk m c 3 t (ix2 r k) = _
    blk_ext [iblk, a3]
    all_goals (simp at hR; omega)

theorem wts_at (c : Dev nD) (t : Fin cfg0.N) (g : Fin 3) (k : Fin 2048) (q : Fin 512) :
    wts m c t (ix2 k (at4 g.val q)) = WA m c (ix3 0 k (Fin.ofNat 12288 (4096 * g.val + (512 * (t.val / 16) + q.val)))) := by
  obtain ⟨a0, a1, a2, a3, a4, a5, a6, a7, a8, a9⟩ := idx t
  have hA : WA m c = V m c main_arg1 := (V_main_arg1 m c).symm
  rw [hA]
  have hq := q.isLt
  have hg := g.isLt
  unfold wts WB
  have h0 : (at4 g.val q).val = 512 * g.val + q.val := by simp only [at4, Fin.ofNat]; omega
  have h1 : Fin.ofNat 3 ((at4 g.val q).val / 512) = g := Fin.ext (by rw [h0]; simp only [Fin.ofNat]; omega)
  have h2 : Fin.ofNat 512 (at4 g.val q).val = q := Fin.ext (by rw [h0]; simp only [Fin.ofNat]; omega)
  show (![iblk m c 4 t, iblk m c 5 t, iblk m c 6 t] : Fin 3 → Vec Ideal S1x2048x512 .f32) (Fin.ofNat 3 ((at4 g.val q).val / 512)) (ix3 0 k (Fin.ofNat 512 (at4 g.val q).val)) = _
  rw [h1, h2]
  fin_cases g
  · show iblk m c 4 t (ix3 0 k q) = _
    blk_ext [iblk, a4]
    all_goals (simp [Fin.ofNat]; omega)
  · show iblk m c 5 t (ix3 0 k q) = _
    blk_ext [iblk, a5]
    all_goals (simp [Fin.ofNat]; omega)
  · show iblk m c 6 t (ix3 0 k q) = _
    blk_ext [iblk, a6]
    all_goals (simp [Fin.ofNat]; omega)

theorem dot_at (c : Dev nD) (t : Fin cfg0.N) (p : Fin 1024) (g : Fin 3) (q : Fin 512) (R : Fin 16384) (hR : R.val = 1024 * (t.val % 16) + p.val) :
    dot (rows m c t (Fin.ofNat 4 (p.val / 256))) (wts m c t) (Fin.ofNat 256 p.val) (at4 g.val q)
      = proj (HA m c) (WA m c) R (4096 * g.val + (512 * (t.val / 16) + q.val)) := by
  unfold dot proj
  refine Finset.sum_congr rfl fun k _ => ?_
  rw [wts_at, rows_at m c t _ _ k R (by have := p.isLt; simp only [Fin.ofNat]; omega)]

theorem final7 (c : Dev nD) : (dats m 0 c).arrAt 7 cfg0.N = gluOf (HA m c) (WA m c) := by
  refine (dats m 0 c).arrAt_eq_of_covers 7 _ (by decide +kernel) fun t _ y => ?_
  obtain ⟨a0, a1, a2, a3, a4, a5, a6, a7, a8, a9⟩ := idx t
  have b0 : (((cfg0.win 7).blk t).view.emb y 0).val = 1024 * (t.val % 16) + (y 0).val := by blk_simp [a7]; omega
  have b1 : (((cfg0.win 7).blk t).view.emb y 1).val = 512 * (t.val / 16) + (y 1).val := by blk_simp [a7]; omega
  blk_simp
  rw [after0_7, block7]
  unfold GLU glu gluOf
  rw [b1]
  have d0 : dot (rows m c t (Fin.ofNat 4 ((y 0).val / 256))) (wts m c t) (Fin.ofNat 256 (y 0).val) (at4 0 (y 1)) = proj (HA m c) (WA m c) ((win0_7.blk t).view.emb y 0) _ :=
    dot_at m c t (y 0) 0 (y 1) _ b0
  have d1 : dot (rows m c t (Fin.ofNat 4 ((y 0).val / 256))) (wts m c t) (Fin.ofNat 256 (y 0).val) (at4 1 (y 1)) = proj (HA m c) (WA m c) ((win0_7.blk t).view.emb y 0) _ :=
    dot_at m c t (y 0) 1 (y 1) _ b0
  rw [d0, d1]
  rw [show 4096 * ((0 : Fin 3).val) + (512 * (t.val / 16) + (y 1).val) = 512 * (t.val / 16) + (y 1).val from by simp]
  rfl

theorem final8 (c : Dev nD) : (dats m 0 c).arrAt 8 cfg0.N = siluOf (HA m c) (WA m c) := by
  refine (dats m 0 c).arrAt_eq_of_covers 8 _ (by decide +kernel) fun t _ y => ?_
  obtain ⟨a0, a1, a2, a3, a4, a5, a6, a7, a8, a9⟩ := idx t
  have b0 : (((cfg0.win 8).blk t).view.emb y 0).val = 1024 * (t.val % 16) + (y 0).val := by blk_simp [a8]; omega
  have b1 : (((cfg0.win 8).blk t).view.emb y 1).val = 512 * (t.val / 16) + (y 1).val := by blk_simp [a8]; omega
  blk_simp
  rw [after0_8, block8]
  unfold SILU silu siluOf
  rw [b1]
  have d2 : dot (rows m c t (Fin.ofNat 4 ((y 0).val / 256))) (wts m c t) (Fin.ofNat 256 (y 0).val) (at4 2 (y 1)) = proj (HA m c) (WA m c) ((win0_8.blk t).view.emb y 0) _ :=
    dot_at m c t (y 0) 2 (y 1) _ b0
  rw [d2]
  rfl

end Cert.Kernel4Ideal.Glu

end
-- ==== Proof.GluResult.lean ====
module

public import proofs.«01_k».proof.Proof.Glu
public import proofs.«01_k».proof.Proof.Gen.Reference4Ideal.Run
public import proofs.«01_k».proof.Defs

/-! # The gated projection and its reference -/

@[expose] public section

set_option maxRecDepth 16384

noncomputable section

namespace Cert.Kernel4Ideal.Glu

open Idealize.ShloMosaic Idealize.ShloMosaic.TcCoe Idealize.SL.Sem
open Idealize.ShloMosaic.Pipeline (Dat)
open Cert.Kernel4Ideal Cert.Kernel4Ideal.Gen Cert.Gates

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = gluOf (HA m c) (WA m c)
      ∧ r.2.mem ((c : Thread nD τ).loc main_v0_1) = siluOf (HA m c) (WA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final7 m c), (h c).2.1.trans (final8 m c), (h c).2.2⟩)
    (Cert.Kernel4Ideal.Value.run_blocks m ρ)

/-- Kernel and reference, of the same arguments, end with the same results. -/
theorem algebraic [hR : Cert.Reference4Ideal.Facts] : Cert.algebraic_Kernel4Ideal_Reference4Ideal := by
  intro m g m' g' _ ag
  refine ⟨_, _, result m g, (θ_run Cert.Reference4Ideal.defs _ _).mono (fun r h c => ⟨?_, ?_, (h c).2.2⟩) (Cert.Reference4Ideal.Value.run (F := Ideal) m' g')⟩
  · refine (h c).1.trans ?_
    rw [(ag c).1, (ag c).2]
    funext y
    idx_vars y
    unfold gluOf gate proj
    pointwise
    simp only [fin_eq (N := 12288) y1.val, fin_eq (N := 12288) (4096 + y1.val)]
  · refine (h c).2.1.trans ?_
    rw [(ag c).1, (ag c).2]
    funext y
    idx_vars y
    unfold siluOf gate proj
    pointwise
    simp only [fin_eq (N := 12288) (8192 + y1.val)]

theorem preserves : Cert.preserves_Kernel4_Kernel4Ideal :=
  IdealRules.named_const.statement Cert.Kernel4Ideal.κ "neg_log2_e" .f32 0xBFB8AA3B#32 ((-((Real.log 2)⁻¹) : ℝ) : EReal) rfl

end Cert.Kernel4Ideal.Glu

end
-- ==== Proof.Gated.lean ====
module

public import proofs.«01_k».proof.Proof.Gates
public import proofs.«01_k».proof.Proof.Gen.Kernel5Ideal.Value

/-! # The gated products: one block -/

@[expose] public section

set_option maxRecDepth 16384

noncomputable section

namespace Cert.Kernel5Ideal.Gated

open Idealize.ShloMosaic Idealize.ShloMosaic.TcCoe Idealize.SL.Sem
open Idealize.ShloMosaic.Pipeline (Dat)
open Cert.Kernel5Ideal Cert.Kernel5Ideal.Gen Cert.Gates

theorem hz : (![0, 0] : Fin 2 → Nat) = fun _ => 0 := funext fun a => by fin_cases a <;> rfl
theorem hz3 : (![0, 0, 0] : Fin 3 → Nat) = fun _ => 0 := funext fun a => by fin_cases a <;> rfl

theorem scale_eq : Named.named (F := Ideal) Cert.Kernel5Ideal.κ "neg_log2_e" (φ := .f32) 0xBFB8AA3B#32 = ((-((Real.log 2)⁻¹) : ℝ) : EReal) :=
  IdealRules.named_const.ideal_named_scalar _ _ _ _ rfl

/-- Column `q` of group `g` of the block's weights, which stand side by side. -/
def at4 (g : ℕ) (q : Fin 256) : Fin 1024 := Fin.ofNat 1024 (256 * g + q.val)

/-- The four weight blocks side by side. -/
def WB (x4 x5 x6 x7 : Vec Ideal S1x2048x256 .f32) : Vec Ideal S2048x1024 .bf16 :=
  fun y => (![x4, x5, x6, x7] (Fin.ofNat 4 ((y 1).val / 256))) (ix3 0 (y 0) (Fin.ofNat 256 (y 1).val))

def uf (x : Vec Ideal S512x2048 .bf16) (W : Vec Ideal S2048x1024 .bf16) (r : Fin 512) (q : Fin 256) : EReal :=
  dot x W r (at4 1 q) * dot x W r (at4 2 q)

def hf (x : Vec Ideal S512x2048 .bf16) (W : Vec Ideal S2048x1024 .bf16) (r : Fin 512) (q : Fin 256) : EReal :=
  dot x W r (at4 0 q) * (dot x W r (at4 3 q) * gate (dot x W r (at4 3 q)))

theorem at0 (q : Fin 256) : at4 0 q = ⟨q.val, by have := q.isLt; omega⟩ := Fin.ext (by have := q.isLt; simp only [at4, Fin.ofNat]; omega)
theorem at1 (q : Fin 256) : at4 1 q = ⟨256 + q.val, by have := q.isLt; omega⟩ := Fin.ext (by have := q.isLt; simp only [at4, Fin.ofNat]; omega)
theorem at2 (q : Fin 256) : at4 2 q = ⟨512 + q.val, by have := q.isLt; omega⟩ := Fin.ext (by have := q.isLt; simp only [at4, Fin.ofNat]; omega)
theorem at3 (q : Fin 256) : at4 3 q = ⟨768 + q.val, by have := q.isLt; omega⟩ := Fin.ext (by have := q.isLt; simp only [at4, Fin.ofNat]; omega)

theorem pay_uf (x : Vec Ideal S512x2048 .bf16) (W : Vec Ideal S2048x1024 .bf16) (r : Fin 512) (q : Fin 256) :
    k0_pay9 x W (ix2 r q) = uf x W r q := by
  unfold uf dot
  pointwise [k0_pay9, k0_pay8]
  rw [at1, at2]

theorem pay_hf (x : Vec Ideal S512x2048 .bf16) (W : Vec Ideal S2048x1024 .bf16) (r : Fin 512) (q : Fin 256) :
    k0_pay10 x W (ix2 r q) = hf x W r q := by
  unfold hf gate dot
  pointwise [k0_pay10, k0_pay8, scale_eq]
  rw [exp2_scaled', at0, at3]

theorem pay_w (x : Vec Ideal S1x2048x256 .f32) (r : Fin 2048) (q : Fin 256) :
    k0_pay4 x (ix2 r q) = x (ix3 0 r q) := by
  pointwise [k0_pay4]

/-- A block of an output, from the four slabs of rows and the weights: `f` is what the output is made of. -/
def BLK (f : Vec Ideal S512x2048 .bf16 → Vec Ideal S2048x1024 .bf16 → Fin 512 → Fin 256 → EReal)
    (xs : Fin 4 → Vec Ideal S512x2048 .bf16) (W : Vec Ideal S2048x1024 .bf16) : S2048x256.Idx → EReal :=
  fun y => f (xs (Fin.ofNat 4 ((y 0).val / 512))) W (Fin.ofNat 512 (y 0).val) (y 1)

/-- A piece's index in the block. -/
theorem emb_slab (n : Fin 4) {o : ℕ} (ho : o = 512 * n.val) (inb) (r : Fin 512) (q : Fin 256) :
    (Rect.unit (s := S2048x256) ![o, 0] S512x256.size inb).emb (ix2 r q) = ix2 ⟨512 * n.val + r.val, by have := n.isLt; have := r.isLt; omega⟩ q := by
  subst ho
  refine funext fun a => Fin.ext ?_
  rw [Rect.emb_apply]
  fin_cases a
  · show 512 * n.val + 1 * r.val = 512 * n.val + r.val; omega
  · show 0 + 1 * q.val = q.val; omega

theorem blk_slab (f : Vec Ideal S512x2048 .bf16 → Vec Ideal S2048x1024 .bf16 → Fin 512 → Fin 256 → EReal) (xs : Fin 4 → Vec Ideal S512x2048 .bf16)
    (W : Vec Ideal S2048x1024 .bf16) (n : Fin 4) {o : ℕ} (ho : o = 512 * n.val) (inb) (r : Fin 512) (q : Fin 256) :
    f (xs n) W r q = BLK f xs W ((Rect.unit (s := S2048x256) ![o, 0] S512x256.size inb).emb (ix2 r q)) := by
  refine Eq.trans ?_ (congrArg (BLK f xs W) (emb_slab n ho inb r q)).symm
  unfold BLK
  have h1 : Fin.ofNat 4 ((512 * n.val + r.val) / 512) = n := Fin.ext (by have := n.isLt; have := r.isLt; simp only [Fin.ofNat]; omega)
  have h2 : Fin.ofNat 512 (512 * n.val + r.val) = r := Fin.ext (by have := r.isLt; simp only [Fin.ofNat]; omega)
  show _ = f (xs (Fin.ofNat 4 ((512 * n.val + r.val) / 512))) W (Fin.ofNat 512 (512 * n.val + r.val)) q
  rw [h1, h2]

theorem holds_uf (xs : Fin 4 → Vec Ideal S512x2048 .bf16) (W : Vec Ideal S2048x1024 .bf16) (n : Fin 4) {o : ℕ} (ho : o = 512 * n.val) (inb)
    (x : Vec Ideal S512x2048 .bf16) (hx : x = xs n) (W' : Vec Ideal S2048x1024 .bf16) (hW : W' = W) :
    Holds (e := .bf16) (BLK uf xs W) ⟨Rect.unit (s := S2048x256) ![o, 0] S512x256.size inb, k0_pay9 x W'⟩ := by
  subst hx hW
  intro y
  change S512x256.Idx at y
  idx_vars y
  exact (pay_uf _ _ _ _).trans (blk_slab uf xs W' n ho inb y0 y1)

theorem holds_hf (xs : Fin 4 → Vec Ideal S512x2048 .bf16) (W : Vec Ideal S2048x1024 .bf16) (n : Fin 4) {o : ℕ} (ho : o = 512 * n.val) (inb)
    (x : Vec Ideal S512x2048 .bf16) (hx : x = xs n) (W' : Vec Ideal S2048x1024 .bf16) (hW : W' = W) :
    Holds (e := .bf16) (BLK hf xs W) ⟨Rect.unit (s := S2048x256) ![o, 0] S512x256.size inb, k0_pay10 x W'⟩ := by
  subst hx hW
  intro y
  change S512x256.Idx at y
  idx_vars y
  exact (pay_hf _ _ _ _).trans (blk_slab hf xs W' n ho inb y0 y1)

theorem holds_w (x4 x5 x6 x7 : Vec Ideal S1x2048x256 .f32) (n : Fin 4) {o : ℕ} (ho : o = 256 * n.val) (inb)
    (x : Vec Ideal S1x2048x256 .f32) (hx : x = (![x4, x5, x6, x7] : Fin 4 → Vec Ideal S1x2048x256 .f32) n) :
    Holds (e := .bf16) (WB x4 x5 x6 x7) ⟨Rect.unit (s := S2048x1024) ![0, o] S2048x256.size inb, k0_pay4 x⟩ := by
  subst hx ho
  intro y
  change S2048x256.Idx at y
  idx_vars y
  refine (pay_w _ _ _).trans ?_
  have he : (Rect.unit (s := S2048x1024) ![0, 256 * n.val] S2048x256.size inb).emb (ix2 y0 y1)
      = ix2 y0 ⟨256 * n.val + y1.val, by have := n.isLt; have := y1.isLt; omega⟩ := by
    refine funext fun a => Fin.ext ?_
    rw [Rect.emb_apply]
    fin_cases a
    · show 0 + 1 * y0.val = y0.val; omega
    · show 256 * n.val + 1 * y1.val = 256 * n.val + y1.val; omega
  refine Eq.trans ?_ (congrArg (WB x4 x5 x6 x7) he).symm
  unfold WB
  have h1 : Fin.ofNat 4 ((256 * n.val + y1.val) / 256) = n := Fin.ext (by have := n.isLt; have := y1.isLt; simp only [Fin.ofNat]; omega)
  have h2 : Fin.ofNat 256 (256 * n.val + y1.val) = y1 := Fin.ext (by have := y1.isLt; simp only [Fin.ofNat]; omega)
  show _ = (![x4, x5, x6, x7] : Fin 4 → Vec Ideal S1x2048x256 .f32) (Fin.ofNat 4 ((256 * n.val + y1.val) / 256)) (ix3 0 y0 (Fin.ofNat 256 (256 * n.val + y1.val)))
  rw [h1, h2]

theorem read_rows {arg : Memref sig .tc .vmem S512x2048 .bf16} (harg : arg.IsWhole) (x : Vec Ideal S512x2048 .bf16) (inb) :
    View.readAt (Elt Ideal) arg.view (Rect.unit (s := S512x2048) ![0, 0] S512x2048.size inb).toLoadRect (harg.unread x) = x := by
  simp only [View.readAt_eq_ld, harg.read_unread, View.ld_unit_zero (S := S512x2048) hz]

theorem read_w {arg : Memref sig .tc .vmem S2048x1024 .bf16} (harg : arg.IsWhole) (x : Vec Ideal S2048x1024 .bf16) (inb) :
    View.readAt (Elt Ideal) arg.view (Rect.unit (s := S2048x1024) ![0, 0] S2048x1024.size inb).toLoadRect (harg.unread x) = x := by
  simp only [View.readAt_eq_ld, harg.read_unread, View.ld_unit_zero (S := S2048x1024) hz]

theorem read_wblk {arg : Memref sig .tc .vmem S1x2048x256 .f32} (harg : arg.IsWhole) (x : Vec Ideal S1x2048x256 .f32) (inb) :
    View.readAt (Elt Ideal) arg.view (Rect.unit (s := S1x2048x256) ![0, 0, 0] S1x2048x256.size inb).toLoadRect (harg.unread x) = x := by
  simp only [View.readAt_eq_ld, harg.read_unread, View.ld_unit_zero (S := S1x2048x256) hz3]

variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x1024 .bf16) (harg12 : arg12.IsWhole)
  (x0 x1 x2 x3 : Vec Ideal S512x2048 .bf16) (x4 x5 x6 x7 : Vec Ideal S1x2048x256 .f32)

theorem fill : ∀ p ∈ kernelRun0_A.sl.HS0_4 c arg6 harg6 arg7 harg7 arg8 harg8 arg9 harg9 x4 x5 x6 x7, Holds (e := .bf16) (WB x4 x5 x6 x7) p := by
  unfold kernelRun0_A.sl.HS0_4
  exact List.forall_mem_cons.2 ⟨holds_w x4 x5 x6 x7 3 rfl _ _ (read_wblk harg9 x7 _), List.forall_mem_cons.2 ⟨holds_w x4 x5 x6 x7 2 rfl _ _ (read_wblk harg8 x6 _), List.forall_mem_cons.2 ⟨holds_w x4 x5 x6 x7 1 rfl _ _ (read_wblk harg7 x5 _),
    List.forall_mem_cons.2 ⟨holds_w x4 x5 x6 x7 0 rfl _ _ (read_wblk harg6 x4 _), List.forall_mem_nil _⟩⟩⟩⟩

theorem filled : kernelRun0_A.sl.v4 c arg6 harg6 arg7 harg7 arg8 harg8 arg9 harg9 arg12 x4 x5 x6 x7 = WB x4 x5 x6 x7 := by
  unfold kernelRun0_A.sl.v4
  refine (View.readAt_eq_ld ..).trans ?_
  rw [read_holds arg12.view (WB x4 x5 x6 x7) _ _ (fill c arg6 harg6 arg7 harg7 arg8 harg8 arg9 harg9 x4 x5 x6 x7)
    (View.cover_of_tiledL (kernelRun0_A.sl.HS0_4 c arg6 harg6 arg7 harg7 arg8 harg8 arg9 harg9 x4 x5 x6 x7) S2048x256.size (by sl_kernel_rfl)), View.ld_unit_zero (S := S2048x1024) hz]

theorem scratch_A (hc0 : cond0_0 i) :
    sout0_A_0 c i arg2 harg2 arg3 harg3 arg4 harg4 arg5 harg5 arg6 harg6 arg7 harg7 arg8 harg8 arg9 harg9 arg10 harg10 arg11 harg11 arg12 harg12 hc0 x0 x1 x2 x3 x4 x5 x6 x7 = WB x4 x5 x6 x7 := by
  unfold sout0_A_0
  refine read_holds _ _ _ _ ?_ (scover0_A_0 c i arg2 harg2 arg3 harg3 arg4 harg4 arg5 harg5 arg6 harg6 arg7 harg7 arg8 harg8 arg9 harg9 arg10 harg10 arg11 harg11 arg12 harg12 hc0 x0 x1 x2 x3 x4 x5 x6 x7)
  unfold kernelRun0_A
  dsimp only
  exact fill c arg6 harg6 arg7 harg7 arg8 harg8 arg9 harg9 x4 x5 x6 x7

theorem out8_B (hc0 : ¬cond0_0 i) (xs0 : Vec Ideal S2048x1024 .bf16) :
    out0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0 = BLK uf ![x0, x1, x2, x3] xs0 := by
  unfold out0_B_8
  refine read_holds _ _ _ _ ?_ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 x7 xs0)
  unfold kernelRun0_B
  dsimp only
  exact List.forall_mem_cons.2 ⟨holds_uf _ xs0 3 rfl _ _ (read_rows harg5 x3 _) _ (read_w harg12 xs0 _),
    List.forall_mem_cons.2 ⟨holds_uf _ xs0 2 rfl _ _ (read_rows harg4 x2 _) _ (read_w harg12 xs0 _),
    List.forall_mem_cons.2 ⟨holds_uf _ xs0 1 rfl _ _ (read_rows harg3 x1 _) _ (read_w harg12 xs0 _),
    List.forall_mem_cons.2 ⟨holds_uf _ xs0 0 rfl _ _ (read_rows harg2 x0 _) _ (read_w harg12 xs0 _), List.forall_mem_nil _⟩⟩⟩⟩

theorem out8_A (hc0 : cond0_0 i) :
    out0_A_8 c i arg2 harg2 arg3 harg3 arg4 harg4 arg5 harg5 arg6 harg6 arg7 harg7 arg8 harg8 arg9 harg9 arg10 harg10 arg11 harg11 arg12 harg12 hc0 x0 x1 x2 x3 x4 x5 x6 x7 = BLK uf ![x0, x1, x2, x3] (WB x4 x5 x6 x7) := by
  unfold out0_A_8
  refine read_holds _ _ _ _ ?_ (cover0_A_8 c i arg2 harg2 arg3 harg3 arg4 harg4 arg5 harg5 arg6 harg6 arg7 harg7 arg8 harg8 arg9 harg9 arg10 harg10 arg11 harg11 arg12 harg12 hc0 x0 x1 x2 x3 x4 x5 x6 x7)
  unfold kernelRun0_A
  dsimp only
  have hf := filled c arg6 harg6 arg7 harg7 arg8 harg8 arg9 harg9 arg12 x4 x5 x6 x7
  exact List.forall_mem_cons.2 ⟨holds_uf _ _ 3 rfl _ _ (read_rows harg5 x3 _) _ hf,
    List.forall_mem_cons.2 ⟨holds_uf _ _ 2 rfl _ _ (read_rows harg4 x2 _) _ hf,
    List.forall_mem_cons.2 ⟨holds_uf _ _ 1 rfl _ _ (read_rows harg3 x1 _) _ hf,
    List.forall_mem_cons.2 ⟨holds_uf _ _ 0 rfl _ _ (read_rows harg2 x0 _) _ hf, List.forall_mem_nil _⟩⟩⟩⟩

theorem out9_B (hc0 : ¬cond0_0 i) (xs0 : Vec Ideal S2048x1024 .bf16) :
    out0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xs0 = BLK hf ![x0, x1, x2, x3] xs0 := by
  unfold out0_B_9
  refine read_holds _ _ _ _ ?_ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 x7 xs0)
  unfold kernelRun0_B
  dsimp only
  exact List.forall_mem_cons.2 ⟨holds_hf _ xs0 3 rfl _ _ (read_rows harg5 x3 _) _ (read_w harg12 xs0 _),
    List.forall_mem_cons.2 ⟨holds_hf _ xs0 2 rfl _ _ (read_rows harg4 x2 _) _ (read_w harg12 xs0 _),
    List.forall_mem_cons.2 ⟨holds_hf _ xs0 1 rfl _ _ (read_rows harg3 x1 _) _ (read_w harg12 xs0 _),
    List.forall_mem_cons.2 ⟨holds_hf _ xs0 0 rfl _ _ (read_rows harg2 x0 _) _ (read_w harg12 xs0 _), List.forall_mem_nil _⟩⟩⟩⟩

theorem out9_A (hc0 : cond0_0 i) :
    out0_A_9 c i arg2 harg2 arg3 harg3 arg4 harg4 arg5 harg5 arg6 harg6 arg7 harg7 arg8 harg8 arg9 harg9 arg10 harg10 arg11 harg11 arg12 harg12 hc0 x0 x1 x2 x3 x4 x5 x6 x7 = BLK hf ![x0, x1, x2, x3] (WB x4 x5 x6 x7) := by
  unfold out0_A_9
  refine read_holds _ _ _ _ ?_ (cover0_A_9 c i arg2 harg2 arg3 harg3 arg4 harg4 arg5 harg5 arg6 harg6 arg7 harg7 arg8 harg8 arg9 harg9 arg10 harg10 arg11 harg11 arg12 harg12 hc0 x0 x1 x2 x3 x4 x5 x6 x7)
  unfold kernelRun0_A
  dsimp only
  have hf := filled c arg6 harg6 arg7 harg7 arg8 harg8 arg9 harg9 arg12 x4 x5 x6 x7
  exact List.forall_mem_cons.2 ⟨holds_hf _ _ 3 rfl _ _ (read_rows harg5 x3 _) _ hf,
    List.forall_mem_cons.2 ⟨holds_hf _ _ 2 rfl _ _ (read_rows harg4 x2 _) _ hf,
    List.forall_mem_cons.2 ⟨holds_hf _ _ 1 rfl _ _ (read_rows harg3 x1 _) _ hf,
    List.forall_mem_cons.2 ⟨holds_hf _ _ 0 rfl _ _ (read_rows harg2 x0 _) _ hf, List.forall_mem_nil _⟩⟩⟩⟩

variable (m : (ℓ : Loc nD τ sig) → Buf (Elt Ideal) ℓ)

theorem idx : ∀ t : Fin cfg0.N, win0_0.index t = ![4 * (t.val % 8), 0] ∧ win0_1.index t = ![4 * (t.val % 8) + 1, 0] ∧ win0_2.index t = ![4 * (t.val % 8) + 2, 0] ∧ win0_3.index t = ![4 * (t.val % 8) + 3, 0]
    ∧ win0_4.index t = ![0, 0, t.val / 8] ∧ win0_5.index t = ![0, 0, t.val / 8 + 16] ∧ win0_6.index t = ![0, 0, t.val / 8 + 32] ∧ win0_7.index t = ![0, 0, t.val / 8 + 48]
    ∧ win0_8.index t = ![t.val % 8, t.val / 8] ∧ win0_9.index t = ![t.val % 8, t.val / 8] ∧ t.val / 8 < 16 :=
  (by decide +kernel : ∀ t : Fin grid0.N, _)

theorem prev (c : Dev nD) (t t' : Fin cfg0.N) (h0 : ¬t.val % 8 = 0) (ht : t'.val = t.val - 1) :
    iblk m c 4 t' = iblk m c 4 t ∧ iblk m c 5 t' = iblk m c 5 t ∧ iblk m c 6 t' = iblk m c 6 t ∧ iblk m c 7 t' = iblk m c 7 t := by
  obtain ⟨a0, a1, a2, a3, a4, a5, a6, a7, a8, a9, a10⟩ := idx t
  obtain ⟨b0, b1, b2, b3, b4, b5, b6, b7, b8, b9, b10⟩ := idx t'
  have e : t'.val / 8 = t.val / 8 := by omega
  rw [e] at b4 b5 b6 b7
  refine ⟨funext fun y => ?_, funext fun y => ?_, funext fun y => ?_, funext fun y => ?_⟩
  · blk_ext [iblk, a4, b4]
  · blk_ext [iblk, a5, b5]
  · blk_ext [iblk, a6, b6]
  · blk_ext [iblk, a7, b7]

abbrev rows (c : Dev nD) (t : Fin cfg0.N) : Fin 4 → Vec Ideal S512x2048 .bf16 := ![iblk m c 0 t, iblk m c 1 t, iblk m c 2 t, iblk m c 3 t]
abbrev wts (c : Dev nD) (t : Fin cfg0.N) : Vec Ideal S2048x1024 .bf16 := WB (iblk m c 4 t) (iblk m c 5 t) (iblk m c 6 t) (iblk m c 7 t)

theorem fresh (c : Dev nD) (t : Fin cfg0.N) (h0 : t.val % 8 = 0) :
    outsAt0 m c t.val t.isLt = (BLK uf (rows m c t) (wts m c t), BLK hf (rows m c t) (wts m c t), (wts m c t)) := by
  rw [outsAt0_A m c t h0, out8_A, out9_A, scratch_A]

theorem kept (c : Dev nD) (t : Fin cfg0.N) (h0 : ¬t.val % 8 = 0) (W : Vec Ideal S2048x1024 .bf16)
    (hW : (outsAt0 m c (t.val - 1) (Nat.lt_of_le_of_lt (Nat.sub_le _ _) t.isLt)).2.2 = W) :
    outsAt0 m c t.val t.isLt = (BLK uf (rows m c t) W, BLK hf (rows m c t) W, W) := by
  rw [outsAt0_B m c t h0, out8_B, out9_B, sout0_B_0, hW]

/-- After every point the scratch holds the weights of the point's column block, and the output blocks are theirs. -/
theorem carried (c : Dev nD) : ∀ (n : ℕ) (h : n < cfg0.N),
    outsAt0 m c n h = (BLK uf (rows m c ⟨n, h⟩) (wts m c ⟨n, h⟩), BLK hf (rows m c ⟨n, h⟩) (wts m c ⟨n, h⟩), (wts m c ⟨n, h⟩)) := by
  intro n
  induction n with
  | zero => exact fun h => fresh m c ⟨0, h⟩ rfl
  | succ n ih =>
    intro h
    by_cases h0 : (n + 1) % 8 = 0
    · exact fresh m c ⟨n + 1, h⟩ h0
    · refine kept m c ⟨n + 1, h⟩ h0 _ ?_
      obtain ⟨e4, e5, e6, e7⟩ := prev m c ⟨n + 1, h⟩ ⟨n, Nat.lt_of_succ_lt h⟩ h0 rfl
      unfold wts
      rw [← e4, ← e5, ← e6, ← e7]
      exact congrArg (fun p => p.2.2) (ih (Nat.lt_of_succ_lt h))

theorem block8 (c : Dev nD) (t : Fin cfg0.N) : (outsAt0 m c t.val t.isLt).1 = BLK uf (rows m c t) (wts m c t) := by rw [carried]
theorem block9 (c : Dev nD) (t : Fin cfg0.N) : (outsAt0 m c t.val t.isLt).2.1 = BLK hf (rows m c t) (wts m c t) := by rw [carried]

/-! ## The arrays -/

abbrev HA (c : Dev nD) : FVec Ideal S16384x2048 .bf16 := m ((c : Thread nD τ).loc main_arg0)
abbrev WA (c : Dev nD) : FVec Ideal S1x2048x16384 .f32 := m ((c : Thread nD τ).loc main_arg1)

/-- Row `r` of the input against column `q` of the weights. -/
def proj (h : FVec Ideal S16384x2048 .bf16) (w : FVec Ideal S1x2048x16384 .f32) (r : Fin 16384) (q : ℕ) : EReal :=
  ∑ k : Fin 2048, h (ix2 r k) * w (ix3 0 k (Fin.ofNat 16384 q))

def cvOf (h : FVec Ideal S16384x2048 .bf16) (w : FVec Ideal S1x2048x16384 .f32) : FVec Ideal S16384x4096 .bf16 :=
  fun y => proj h w (y 0) (4096 + (y 1).val) * proj h w (y 0) (8192 + (y 1).val)

def bzOf (h : FVec Ideal S16384x2048 .bf16) (w : FVec Ideal S1x2048x16384 .f32) : FVec Ideal S16384x4096 .bf16 :=
  fun y => proj h w (y 0) (y 1).val * (proj h w (y 0) (12288 + (y 1).val) * gate (proj h w (y 0) (12288 + (y 1).val)))

theorem rows_at (c : Dev nD) (t : Fin cfg0.N) (n : Fin 4) (r : Fin 512) (k : Fin 2048) (R : Fin 16384) (hR : R.val = 2048 * (t.val % 8) + 512 * n.val + r.val) :
    rows m c t n (ix2 r k) = HA m c (ix2 R k) := by
  obtain ⟨a0, a1, a2, a3, a4, a5, a6, a7, a8, a9, a10⟩ := idx t
  have hA : HA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)
  · show iblk m c 2 t (ix2 r k) = _
    blk_ext [iblk, a2]
    all_goals (simp at hR; omega)
  · show iblk m c 3 t (ix2 r k) = _
    blk_ext [iblk, a3]
    all_goals (simp at hR; omega)

theorem wts_at (c : Dev nD) (t : Fin cfg0.N) (g : Fin 4) (k : Fin 2048) (q : Fin 256) :
    wts m c t (ix2 k (at4 g.val q)) = WA m c (ix3 0 k (Fin.ofNat 16384 (4096 * g.val + (256 * (t.val / 8) + q.val)))) := by
  obtain ⟨a0, a1, a2, a3, a4, a5, a6, a7, a8, a9, a10⟩ := idx t
  have hA : WA m c = V m c main_arg1 := (V_main_arg1 m c).symm
  rw [hA]
  have hq := q.isLt
  have hg := g.isLt
  unfold wts WB
  have h0 : (at4 g.val q).val = 256 * g.val + q.val := by simp only [at4, Fin.ofNat]; omega
  have h1 : Fin.ofNat 4 ((at4 g.val q).val / 256) = g := Fin.ext (by rw [h0]; simp only [Fin.ofNat]; omega)
  have h2 : Fin.ofNat 256 (at4 g.val q).val = q := Fin.ext (by rw [h0]; simp only [Fin.ofNat]; omega)
  show (![iblk m c 4 t, iblk m c 5 t, iblk m c 6 t, iblk m c 7 t] : Fin 4 → Vec Ideal S1x2048x256 .f32) (Fin.ofNat 4 ((at4 g.val q).val / 256)) (ix3 0 k (Fin.ofNat 256 (at4 g.val q).val)) = _
  rw [h1, h2]
  fin_cases g
  · show iblk m c 4 t (ix3 0 k q) = _
    blk_ext [iblk, a4]
    all_goals (simp [Fin.ofNat]; omega)
  · show iblk m c 5 t (ix3 0 k q) = _
    blk_ext [iblk, a5]
    all_goals (simp [Fin.ofNat]; omega)
  · show iblk m c 6 t (ix3 0 k q) = _
    blk_ext [iblk, a6]
    all_goals (simp [Fin.ofNat]; omega)
  · show iblk m c 7 t (ix3 0 k q) = _
    blk_ext [iblk, a7]
    all_goals (simp [Fin.ofNat]; omega)

theorem dot_at (c : Dev nD) (t : Fin cfg0.N) (p : Fin 2048) (g : Fin 4) (q : Fin 256) (R : Fin 16384) (hR : R.val = 2048 * (t.val % 8) + p.val) :
    dot (rows m c t (Fin.ofNat 4 (p.val / 512))) (wts m c t) (Fin.ofNat 512 p.val) (at4 g.val q)
      = proj (HA m c) (WA m c) R (4096 * g.val + (256 * (t.val / 8) + q.val)) := by
  unfold dot proj
  refine Finset.sum_congr rfl fun k _ => ?_
  rw [wts_at, rows_at m c t _ _ k R (by have := p.isLt; simp only [Fin.ofNat]; omega)]

theorem final8 (c : Dev nD) : (dats m 0 c).arrAt 8 cfg0.N = cvOf (HA m c) (WA m c) := by
  refine (dats m 0 c).arrAt_eq_of_covers 8 _ (by decide +kernel) fun t _ y => ?_
  obtain ⟨a0, a1, a2, a3, a4, a5, a6, a7, a8, a9, a10⟩ := idx t
  have b0 : (((cfg0.win 8).blk t).view.emb y 0).val = 2048 * (t.val % 8) + (y 0).val := by blk_simp [a8]; omega
  have b1 : (((cfg0.win 8).blk t).view.emb y 1).val = 256 * (t.val / 8) + (y 1).val := by blk_simp [a8]; omega
  blk_simp
  rw [after0_8, block8]
  unfold BLK uf cvOf
  rw [b1]
  have d1 : dot (rows m c t (Fin.ofNat 4 ((y 0).val / 512))) (wts m c t) (Fin.ofNat 512 (y 0).val) (at4 1 (y 1)) = proj (HA m c) (WA m c) ((win0_8.blk t).view.emb y 0) _ :=
    dot_at m c t (y 0) 1 (y 1) _ b0
  have d2 : dot (rows m c t (Fin.ofNat 4 ((y 0).val / 512))) (wts m c t) (Fin.ofNat 512 (y 0).val) (at4 2 (y 1)) = proj (HA m c) (WA m c) ((win0_8.blk t).view.emb y 0) _ :=
    dot_at m c t (y 0) 2 (y 1) _ b0
  rw [d1, d2]
  rfl

theorem final9 (c : Dev nD) : (dats m 0 c).arrAt 9 cfg0.N = bzOf (HA m c) (WA m c) := by
  refine (dats m 0 c).arrAt_eq_of_covers 9 _ (by decide +kernel) fun t _ y => ?_
  obtain ⟨a0, a1, a2, a3, a4, a5, a6, a7, a8, a9, a10⟩ := idx t
  have b0 : (((cfg0.win 9).blk t).view.emb y 0).val = 2048 * (t.val % 8) + (y 0).val := by blk_simp [a9]; omega
  have b1 : (((cfg0.win 9).blk t).view.emb y 1).val = 256 * (t.val / 8) + (y 1).val := by blk_simp [a9]; omega
  blk_simp
  rw [after0_9, block9]
  unfold BLK hf bzOf
  rw [b1]
  have d0 : dot (rows m c t (Fin.ofNat 4 ((y 0).val / 512))) (wts m c t) (Fin.ofNat 512 (y 0).val) (at4 0 (y 1)) = proj (HA m c) (WA m c) ((win0_9.blk t).view.emb y 0) _ :=
    dot_at m c t (y 0) 0 (y 1) _ b0
  have d3 : dot (rows m c t (Fin.ofNat 4 ((y 0).val / 512))) (wts m c t) (Fin.ofNat 512 (y 0).val) (at4 3 (y 1)) = proj (HA m c) (WA m c) ((win0_9.blk t).view.emb y 0) _ :=
    dot_at m c t (y 0) 3 (y 1) _ b0
  rw [d0, d3]
  rw [show 4096 * ((0 : Fin 4).val) + (256 * (t.val / 8) + (y 1).val) = 256 * (t.val / 8) + (y 1).val from by simp]
  rfl

end Cert.Kernel5Ideal.Gated

end
-- ==== Proof.GatedResult.lean ====
module

public import proofs.«01_k».proof.Proof.Gated
public import proofs.«01_k».proof.Proof.Gen.Reference5Ideal.Run
public import proofs.«01_k».proof.Defs

/-! # The gated products and their reference -/

@[expose] public section

set_option maxRecDepth 16384

noncomputable section

namespace Cert.Kernel5Ideal.Gated

open Idealize.ShloMosaic Idealize.ShloMosaic.TcCoe Idealize.SL.Sem
open Idealize.ShloMosaic.Pipeline (Dat)
open Cert.Kernel5Ideal Cert.Kernel5Ideal.Gen Cert.Gates

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = cvOf (HA m c) (WA m c)
      ∧ r.2.mem ((c : Thread nD τ).loc main_v0_1) = bzOf (HA m c) (WA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final8 m c), (h c).2.1.trans (final9 m c), (h c).2.2⟩)
    (Cert.Kernel5Ideal.Value.run_blocks m ρ)

/-- The reference's product, at an index. -/
theorem ref_dot (h : FVec Ideal S16384x2048 .bf16) (w : FVec Ideal S1x2048x16384 .f32) (h1) (h2) (r : Fin 16384) (q : Fin 16384) :
    Host.dotGeneral Cert.Reference5Ideal.dot_S16384x2048_S2048x16384_S16384x16384_1_0_0_1_n_n none (extf .f32 h h1)
      (shapeCast _ w h2) (ix2 r q) = proj h w r q.val := by
  unfold proj
  rw [show Fin.ofNat 16384 q.val = q from Fin.ext (Nat.mod_eq_of_lt q.isLt)]
  pointwise

/-- Kernel and reference, of the same arguments, end with the same results. -/
theorem algebraic [hR : Cert.Reference5Ideal.Facts] : Cert.algebraic_Kernel5Ideal_Reference5Ideal := by
  intro m g m' g' _ ag
  refine ⟨_, _, result m g, (θ_run Cert.Reference5Ideal.defs _ _).mono (fun r h c => ⟨?_, ?_, (h c).2.2⟩) (Cert.Reference5Ideal.Value.run (F := Ideal) m' g')⟩
  · refine (h c).1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold cvOf
    pointwise
    simp only [hp]
  · refine (h c).2.1.trans ?_
    rw [(ag c).1, (ag c).2]
    generalize hD : Host.dotGeneral (F := Ideal) _ _ _ _ = D
    have hp : ∀ r q, D (ix2 r q) = _ := fun r q => (congrFun hD _).symm.trans (ref_dot _ _ _ _ r q)
    funext y
    idx_vars y
    unfold bzOf gate
    pointwise
    simp only [hp]

theorem preserves : Cert.preserves_Kernel5_Kernel5Ideal :=
  IdealRules.named_const.statement Cert.Kernel5Ideal.κ "neg_log2_e" .f32 0xBFB8AA3B#32 ((-((Real.log 2)⁻¹) : ℝ) : EReal) rfl

end Cert.Kernel5Ideal.Gated

end
-- ==== Proof.OutNext.lean ====
module

public import proofs.«01_k».proof.Proof.Norms
public import proofs.«01_k».proof.Proof.Gen.Kernel6Ideal.Value

/-! # The output projection: one block of both results -/

@[expose] public section

set_option maxRecDepth 16384

noncomputable section

namespace Cert.Kernel6Ideal.OutProj

open Idealize.ShloMosaic Idealize.ShloMosaic.TcCoe Idealize.SL.Sem
open Idealize.ShloMosaic.Pipeline (Dat)
open Cert.Kernel6Ideal Cert.Kernel6Ideal.Gen Cert.Gates Cert.Norms

theorem hz : (![0, 0] : Fin 2 → Nat) = fun _ => 0 := funext fun a => by fin_cases a <;> rfl
theorem hz3 : (![0, 0, 0] : Fin 3 → Nat) = fun _ => 0 := funext fun a => by fin_cases a <;> rfl

/-- Row `r` of the block's product. -/
def prod (x : Vec Ideal S256x4096 .bf16) (w : Vec Ideal S1x4096x2048 .bf16) (r : Fin 256) (q : Fin 2048) : EReal :=
  ∑ k : Fin 4096, x (ix2 r k) * w (ix3 0 k q)

/-- A block of one row. -/
def line (g : Vec Ideal S1x1x2048 .f32) (q : Fin 2048) : EReal := g (ix3 0 0 q)

theorem pay_y (x : Vec Ideal S256x4096 .bf16) (w : Vec Ideal S1x4096x2048 .bf16) (xr : Vec Ideal S256x2048 .f32) (gt gp : Vec Ideal S1x1x2048 .f32)
    (r : Fin 256) (q : Fin 2048) :
    k0_pay3 x w xr gt gp (ix2 r q) = step (prod x w r) (fun q => xr (ix2 r q)) (line gt) (line gp) q := by
  unfold step perRoot prod line
  pointwise [k0_pay3]

theorem pay_low (x : Vec Ideal S256x4096 .bf16) (w : Vec Ideal S1x4096x2048 .bf16) (xr : Vec Ideal S256x2048 .f32) (gt gp : Vec Ideal S1x1x2048 .f32) :
    k0_pay1 (k0_pay9 x w) xr (k0_pay10 gt) gp = k0_pay3 x w xr gt gp := rfl

theorem pay_h (x : Vec Ideal S256x4096 .bf16) (w : Vec Ideal S1x4096x2048 .bf16) (xr : Vec Ideal S256x2048 .f32) (gt gp gn sh sc : Vec Ideal S1x1x2048 .f32)
    (r : Fin 256) (q : Fin 2048) :
    k0_pay8 (k0_pay3 x w xr gt gp) (k0_pay4 gn) (k0_pay5 sh) (k0_pay6 sc) (k0_pay7 x w xr gt gp) (ix2 r q)
      = next (step (prod x w r) (fun q => xr (ix2 r q)) (line gt) (line gp)) (line gn) (line sc) (line sh) q := by
  rw [show step (prod x w r) (fun q => xr (ix2 r q)) (line gt) (line gp) = fun q => k0_pay3 x w xr gt gp (ix2 r q) from
    funext fun q => (pay_y x w xr gt gp r q).symm]
  unfold k0_pay7
  generalize k0_pay3 x w xr gt gp = Y
  unfold next perRoot line
  pointwise [k0_pay8, k0_pay4, k0_pay5, k0_pay6]

theorem pay_low_h (x : Vec Ideal S256x4096 .bf16) (w : Vec Ideal S1x4096x2048 .bf16) (xr : Vec Ideal S256x2048 .f32) (gt gp gn sh sc : Vec Ideal S1x1x2048 .f32) :
    k0_pay2 (k0_pay9 x w) xr (k0_pay10 gt) gp gn sh sc
      = k0_pay8 (k0_pay3 x w xr gt gp) (k0_pay4 gn) (k0_pay5 sh) (k0_pay6 sc) (k0_pay7 x w xr gt gp) := rfl

/-- Row `p` of the block, from its two slabs of rows. -/
def upd (gs : Fin 2 → Vec Ideal S256x4096 .bf16) (w : Vec Ideal S1x4096x2048 .bf16) (xs : Fin 2 → Vec Ideal S256x2048 .f32) (gp gt : Vec Ideal S1x1x2048 .f32)
    (p : Fin 512) : Fin 2048 → EReal :=
  step (prod (gs (Fin.ofNat 2 (p.val / 256))) w (Fin.ofNat 256 p.val)) (fun q => xs (Fin.ofNat 2 (p.val / 256)) (ix2 (Fin.ofNat 256 p.val) q)) (line gt) (line gp)

def YB (gs : Fin 2 → Vec Ideal S256x4096 .bf16) (w : Vec Ideal S1x4096x2048 .bf16) (xs : Fin 2 → Vec Ideal S256x2048 .f32) (gp gt : Vec Ideal S1x1x2048 .f32) :
    Vec Ideal S512x2048 .f32 := fun y => upd gs w xs gp gt (y 0) (y 1)

def HB (gs : Fin 2 → Vec Ideal S256x4096 .bf16) (w : Vec Ideal S1x4096x2048 .bf16) (xs : Fin 2 → Vec Ideal S256x2048 .f32) (gp gt gn sh sc : Vec Ideal S1x1x2048 .f32) :
    Vec Ideal S512x2048 .bf16 := fun y => next (upd gs w xs gp gt (y 0)) (line gn) (line sc) (line sh) (y 1)

/-- A slab's index in the block. -/
theorem emb_slab (n : Fin 2) {o : ℕ} (ho : o = 256 * n.val) (inb) (r : Fin 256) (q : Fin 2048) :
    (Rect.unit (s := S512x2048) ![o, 0] S256x2048.size inb).emb (ix2 r q) = ix2 ⟨256 * n.val + r.val, by have := n.isLt; have := r.isLt; omega⟩ q := by
  subst ho
  refine funext fun a => Fin.ext ?_
  rw [Rect.emb_apply]
  fin_cases a
  · show 256 * n.val + 1 * r.val = 256 * n.val + r.val; omega
  · show 0 + 1 * q.val = q.val; omega

theorem upd_slab (gs : Fin 2 → Vec Ideal S256x4096 .bf16) (w : Vec Ideal S1x4096x2048 .bf16) (xs : Fin 2 → Vec Ideal S256x2048 .f32) (gp gt : Vec Ideal S1x1x2048 .f32)
    (n : Fin 2) (r : Fin 256) :
    upd gs w xs gp gt ⟨256 * n.val + r.val, by have := n.isLt; have := r.isLt; omega⟩ = step (prod (gs n) w r) (fun q => xs n (ix2 r q)) (line gt) (line gp) := by
  have h1 : Fin.ofNat 2 ((256 * n.val + r.val) / 256) = n := Fin.ext (by have := n.isLt; have := r.isLt; simp only [Fin.ofNat]; omega)
  have h2 : Fin.ofNat 256 (256 * n.val + r.val) = r := Fin.ext (by have := r.isLt; simp only [Fin.ofNat]; omega)
  unfold upd
  dsimp only
  rw [h1, h2]

theorem holds_y (gs : Fin 2 → Vec Ideal S256x4096 .bf16) (w : Vec Ideal S1x4096x2048 .bf16) (xs : Fin 2 → Vec Ideal S256x2048 .f32) (gp gt : Vec Ideal S1x1x2048 .f32)
    (n : Fin 2) {o : ℕ} (ho : o = 256 * n.val) (inb) :
    Holds (e := .f32) (YB gs w xs gp gt) ⟨Rect.unit (s := S512x2048) ![o, 0] S256x2048.size inb, k0_pay3 (gs n) w (xs n) gt gp⟩ := by
  intro y
  change S256x2048.Idx at y
  idx_vars y
  refine (pay_y _ _ _ _ _ _ _).trans ?_
  refine Eq.trans ?_ (congrArg (YB gs w xs gp gt) (emb_slab n ho inb y0 y1)).symm
  exact (congrFun (upd_slab gs w xs gp gt n y0) y1).symm

theorem holds_h (gs : Fin 2 → Vec Ideal S256x4096 .bf16) (w : Vec Ideal S1x4096x2048 .bf16) (xs : Fin 2 → Vec Ideal S256x2048 .f32) (gp gt gn sh sc : Vec Ideal S1x1x2048 .f32)
    (n : Fin 2) {o : ℕ} (ho : o = 256 * n.val) (inb) :
    Holds (e := .bf16) (HB gs w xs gp gt gn sh sc) ⟨Rect.unit (s := S512x2048) ![o, 0] S256x2048.size inb,
      k0_pay8 (k0_pay3 (gs n) w (xs n) gt gp) (k0_pay4 gn) (k0_pay5 sh) (k0_pay6 sc) (k0_pay7 (gs n) w (xs n) gt gp)⟩ := by
  intro y
  change S256x2048.Idx at y
  idx_vars y
  refine (pay_h _ _ _ _ _ _ _ _ _ _).trans ?_
  refine Eq.trans ?_ (congrArg (HB gs w xs gp gt gn sh sc) (emb_slab n ho inb y0 y1)).symm
  exact (congrArg (fun u => next u (line gn) (line sc) (line sh) y1) (upd_slab gs w xs gp gt n y0)).symm

section Block
variable (x0 x1 : Vec Ideal S256x4096 .bf16) (x2 : Vec Ideal S1x4096x2048 .bf16) (x3 x4 : Vec Ideal S256x2048 .f32) (x5 x6 x7 x8 x9 : Vec Ideal S1x1x2048 .f32)

theorem ld_g (x : Vec Ideal S256x4096 .bf16) : View.ld x r0_0 = x := View.ld_unit_zero (S := S256x4096) hz _ x
theorem ld_w (x : Vec Ideal S1x4096x2048 .bf16) : View.ld x r0_1 = x := View.ld_unit_zero (S := S1x4096x2048) hz3 _ x
theorem ld_x (x : Vec Ideal S256x2048 .f32) : View.ld x r0_2 = x := View.ld_unit_zero (S := S256x2048) hz _ x
theorem ld_l (x : Vec Ideal S1x1x2048 .f32) : View.ld x r0_3 = x := View.ld_unit_zero (S := S1x1x2048) hz3 _ x

theorem block_y : out0_10 x0 x1 x2 x3 x4 x5 x6 x7 x8 x9 = YB ![x0, x1] x2 ![x3, x4] x5 x6 := by
  unfold out0_10 k0_pay11 k0_pay12 k0_pay13
  rw [ld_g, ld_g, ld_w, ld_x, ld_x, ld_l, ld_l, pay_low]
  refine canon_holds _ _ ?_ (cover0_10 _ _)
  exact List.forall_mem_cons.2 ⟨holds_y ![x0, x1] x2 ![x3, x4] x5 x6 1 rfl _,
    List.forall_mem_cons.2 ⟨holds_y ![x0, x1] x2 ![x3, x4] x5 x6 0 rfl _, List.forall_mem_nil _⟩⟩

theorem block_h : out0_11 x0 x1 x2 x3 x4 x5 x6 x7 x8 x9 = HB ![x0, x1] x2 ![x3, x4] x5 x6 x7 x8 x9 := by
  unfold out0_11 k0_pay11 k0_pay12 k0_pay13
  rw [ld_g, ld_g, ld_w, ld_x, ld_x, ld_l, ld_l, ld_l, ld_l, ld_l, pay_low_h]
  refine canon_holds _ _ ?_ (cover0_11 _ _)
  exact List.forall_mem_cons.2 ⟨holds_h ![x0, x1] x2 ![x3, x4] x5 x6 x7 x8 x9 1 rfl _,
    List.forall_mem_cons.2 ⟨holds_h ![x0, x1] x2 ![x3, x4] x5 x6 x7 x8 x9 0 rfl _, List.forall_mem_nil _⟩⟩

end Block

variable (m : (ℓ : Loc nD τ sig) → Buf (Elt Ideal) ℓ)

/-! ## The arrays -/

abbrev GA (c : Dev nD) : FVec Ideal S16384x4096 .bf16 := m ((c : Thread nD τ).loc main_arg0)
abbrev WA (c : Dev nD) : FVec Ideal S4x4096x2048 .f32 := m ((c : Thread nD τ).loc main_arg1)
abbrev XA (c : Dev nD) : FVec Ideal S16384x2048 .f32 := m ((c : Thread nD τ).loc main_arg2)
abbrev MA (c : Dev nD) : FVec Ideal S32x1x6144 .f32 := m ((c : Thread nD τ).loc main_arg3)
abbrev PA (c : Dev nD) : FVec Ideal S4x2048 .f32 := m ((c : Thread nD τ).loc main_arg4)
abbrev NA (c : Dev nD) : FVec Ideal S4x2048 .f32 := m ((c : Thread nD τ).loc main_arg5)

theorem V_w (c : Dev nD) : V m c main_v0 = truncf .bf16 (WA m c) bitsLt_bf16_f32 := by
  show StableHlo.after (List.flatten [hostOps0]) _ _ = _
  simp only [hostOps0, List.flatten_cons, List.flatten_nil, List.append_nil, List.cons_append, List.nil_append]
  after_results

theorem V_p (c : Dev nD) : V m c main_v1 = shapeCast S4x1x2048 (PA m c) shapeCasts_S4x2048_S4x1x2048 := by
  show StableHlo.after (List.flatten [hostOps0]) _ _ = _
  simp only [hostOps0, List.flatten_cons, List.flatten_nil, List.append_nil, List.cons_append, List.nil_append]
  after_results
  rfl

theorem V_n (c : Dev nD) : V m c main_v2 = shapeCast S4x1x2048 (NA m c) shapeCasts_S4x2048_S4x1x2048 := by
  show StableHlo.after (List.flatten [hostOps0]) _ _ = _
  simp only [hostOps0, List.flatten_cons, List.flatten_nil, List.append_nil, List.cons_append, List.nil_append]
  after_results
  rfl

theorem read_w (W : FVec Ideal S4x4096x2048 .f32) (l : Fin 4) (k : Fin 4096) (q : Fin 2048) :
    (truncf .bf16 W bitsLt_bf16_f32) (ix3 l k q) = W (ix3 l k q) := by
  pointwise

theorem read_p (W : FVec Ideal S4x2048 .f32) (l : Fin 4) (q : Fin 2048) :
    shapeCast S4x1x2048 W shapeCasts_S4x2048_S4x1x2048 (ix3 l 0 q) = W (ix2 l q) := by
  pointwise

theorem idx : ∀ t : Fin cfg0.N, win0_0.index t = ![2 * t.val, 0] ∧ win0_1.index t = ![2 * t.val + 1, 0]
    ∧ win0_2.index t = ![0, 0, 0] ∧ win0_3.index t = ![2 * t.val, 0] ∧ win0_4.index t = ![2 * t.val + 1, 0]
    ∧ win0_5.index t = ![0, 0, 0] ∧ win0_6.index t = ![1 + t.val / 8, 0, 2]
    ∧ win0_10.index t = ![t.val, 0] ∧ t.val < 32 ∧ win0_7.index t = ![1, 0, 0] ∧ win0_8.index t = ![9 + t.val / 8, 0, 0] ∧ win0_9.index t = ![9 + t.val / 8, 0, 1] ∧ win0_11.index t = ![t.val, 0] :=
  (by decide +kernel : ∀ t : Fin grid0.N, _)

/-- Row `R` of the product with the layer's weights. -/
def proj (g : FVec Ideal S16384x4096 .bf16) (w : FVec Ideal S4x4096x2048 .f32) (R : Fin 16384) (q : Fin 2048) : EReal :=
  ∑ k : Fin 4096, g (ix2 R k) * w (ix3 0 k q)

/-- Columns `o` on of row `a` of a frame's modulation, of the frame of row `R`. -/
def modOf (mods : FVec Ideal S32x1x6144 .f32) (a o : ℕ) (R : Fin 16384) (q : Fin 2048) : EReal :=
  mods (ix3 (Fin.ofNat 32 (a + R.val / 4096)) 0 (Fin.ofNat 6144 (o + q.val)))

def rowOf (g : FVec Ideal S16384x4096 .bf16) (w : FVec Ideal S4x4096x2048 .f32) (x : FVec Ideal S16384x2048 .f32) (mods : FVec Ideal S32x1x6144 .f32)
    (gp : FVec Ideal S4x2048 .f32) (R : Fin 16384) : Fin 2048 → EReal :=
  step (proj g w R) (fun q => x (ix2 R q)) (modOf mods 1 4096 R) (fun q => gp (ix2 0 q))

def yOf (g : FVec Ideal S16384x4096 .bf16) (w : FVec Ideal S4x4096x2048 .f32) (x : FVec Ideal S16384x2048 .f32) (mods : FVec Ideal S32x1x6144 .f32)
    (gp : FVec Ideal S4x2048 .f32) : FVec Ideal S16384x2048 .f32 := fun y => rowOf g w x mods gp (y 0) (y 1)

def hOf (g : FVec Ideal S16384x4096 .bf16) (w : FVec Ideal S4x4096x2048 .f32) (x : FVec Ideal S16384x2048 .f32) (mods : FVec Ideal S32x1x6144 .f32)
    (gp gn : FVec Ideal S4x2048 .f32) : FVec Ideal S16384x2048 .bf16 :=
  fun y => next (rowOf g w x mods gp (y 0)) (fun q => gn (ix2 1 q)) (modOf mods 9 2048 (y 0)) (modOf mods 9 0 (y 0)) (y 1)

abbrev gs (c : Dev nD) (t : Fin cfg0.N) : Fin 2 → Vec Ideal S256x4096 .bf16 := ![iblk m c 0 t, iblk m c 1 t]
abbrev xs (c : Dev nD) (t : Fin cfg0.N) : Fin 2 → Vec Ideal S256x2048 .f32 := ![iblk m c 3 t, iblk m c 4 t]

theorem gs_at (c : Dev nD) (t : Fin cfg0.N) (n : Fin 2) (r : Fin 256) (k : Fin 4096) (R : Fin 16384) (hR : R.val = 512 * t.val + 256 * n.val + r.val) :
    gs m c t n (ix2 r k) = GA m c (ix2 R k) := by
  obtain ⟨a0, a1, a2, a3, a4, a5, a6, aw, at32, a7, a8, a9, a11⟩ := idx t
  have hA : GA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)

theorem xs_at (c : Dev nD) (t : Fin cfg0.N) (n : Fin 2) (r : Fin 256) (k : Fin 2048) (R : Fin 16384) (hR : R.val = 512 * t.val + 256 * n.val + r.val) :
    xs m c t n (ix2 r k) = XA m c (ix2 R k) := by
  obtain ⟨a0, a1, a2, a3, a4, a5, a6, aw, at32, a7, a8, a9, a11⟩ := idx t
  have hA : XA m c = V m c main_arg2 := (V_main_arg2 m c).symm
  rw [hA]
  fin_cases n
  · show iblk m c 3 t (ix2 r k) = _
    blk_ext [iblk, a3]
    all_goals (simp at hR; omega)
  · show iblk m c 4 t (ix2 r k) = _
    blk_ext [iblk, a4]
    all_goals (simp at hR; omega)

theorem w_at (c : Dev nD) (t : Fin cfg0.N) (k : Fin 4096) (q : Fin 2048) :
    (iblk m c 2 t : Vec Ideal S1x4096x2048 .bf16) (ix3 0 k q) = WA m c (ix3 0 k q) := by
  obtain ⟨a0, a1, a2, a3, a4, a5, a6, aw, at32, a7, a8, a9, a11⟩ := idx t
  refine Eq.trans ?_ (read_w (WA m c) 0 k q)
  rw [← V_w]
  blk_ext [iblk, a2]

theorem p_at (c : Dev nD) (t : Fin cfg0.N) (q : Fin 2048) : line (iblk m c 5 t) q = PA m c (ix2 0 q) := by
  obtain ⟨a0, a1, a2, a3, a4, a5, a6, aw, at32, a7, a8, a9, a11⟩ := idx t
  refine Eq.trans ?_ (read_p (PA m c) 0 q)
  rw [← V_p]
  unfold line
  blk_ext [iblk, a5]

theorem m6_at (c : Dev nD) (t : Fin cfg0.N) (R : Fin 16384) (hR : R.val / 512 = t.val) (q : Fin 2048) :
    line (iblk m c 6 t) q = modOf (MA m c) 1 4096 R q := by
  obtain ⟨a0, a1, a2, a3, a4, a5, a6, aw, at32, a7, a8, a9, a11⟩ := idx t
  have hA : MA m c = V m c main_arg3 := (V_main_arg3 m c).symm
  have hq := q.isLt
  rw [hA]
  unfold line modOf
  blk_ext [iblk, a6]
  all_goals (simp [Fin.ofNat]; omega)

theorem m8_at (c : Dev nD) (t : Fin cfg0.N) (R : Fin 16384) (hR : R.val / 512 = t.val) (q : Fin 2048) :
    line (iblk m c 8 t) q = modOf (MA m c) 9 0 R q := by
  obtain ⟨a0, a1, a2, a3, a4, a5, a6, aw, at32, a7, a8, a9, a11⟩ := idx t
  have hA : MA m c = V m c main_arg3 := (V_main_arg3 m c).symm
  have hq := q.isLt
  rw [hA]
  unfold line modOf
  blk_ext [iblk, a8]
  all_goals (simp [Fin.ofNat]; omega)

theorem m9_at (c : Dev nD) (t : Fin cfg0.N) (R : Fin 16384) (hR : R.val / 512 = t.val) (q : Fin 2048) :
    line (iblk m c 9 t) q = modOf (MA m c) 9 2048 R q := by
  obtain ⟨a0, a1, a2, a3, a4, a5, a6, aw, at32, a7, a8, a9, a11⟩ := idx t
  have hA : MA m c = V m c main_arg3 := (V_main_arg3 m c).symm
  have hq := q.isLt
  rw [hA]
  unfold line modOf
  blk_ext [iblk, a9]
  all_goals (simp [Fin.ofNat]; omega)

theorem n_at (c : Dev nD) (t : Fin cfg0.N) (q : Fin 2048) : line (iblk m c 7 t) q = NA m c (ix2 1 q) := by
  obtain ⟨a0, a1, a2, a3, a4, a5, a6, aw, at32, a7, a8, a9, a11⟩ := idx t
  refine Eq.trans ?_ (read_p (NA m c) 1 q)
  rw [← V_n]
  unfold line
  blk_ext [iblk, a7]

theorem row_at (c : Dev nD) (t : Fin cfg0.N) (p : Fin 512) (R : Fin 16384) (hR : R.val = 512 * t.val + p.val) :
    upd (gs m c t) (iblk m c 2 t) (xs m c t) (iblk m c 5 t) (iblk m c 6 t) p = rowOf (GA m c) (WA m c) (XA m c) (MA m c) (PA m c) R := by
  have hp := p.isLt
  have hs : R.val = 512 * t.val + 256 * (Fin.ofNat 2 (p.val / 256)).val + (Fin.ofNat 256 p.val).val := by simp only [Fin.ofNat]; omega
  unfold upd rowOf
  rw [show prod (gs m c t (Fin.ofNat 2 (p.val / 256))) (iblk m c 2 t) (Fin.ofNat 256 p.val) = proj (GA m c) (WA m c) R from funext fun q => by
      unfold prod proj
      exact Finset.sum_congr rfl fun k _ => by rw [gs_at m c t _ _ k R hs, w_at],
    show (fun q => xs m c t (Fin.ofNat 2 (p.val / 256)) (ix2 (Fin.ofNat 256 p.val) q)) = fun q => XA m c (ix2 R q) from funext fun q => xs_at m c t _ _ q R hs,
    show line (iblk m c 6 t) = modOf (MA m c) 1 4096 R from funext fun q => m6_at m c t R (by omega) q,
    show line (iblk m c 5 t) = fun q => PA m c (ix2 0 q) from funext fun q => p_at m c t q]

theorem final_y (c : Dev nD) : (dats m 0 c).arrAt 10 cfg0.N = yOf (GA m c) (WA m c) (XA m c) (MA m c) (PA m c) := by
  refine (dats m 0 c).arrAt_eq_of_covers 10 _ (by decide +kernel) fun t _ y => ?_
  obtain ⟨a0, a1, a2, a3, a4, a5, a6, aw, at32, a7, a8, a9, a11⟩ := idx t
  have b0 : (((cfg0.win 10).blk t).view.emb y 0).val = 512 * t.val + (y 0).val := by blk_simp [aw]; omega
  have b1 : ((cfg0.win 10).blk t).view.emb y 1 = y 1 := Fin.ext (by blk_simp [aw])
  blk_simp
  rw [after0_10, block_y]
  unfold YB yOf
  rw [b1]
  exact congrFun (row_at m c t (y 0) _ b0) _

theorem final_h (c : Dev nD) : (dats m 0 c).arrAt 11 cfg0.N = hOf (GA m c) (WA m c) (XA m c) (MA m c) (PA m c) (NA m c) := by
  refine (dats m 0 c).arrAt_eq_of_covers 11 _ (by decide +kernel) fun t _ y => ?_
  obtain ⟨a0, a1, a2, a3, a4, a5, a6, aw, at32, a7, a8, a9, a11⟩ := idx t
  have b0 : (((cfg0.win 11).blk t).view.emb y 0).val = 512 * t.val + (y 0).val := by blk_simp [a11]; omega
  have b1 : ((cfg0.win 11).blk t).view.emb y 1 = y 1 := Fin.ext (by blk_simp [a11])
  have hy : (y 0).val < 512 := (y 0).isLt
  have hr := row_at m c t (y 0) _ b0
  have h9 : line (iblk m c 9 t) = modOf (MA m c) 9 2048 _ := funext fun q => m9_at m c t (((cfg0.win 11).blk t).view.emb y 0) (by rw [b0]; omega) q
  have h8 : line (iblk m c 8 t) = modOf (MA m c) 9 0 _ := funext fun q => m8_at m c t (((cfg0.win 11).blk t).view.emb y 0) (by rw [b0]; omega) q
  have h7 : line (iblk m c 7 t) = fun q => NA m c (ix2 1 q) := funext fun q => n_at m c t q
  blk_simp
  rw [after0_11, block_h]
  unfold HB hOf
  rw [b1]
  refine (congrArg (fun u => next u (line (iblk m c 7 t)) (line (iblk m c 9 t)) (line (iblk m c 8 t)) (y 1)) hr).trans ?_
  rw [h7, h8, h9]

end Cert.Kernel6Ideal.OutProj

end
-- ==== Proof.OutRef6.lean ====
module

public import proofs.«01_k».proof.Proof.Norms
public import proofs.«01_k».proof.Proof.Gen.Reference6Ideal.Run

/-! # The reference of the output projection, row by row -/

@[expose] public section

set_option maxRecDepth 16384

noncomputable section

namespace Cert.Reference6Ideal.Rows

open Idealize.ShloMosaic Cert.Norms
open Cert.Reference6Ideal Cert.Reference6Ideal.Facts₀

variable [hR : Cert.Reference6Ideal.Facts]

/-- The product, of the layer's weights. -/
abbrev mm (g : FVec Ideal S16384x4096 .bf16) (w : FVec Ideal S4x4096x2048 .f32) : FVec Ideal S16384x2048 .f32 :=
  Host.dotGeneral dot_S16384x4096_S4096x2048_S16384x2048_1_0_0_1_n_n none (extf .f32 g bitsLt_bf16_f32)
    (shapeCast _ (extractStridedSlice S1x4096x2048 ![0, 0, 0] w slices_S4x4096x2048_S1x4096x2048_0_0_0) shapeCasts_S1x4096x2048_S4096x2048)

theorem mm_at (g : FVec Ideal S16384x4096 .bf16) (w : FVec Ideal S4x4096x2048 .f32) (R : Fin 16384) (q : Fin 2048) :
    mm g w (ix2 R q) = ∑ k : Fin 4096, g (ix2 R k) * w (ix3 0 k q) := by
  unfold mm
  pointwise

/-- The gate, along the frames. -/
abbrev gate3 (M : FVec Ideal S32x1x6144 .f32) : FVec Ideal S4x4096x2048 .f32 :=
  broadcastInDim S4x4096x2048 ![0, 1, 2] bcast_S4x1x2048_S4x4096x2048_0_1_2 (broadcastInDim S4x1x2048 ![0, 2] bcast_S4x2048_S4x1x2048_0_2
    (shapeCast _ (extractStridedSlice S1x4x2048 ![0, 1, 4096] (shapeCast _ M shapeCasts_S32x1x6144_S4x8x6144) slices_S4x8x6144_S1x4x2048_0_1_4096) shapeCasts_S1x4x2048_S4x2048))

theorem gate3_at (M : FVec Ideal S32x1x6144 .f32) (b : Fin 4) (p : Fin 4096) (q : Fin 2048) :
    gate3 M (ix3 b p q) = M (ix3 (Fin.ofNat 32 (1 + b.val)) 0 (Fin.ofNat 6144 (4096 + q.val))) := by
  have hb := b.isLt
  have hq := q.isLt
  unfold gate3
  pointwise
  congr 2
  all_goals exact Fin.ext (by simp [Fin.ofNat]; omega)

/-- The product's rows normed and weighted. -/
abbrev normed (D : FVec Ideal S16384x2048 .f32) (P : FVec Ideal S4x2048 .f32) : FVec Ideal S16384x2048 .f32 :=
  mulf (mulf D (broadcastInDim S16384x2048 ![0, 1] bcast_S16384x1_S16384x2048_0_1 (Host.rsqrt (addf (Host.divf (broadcastInDim S16384x1 ![0] bcast_S16384_S16384x1_0
    (Host.reduceAdd (mulf D D) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1
      (shapeCast _ (extractStridedSlice S1x2048 ![0, 0] P slices_S4x2048_S1x2048_0_0) shapeCasts_S1x2048_S2048)))

theorem normed_at (D : FVec Ideal S16384x2048 .f32) (P : FVec Ideal S4x2048 .f32) (R : Fin 16384) (q : Fin 2048) :
    normed D P (ix2 R q) = (D (ix2 R q) * perRoot (fun q => D (ix2 R q))) * P (ix2 0 q) := by
  unfold normed perRoot
  pointwise

theorem flat_at (X : FVec Ideal S16384x2048 .f32) (R : Fin 16384) (b : Fin 4) (p : Fin 4096) (hR : R.val = b.val * 4096 + p.val) (q : Fin 2048) :
    shapeCast S4x4096x2048 X shapeCasts_S16384x2048_S4x4096x2048 (ix3 b p q) = X (ix2 R q) := by
  rw [show R = ⟨b.val * 4096 + p.val, by have := b.isLt; have := p.isLt; omega⟩ from Fin.ext hR]
  pointwise

theorem unflat_at (X : FVec Ideal S4x4096x2048 .f32) (R : Fin 16384) (q : Fin 2048) :
    shapeCast S16384x2048 X shapeCasts_S4x4096x2048_S16384x2048 (ix2 R q) = X (ix3 ⟨R.val / 4096, by omega⟩ ⟨R.val % 4096, by omega⟩ q) := by
  pointwise

/-- The rows updated, along the frames. -/
abbrev upd3 (D X : FVec Ideal S16384x2048 .f32) (M : FVec Ideal S32x1x6144 .f32) (P : FVec Ideal S4x2048 .f32) : FVec Ideal S4x4096x2048 .f32 :=
  addf (shapeCast _ X shapeCasts_S16384x2048_S4x4096x2048) (mulf (gate3 M) (shapeCast _ (normed D P) shapeCasts_S16384x2048_S4x4096x2048))

theorem upd3_at (D X : FVec Ideal S16384x2048 .f32) (M : FVec Ideal S32x1x6144 .f32) (P : FVec Ideal S4x2048 .f32)
    (R : Fin 16384) (b : Fin 4) (p : Fin 4096) (hR : R.val = b.val * 4096 + p.val) (q : Fin 2048) :
    upd3 D X M P (ix3 b p q) = step (fun q => D (ix2 R q)) (fun q => X (ix2 R q))
      (fun q => M (ix3 (Fin.ofNat 32 (1 + R.val / 4096)) 0 (Fin.ofNat 6144 (4096 + q.val)))) (fun q => P (ix2 0 q)) q := by
  have hp := p.isLt
  have hb : b.val = R.val / 4096 := by omega
  unfold step
  rw [← hb]
  refine (congrArg₂ (· + ·) (flat_at X R b p hR q) (congrArg₂ (· * ·) (gate3_at M b p q) ((flat_at (normed D P) R b p hR q).trans (normed_at D P R q))))

/-- The next layer's weights, along the frames. -/
abbrev gain3 (N : FVec Ideal S4x2048 .f32) : FVec Ideal S4x4096x2048 .f32 :=
  broadcastInDim S4x4096x2048 ![0, 1, 2] bcast_S1x1x2048_S4x4096x2048_0_1_2 (broadcastInDim S1x1x2048 ![2] bcast_S2048_S1x1x2048_2
    (shapeCast _ (extractStridedSlice S1x2048 ![1, 0] N slices_S4x2048_S1x2048_1_0) shapeCasts_S1x2048_S2048))

theorem gain3_at (N : FVec Ideal S4x2048 .f32) (b : Fin 4) (p : Fin 4096) (q : Fin 2048) : gain3 N (ix3 b p q) = N (ix2 1 q) := by
  unfold gain3
  pointwise

/-- One more than the next layer's scale, along the frames. -/
abbrev scale3 (M : FVec Ideal S32x1x6144 .f32) : FVec Ideal S4x4096x2048 .f32 :=
  broadcastInDim S4x4096x2048 ![0, 1, 2] bcast_S4x1x2048_S4x4096x2048_0_1_2 (addf (broadcastInDim S4x1x2048 ![] bcast_S_S4x1x2048 (constant S_ .f32 0x3F800000#32))
    (broadcastInDim S4x1x2048 ![0, 2] bcast_S4x2048_S4x1x2048_0_2 (shapeCast _ (extractStridedSlice S1x4x2048 ![1, 1, 2048]
      (shapeCast _ M shapeCasts_S32x1x6144_S4x8x6144) slices_S4x8x6144_S1x4x2048_1_1_2048) shapeCasts_S1x4x2048_S4x2048)))

theorem scale3_at (M : FVec Ideal S32x1x6144 .f32) (b : Fin 4) (p : Fin 4096) (q : Fin 2048) :
    scale3 M (ix3 b p q) = 1 + M (ix3 (Fin.ofNat 32 (9 + b.val)) 0 (Fin.ofNat 6144 (2048 + q.val))) := by
  have hb := b.isLt
  have hq := q.isLt
  unfold scale3
  pointwise
  congr 3
  all_goals exact Fin.ext (by simp [Fin.ofNat]; omega)

/-- The next layer's shift, along the frames. -/
abbrev shift3 (M : FVec Ideal S32x1x6144 .f32) : FVec Ideal S4x4096x2048 .f32 :=
  broadcastInDim S4x4096x2048 ![0, 1, 2] bcast_S4x1x2048_S4x4096x2048_0_1_2 (broadcastInDim S4x1x2048 ![0, 2] bcast_S4x2048_S4x1x2048_0_2
    (shapeCast _ (extractStridedSlice S1x4x2048 ![1, 1, 0] (shapeCast _ M shapeCasts_S32x1x6144_S4x8x6144) slices_S4x8x6144_S1x4x2048_1_1_0) shapeCasts_S1x4x2048_S4x2048))

theorem shift3_at (M : FVec Ideal S32x1x6144 .f32) (b : Fin 4) (p : Fin 4096) (q : Fin 2048) :
    shift3 M (ix3 b p q) = M (ix3 (Fin.ofNat 32 (9 + b.val)) 0 (Fin.ofNat 6144 (0 + q.val))) := by
  have hb := b.isLt
  have hq := q.isLt
  unfold shift3
  pointwise
  congr 2
  all_goals exact Fin.ext (by simp [Fin.ofNat]; omega)

/-- The rows of `Y` normed. -/
abbrev unit3 (Y : FVec Ideal S4x4096x2048 .f32) : FVec Ideal S4x4096x2048 .f32 :=
  mulf Y (broadcastInDim S4x4096x2048 ![0, 1, 2] bcast_S4x4096x1_S4x4096x2048_0_1_2 (Host.rsqrt (addf (Host.divf
    (broadcastInDim S4x4096x1 ![0, 1] bcast_S4x4096_S4x4096x1_0_1 (Host.reduceAdd (mulf Y Y) (constant S_ .f32 0x00000000#32) reducesTo_S4x4096x2048_S4x4096_d2 h_S_))
    (broadcastInDim S4x4096x1 ![] bcast_S_S4x4096x1 (constant S_ .f32 0x45000000#32))) (broadcastInDim S4x4096x1 ![] bcast_S_S4x4096x1 (constant S_ .f32 0x358637BD#32)))))

theorem unit3_at (Y : FVec Ideal S4x4096x2048 .f32) (b : Fin 4) (p : Fin 4096) (q : Fin 2048) :
    unit3 Y (ix3 b p q) = Y (ix3 b p q) * perRoot (fun q => Y (ix3 b p q)) := by
  unfold unit3 perRoot
  pointwise

abbrev next3 (Y : FVec Ideal S4x4096x2048 .f32) (M : FVec Ideal S32x1x6144 .f32) (N : FVec Ideal S4x2048 .f32) : FVec Ideal S4x4096x2048 .f32 :=
  addf (mulf (mulf (unit3 Y) (gain3 N)) (scale3 M)) (shift3 M)

theorem next3_at (Y : FVec Ideal S4x4096x2048 .f32) (M : FVec Ideal S32x1x6144 .f32) (N : FVec Ideal S4x2048 .f32) (b : Fin 4) (p : Fin 4096) (q : Fin 2048) :
    next3 Y M N (ix3 b p q) = next (fun q => Y (ix3 b p q)) (fun q => N (ix2 1 q))
      (fun q => M (ix3 (Fin.ofNat 32 (9 + b.val)) 0 (Fin.ofNat 6144 (2048 + q.val)))) (fun q => M (ix3 (Fin.ofNat 32 (9 + b.val)) 0 (Fin.ofNat 6144 (0 + q.val)))) q := by
  unfold next
  exact congrArg₂ (· + ·) (congrArg₂ (· * ·) (congrArg₂ (· * ·) (unit3_at Y b p q) (gain3_at N b p q)) (scale3_at M b p q)) (shift3_at M b p q)

end Cert.Reference6Ideal.Rows

end
-- ==== Proof.OutNextResult.lean ====
module

public import proofs.«01_k».proof.Proof.OutNext
public import proofs.«01_k».proof.Proof.OutRef6
public import proofs.«01_k».proof.Defs

/-! # The output projection, with the next input, and its reference -/

@[expose] public section

set_option maxRecDepth 16384

noncomputable section

namespace Cert.Kernel6Ideal.OutProj

open Idealize.ShloMosaic Idealize.ShloMosaic.TcCoe Idealize.SL.Sem
open Idealize.ShloMosaic.Pipeline (Dat)
open Cert.Kernel6Ideal Cert.Kernel6Ideal.Gen Cert.Gates Cert.Norms

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v3_0) = yOf (GA m c) (WA m c) (XA m c) (MA m c) (PA m c)
      ∧ r.2.mem ((c : Thread nD τ).loc main_v3_1) = hOf (GA m c) (WA m c) (XA m c) (MA m c) (PA m c) (NA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_y m c), (h c).2.1.trans (final_h m c), (h c).2.2⟩)
    (Cert.Kernel6Ideal.Value.run_blocks m ρ)

/-- A row of the reference's update. -/
theorem at_row [hR : Cert.Reference6Ideal.Facts] (g : FVec Ideal S16384x4096 .bf16) (w : FVec Ideal S4x4096x2048 .f32) (x : FVec Ideal S16384x2048 .f32) (mods : FVec Ideal S32x1x6144 .f32)
    (gp : FVec Ideal S4x2048 .f32) (R : Fin 16384) (q : Fin 2048) :
    Cert.Reference6Ideal.Rows.upd3 (Cert.Reference6Ideal.Rows.mm g w) x mods gp (ix3 ⟨R.val / 4096, by omega⟩ ⟨R.val % 4096, by omega⟩ q) = rowOf g w x mods gp R q := by
  refine (Cert.Reference6Ideal.Rows.upd3_at _ _ _ _ R _ _ (by show R.val = R.val / 4096 * 4096 + R.val % 4096; omega) q).trans ?_
  rw [show (fun q => Cert.Reference6Ideal.Rows.mm g w (ix2 R q)) = proj g w R from funext fun q => Cert.Reference6Ideal.Rows.mm_at g w R q]
  rfl

/-- Kernel and reference, of the same arguments, end with the same results. -/
theorem algebraic [hR : Cert.Reference6Ideal.Facts] : Cert.algebraic_Kernel6Ideal_Reference6Ideal := by
  intro m g m' g' _ ag
  refine ⟨_, _, result m g, (θ_run Cert.Reference6Ideal.defs _ _).mono (fun r h c => ⟨?_, ?_, (h c).2.2⟩) (Cert.Reference6Ideal.Value.run (F := Ideal) m' g')⟩
  · refine (h c).1.trans ?_
    obtain ⟨g0, g1, g2, g3, g4, g5⟩ := ag c
    rw [g0, g1, g2, g3, g4]
    funext y
    idx_vars y
    refine (Cert.Reference6Ideal.Rows.unflat_at (Cert.Reference6Ideal.Rows.upd3 (Cert.Reference6Ideal.Rows.mm (GA m c) (WA m c)) (XA m c) (MA m c) (PA m c)) y0 y1).trans ?_
    exact at_row (GA m c) (WA m c) (XA m c) (MA m c) (PA m c) y0 y1

  · refine (h c).2.1.trans ?_
    obtain ⟨g0, g1, g2, g3, g4, g5⟩ := ag c
    unfold Cert.Reference6Ideal.Value.res_main_v57
    rw [g0, g1, g2, g3, g4, g5]
    funext y
    idx_vars y
    refine (Cert.Reference6Ideal.Rows.unflat_at (Cert.Reference6Ideal.Rows.next3 (Cert.Reference6Ideal.Rows.upd3 (Cert.Reference6Ideal.Rows.mm (GA m c) (WA m c)) (XA m c) (MA m c) (PA m c)) (MA m c) (NA m c)) y0 y1).trans ?_
    refine (Cert.Reference6Ideal.Rows.next3_at _ _ _ _ _ _).trans ?_
    rw [show (fun q => Cert.Reference6Ideal.Rows.upd3 (Cert.Reference6Ideal.Rows.mm (GA m c) (WA m c)) (XA m c) (MA m c) (PA m c) (ix3 ⟨y0.val / 4096, by omega⟩ ⟨y0.val % 4096, by omega⟩ q))
      = rowOf (GA m c) (WA m c) (XA m c) (MA m c) (PA m c) y0 from funext fun q => at_row (GA m c) (WA m c) (XA m c) (MA m c) (PA m c) y0 q]
    rfl

theorem preserves : Cert.preserves_Kernel6_Kernel6Ideal := trivial

end Cert.Kernel6Ideal.OutProj

end
-- ==== Proof.Softmax.lean ====
module

public import proofs.«01_k».proof.Proof.Norms

/-! # The softmax of a row

A row's weights are the exponentials of its scores less the greatest; the mean of the values is their weighted sum over
the sum of the weights. It is the same whether the quotient is taken of each weight or of the sum, for scores that are
real: at an infinite score all the weights may be zero. -/
@[expose] public section

set_option maxRecDepth 16384

noncomputable section

namespace Cert.Softmax

open Idealize.ShloMosaic

variable {n : ℕ}

/-- The greatest score of a row. -/
def top (s : Fin n → EReal) : EReal := Finset.univ.fold max (Ideal.ofBits .f32 0xFF800000#32) s

/-- The weight of score `k`. -/
def weight (s : Fin n → EReal) (k : Fin n) : EReal := Ideal.exp (s k - top s)

/-- The mean of the values by the weights. -/
def mean (s v : Fin n → EReal) : EReal := Ideal.div (∑ k, weight s k * v k) (∑ k, weight s k)

/-- An extended real that is a real. -/
def IsReal (x : EReal) : Prop := x ≠ ⊥ ∧ x ≠ ⊤

theorem real_of {x : EReal} (h : IsReal x) : ∃ r : ℝ, x = (r : EReal) := ⟨x.toReal, (EReal.coe_toReal h.2 h.1).symm⟩

theorem real_sum {ι : Type} (S : Finset ι) (f : ι → EReal) (h : ∀ i, IsReal (f i)) : ∃ r : ℝ, ∑ i ∈ S, f i = (r : EReal) := by
  classical
  induction S using Finset.induction_on with
  | empty => exact ⟨0, by simp⟩
  | insert a S ha ih =>
    obtain ⟨r, hr⟩ := ih
    obtain ⟨t, ht⟩ := real_of (h a)
    exact ⟨t + r, by rw [Finset.sum_insert ha, hr, ht, EReal.coe_add]⟩

theorem real_mul {x y : EReal} (hx : IsReal x) (hy : IsReal y) : IsReal (x * y) := by
  obtain ⟨a, rfl⟩ := real_of hx
  obtain ⟨b, rfl⟩ := real_of hy
  rw [← EReal.coe_mul]
  exact ⟨EReal.coe_ne_bot _, EReal.coe_ne_top _⟩

theorem real_sums {ι : Type} (S : Finset ι) (f : ι → EReal) (h : ∀ i, IsReal (f i)) : IsReal (∑ i ∈ S, f i) := by
  obtain ⟨r, hr⟩ := real_sum S f h
  rw [hr]
  exact ⟨EReal.coe_ne_bot _, EReal.coe_ne_top _⟩

theorem lowest : Ideal.ofBits .f32 0xFF800000#32 = (⊥ : EReal) := by simp [Ideal.ofBits, Ideal.ieee]

theorem max_lowest (x : EReal) : max (Ideal.ofBits .f32 0xFF800000#32) x = x := by rw [lowest]; exact max_bot_left x

theorem top_real (s : Fin n → EReal) (k : Fin n) (h : ∀ k, IsReal (s k)) : IsReal (top s) := by
  unfold top
  rw [lowest]
  refine ⟨fun e => (h k).1 ?_, fun e => ?_⟩
  · exact le_bot_iff.1 (e ▸ (Finset.le_fold_max (s k)).2 (Or.inr ⟨k, Finset.mem_univ k, le_rfl⟩))
  · exact absurd e (ne_of_lt ((Finset.fold_max_lt ⊤).2 ⟨bot_lt_top, fun x _ => lt_top_iff_ne_top.2 (h x).2⟩))

theorem sum_mul_real {ι : Type} (S : Finset ι) (f : ι → EReal) (c : ℝ) (hc : 0 ≤ c) : (∑ i ∈ S, f i) * (c : EReal) = ∑ i ∈ S, f i * (c : EReal) := by
  classical
  induction S using Finset.induction_on with
  | empty => simp
  | insert a S ha ih =>
    rw [Finset.sum_insert ha, Finset.sum_insert ha, EReal.right_distrib_of_nonneg_of_ne_top (EReal.coe_nonneg.2 hc) (EReal.coe_ne_top c), ih]

/-- The weights sum to a positive real. -/
theorem total (s : Fin n → EReal) (k : Fin n) (h : ∀ k, IsReal (s k)) : ∃ r : ℝ, 0 < r ∧ ∑ k, weight s k = (r : EReal) := by
  obtain ⟨M, hM⟩ := real_of (top_real s k h)
  choose f hf using fun k => real_of (h k)
  have hw : ∀ k, weight s k = ((Real.exp (f k - M) : ℝ) : EReal) := fun k => by
    unfold weight
    rw [hM, hf k, ← EReal.coe_sub]
    rfl
  refine ⟨∑ k, Real.exp (f k - M), Finset.sum_pos (fun k _ => Real.exp_pos _) ⟨k, Finset.mem_univ k⟩, ?_⟩
  simp only [hw]
  exact (map_sum (⟨⟨Real.toEReal, EReal.coe_zero⟩, EReal.coe_add⟩ : ℝ →+ EReal) _ _).symm

/-- The quotient taken of each weight. -/
theorem mean_eq (s v : Fin n → EReal) (k : Fin n) (h : ∀ k, IsReal (s k)) : ∑ k, v k * Ideal.div (weight s k) (∑ k, weight s k) = mean s v := by
  obtain ⟨r, hr, ht⟩ := total s k h
  unfold mean
  rw [ht]
  simp only [Ideal.div_coe hr.ne']
  rw [sum_mul_real _ _ _ (one_div_pos.2 hr).le]
  refine Finset.sum_congr rfl fun k _ => ?_
  rw [mul_comm (weight s k) (v k), mul_assoc]

end Cert.Softmax

end
-- ==== Proof.Ctx.lean ====
module

public import proofs.«01_k».proof.Proof.Softmax
public import proofs.«01_k».proof.Proof.Gen.Kernel7Ideal.Value

/-! # The context attention: one block of heads -/
@[expose] public section

set_option maxRecDepth 16384

noncomputable section

namespace Cert.Kernel7Ideal.Ctx

open Idealize.ShloMosaic Idealize.ShloMosaic.TcCoe Idealize.SL.Sem
open Idealize.ShloMosaic.Pipeline (Dat)
open Cert.Kernel7Ideal Cert.Kernel7Ideal.Gen Cert.Gates Cert.Norms Cert.Softmax

theorem pay_at (q k v z : Vec Ideal S256x128 .bf16) (r : Fin 256) (c : Fin 128) :
    k0_pay2 q k v z (ix2 r c) = mean (fun j => ∑ d : Fin 128, q (ix2 r d) * k (ix2 j d)) (fun j => v (ix2 j c)) * z (ix2 r c) := by
  unfold mean weight top
  pointwise [k0_pay2]

/-- Column `d` of the head that column `c` belongs to. -/
def headCol (c : Fin 2048) (d : Fin 128) : Fin 2048 := ⟨c.val / 128 * 128 + d.val, by have := c.isLt; have := d.isLt; omega⟩

/-- The block of sixteen heads. -/
def AB (q k v z : Vec Ideal S256x2048 .bf16) : Vec Ideal S256x2048 .bf16 := fun y =>
  mean (fun j : Fin 256 => ∑ d : Fin 128, q (ix2 (y 0) (headCol (y 1) d)) * k (ix2 j (headCol (y 1) d))) (fun j => v (ix2 j (y 1))) * z (ix2 (y 0) (y 1))

/-- The columns of head `n`. -/
abbrev cols (n : Fin 16) : Rect S256x2048 := Rect.unit (s := S256x2048) ![0, 128 * n.val] S256x128.size (by
  intro a; have := n.isLt; fin_cases a
  · show 0 + 256 ≤ 256; omega
  · show 128 * n.val + 128 ≤ 2048; omega)

theorem emb_cols (n : Fin 16) (r : Fin 256) (d : Fin 128) :
    (cols n).emb (ix2 r d) = ix2 r ⟨128 * n.val + d.val, by have := n.isLt; have := d.isLt; omega⟩ := by
  refine funext fun a => Fin.ext ?_
  rw [Rect.emb_apply]
  fin_cases a
  · show 0 + 1 * r.val = r.val; omega
  · show 128 * n.val + 1 * d.val = 128 * n.val + d.val; omega

theorem ld_cols (x : Vec Ideal S256x2048 .bf16) (n : Fin 16) (r : Fin 256) (d : Fin 128) :
    View.ld x (cols n) (ix2 r d) = x (ix2 r ⟨128 * n.val + d.val, by have := n.isLt; have := d.isLt; omega⟩) := congrArg x (emb_cols n r d)

/-- What is stored of head `n`. -/
abbrev piece (q k v z : Vec Ideal S256x2048 .bf16) (n : Fin 16) : View.Piece (Elt Ideal) S256x2048 .bf16 :=
  ⟨cols n, k0_pay2 (View.ld q (cols n)) (View.ld k (cols n)) (View.ld v (cols n)) (View.ld z (cols n))⟩

theorem holds_piece (q k v z : Vec Ideal S256x2048 .bf16) (n : Fin 16) : Holds (AB q k v z) (piece q k v z n) := by
  intro y
  change S256x128.Idx at y
  idx_vars y
  refine (pay_at _ _ _ _ _ _).trans ?_
  refine Eq.trans ?_ (congrArg (AB q k v z) (emb_cols n y0 y1)).symm
  have hh : ∀ d : Fin 128, headCol ⟨128 * n.val + y1.val, by have := n.isLt; have := y1.isLt; omega⟩ d
      = ⟨128 * n.val + d.val, by have := n.isLt; have := d.isLt; omega⟩ := fun d => Fin.ext (by
    have := y1.isLt
    show (128 * n.val + y1.val) / 128 * 128 + d.val = 128 * n.val + d.val
    omega)
  show _ = mean _ _ * _
  refine congrArg₂ (· * ·) (congrArg₂ mean (funext fun j => Finset.sum_congr rfl fun d _ => ?_) (funext fun j => ld_cols v n j y1)) (ld_cols z n y0 y1)
  refine congrArg₂ (· * ·) ((ld_cols q n y0 d).trans ?_) ((ld_cols k n j d).trans ?_)
  · exact congrArg (fun C => q (ix2 y0 C)) (hh d).symm
  · exact congrArg (fun C => k (ix2 j C)) (hh d).symm

theorem pieces_eq (q k v z : Vec Ideal S256x2048 .bf16) : out0_4 q k v z = View.canon ((List.finRange 16).reverse.map (piece q k v z)) := by
  rfl

theorem covered (q k v z : Vec Ideal S256x2048 .bf16) (y : S256x2048.Idx) : ∃ p ∈ (List.finRange 16).reverse.map (piece q k v z), y ∈ p.1.set :=
  cover0_4 (F := Ideal) _ _ _ _ _ _ _ _ _ _ _ _ _ _ _ _ y

theorem block_eq (q k v z : Vec Ideal S256x2048 .bf16) : out0_4 q k v z = AB q k v z := by
  rw [pieces_eq]
  refine canon_holds _ _ (fun p hp => ?_) (covered q k v z)
  obtain ⟨n, -, rfl⟩ := List.mem_map.1 hp
  exact holds_piece q k v z n

variable (m : (ℓ : Loc nD τ sig) → Buf (Elt Ideal) ℓ)

abbrev QA (c : Dev nD) : FVec Ideal S4096x4096 .bf16 := m ((c : Thread nD τ).loc main_arg0)
abbrev KA (c : Dev nD) : FVec Ideal S4096x4096 .bf16 := m ((c : Thread nD τ).loc main_arg1)
abbrev VA (c : Dev nD) : FVec Ideal S4096x4096 .bf16 := m ((c : Thread nD τ).loc main_arg2)
abbrev ZA (c : Dev nD) : FVec Ideal S4096x4096 .bf16 := m ((c : Thread nD τ).loc main_arg3)

/-- Token `j` of the sequence that row `R` belongs to. -/
def tok (R : Fin 4096) (j : Fin 256) : Fin 4096 := ⟨R.val / 256 * 256 + j.val, by have := R.isLt; have := j.isLt; omega⟩

/-- Column `d` of the head that column `C` belongs to. -/
def head (C : Fin 4096) (d : Fin 128) : Fin 4096 := ⟨C.val / 128 * 128 + d.val, by have := C.isLt; have := d.isLt; omega⟩

/-- The attention of every sequence and head, gated. -/
def attnOf (q k v z : FVec Ideal S4096x4096 .bf16) : FVec Ideal S4096x4096 .bf16 := fun y =>
  mean (fun j => ∑ d : Fin 128, q (ix2 (y 0) (head (y 1) d)) * k (ix2 (tok (y 0) j) (head (y 1) d))) (fun j => v (ix2 (tok (y 0) j) (y 1))) * z (ix2 (y 0) (y 1))

theorem idx : ∀ t : Fin cfg0.N, win0_0.index t = ![t.val / 2, t.val % 2] ∧ win0_1.index t = ![t.val / 2, t.val % 2]
    ∧ win0_2.index t = ![t.val / 2, t.val % 2] ∧ win0_3.index t = ![t.val / 2, t.val % 2] ∧ win0_4.index t = ![t.val / 2, t.val % 2] ∧ t.val < 32 :=
  (by decide +kernel : ∀ t : Fin grid0.N, _)

theorem q_at (c : Dev nD) (t : Fin cfg0.N) (r : Fin 256) (d : Fin 2048) (R C : Fin 4096) (hR : R.val = 256 * (t.val / 2) + r.val) (hC : C.val = 2048 * (t.val % 2) + d.val) :
    (iblk m c 0 t : Vec Ideal S256x2048 .bf16) (ix2 r d) = QA m c (ix2 R C) := by
  obtain ⟨a0, a1, a2, a3, a4, at32⟩ := idx t
  have hA : QA m c = V m c main_arg0 := (V_main_arg0 m c).symm
  rw [hA]
  blk_ext [iblk, a0]
  all_goals omega

theorem k_at (c : Dev nD) (t : Fin cfg0.N) (r : Fin 256) (d : Fin 2048) (R C : Fin 4096) (hR : R.val = 256 * (t.val / 2) + r.val) (hC : C.val = 2048 * (t.val % 2) + d.val) :
    (iblk m c 1 t : Vec Ideal S256x2048 .bf16) (ix2 r d) = KA m c (ix2 R C) := by
  obtain ⟨a0, a1, a2, a3, a4, at32⟩ := idx t
  have hA : KA m c = V m c main_arg1 := (V_main_arg1 m c).symm
  rw [hA]
  blk_ext [iblk, a1]
  all_goals omega

theorem v_at (c : Dev nD) (t : Fin cfg0.N) (r : Fin 256) (d : Fin 2048) (R C : Fin 4096) (hR : R.val = 256 * (t.val / 2) + r.val) (hC : C.val = 2048 * (t.val % 2) + d.val) :
    (iblk m c 2 t : Vec Ideal S256x2048 .bf16) (ix2 r d) = VA m c (ix2 R C) := by
  obtain ⟨a0, a1, a2, a3, a4, at32⟩ := idx t
  have hA : VA m c = V m c main_arg2 := (V_main_arg2 m c).symm
  rw [hA]
  blk_ext [iblk, a2]
  all_goals omega

theorem z_at (c : Dev nD) (t : Fin cfg0.N) (r : Fin 256) (d : Fin 2048) (R C : Fin 4096) (hR : R.val = 256 * (t.val / 2) + r.val) (hC : C.val = 2048 * (t.val % 2) + d.val) :
    (iblk m c 3 t : Vec Ideal S256x2048 .bf16) (ix2 r d) = ZA m c (ix2 R C) := by
  obtain ⟨a0, a1, a2, a3, a4, at32⟩ := idx t
  have hA : ZA m c = V m c main_arg3 := (V_main_arg3 m c).symm
  rw [hA]
  blk_ext [iblk, a3]
  all_goals omega

theorem final (c : Dev nD) : (dats m 0 c).arrAt 4 cfg0.N = attnOf (QA m c) (KA m c) (VA m c) (ZA m c) := by
  refine (dats m 0 c).arrAt_eq_of_covers 4 _ (by decide +kernel) fun t _ y => ?_
  obtain ⟨a0, a1, a2, a3, a4, at32⟩ := idx t
  have b0 : (((cfg0.win 4).blk t).view.emb y 0).val = 256 * (t.val / 2) + (y 0).val := by blk_simp [a4]; omega
  have b1 : (((cfg0.win 4).blk t).view.emb y 1).val = 2048 * (t.val % 2) + (y 1).val := by blk_simp [a4]; omega
  have y0 : (y 0).val < 256 := (y 0).isLt
  have y1 : (y 1).val < 2048 := (y 1).isLt
  generalize ((cfg0.win 4).blk t).view.emb y = Y at b0 b1 ⊢
  blk_simp
  rw [after0_4, block_eq]
  show mean _ _ * _ = mean _ _ * _
  rw [z_at m c t (y 0) (y 1) (Y 0) (Y 1) b0 b1]
  refine congrArg₂ (· * ·) (congrArg₂ mean ?_ ?_) rfl
  · funext j
    refine Finset.sum_congr rfl fun d _ => ?_
    have hd := d.isLt
    have hC : (head (Y 1) d).val = 2048 * (t.val % 2) + (headCol (y 1) d).val := by
      show (Y 1).val / 128 * 128 + d.val = 2048 * (t.val % 2) + ((y 1).val / 128 * 128 + d.val); omega
    rw [q_at m c t (y 0) _ (Y 0) (head (Y 1) d) b0 hC,
      k_at m c t j _ (tok (Y 0) j) (head (Y 1) d) (by have := j.isLt; show (Y 0).val / 256 * 256 + j.val = _; omega) hC]
  · funext j
    exact v_at m c t j (y 1) (tok (Y 0) j) (Y 1) (by have := j.isLt; show (Y 0).val / 256 * 256 + j.val = _; omega) b1

end Cert.Kernel7Ideal.Ctx

end
-- ==== Proof.CtxRef.lean ====
module

public import proofs.«01_k».proof.Proof.Softmax
public import proofs.«01_k».proof.Proof.Gen.Reference7Ideal.Run

/-! # The reference of the context attention, read at an index -/
@[expose] public section

set_option maxRecDepth 16384

noncomputable section

namespace Cert.Reference7Ideal.Rows

open Idealize.ShloMosaic
open Cert.Reference7Ideal Cert.Reference7Ideal.Facts₀ Cert.Softmax

variable [hR : Cert.Reference7Ideal.Facts]

/-- Rows and columns by sequence, token, head and column of the head. -/
abbrev heads (q : FVec Ideal S4096x4096 .bf16) : FVec Ideal S16x256x32x128 .f32 := shapeCast _ (extf .f32 q bitsLt_bf16_f32) shapeCasts_S4096x4096_S16x256x32x128

abbrev scores (q k : FVec Ideal S4096x4096 .bf16) : FVec Ideal S16x32x256x256 .f32 :=
  Host.dotGeneral dot_S16x256x32x128_S16x256x32x128_S16x32x256x256_3_3_1_1_02_02 none (heads q) (heads k)

abbrev most (s : FVec Ideal S16x32x256x256 .f32) : FVec Ideal S16x32x256 .f32 :=
  Host.reduce FloatOps.maximumf s (constant S_ .f32 0xFF800000#32) reducesTo_S16x32x256x256_S16x32x256_d3 h_S_

abbrev less (s : FVec Ideal S16x32x256x256 .f32) (t : FVec Ideal S16x32x256 .f32) : FVec Ideal S16x32x256x256 .f32 :=
  Host.exp (subf s (broadcastInDim S16x32x256x256 ![0, 1, 2, 3] bcast_S16x32x256x1_S16x32x256x256_0_1_2_3 (broadcastInDim S16x32x256x1 ![0, 1, 2] bcast_S16x32x256_S16x32x256x1_0_1_2 (maximumf (broadcastInDim S16x32x256 ![] bcast_S_S16x32x256 (constant S_ .f32 0xFF800000#32)) t))))

abbrev soft (p : FVec Ideal S16x32x256x256 .f32) : FVec Ideal S16x32x256x256 .f32 :=
  Host.divf p (broadcastInDim S16x32x256x256 ![0, 1, 2, 3] bcast_S16x32x256x1_S16x32x256x256_0_1_2_3 (broadcastInDim S16x32x256x1 ![0, 1, 2] bcast_S16x32x256_S16x32x256x1_0_1_2 (Host.reduceAdd p (constant S_ .f32 0x00000000#32) reducesTo_S16x32x256x256_S16x32x256_d3 h_S_)))

abbrev mix (p : FVec Ideal S16x32x256x256 .f32) (v z : FVec Ideal S4096x4096 .bf16) : FVec Ideal S4096x4096 .bf16 :=
  truncf .bf16 (mulf (shapeCast _ (transpose S16x256x32x128 [0, 3, 1, 2] (Host.dotGeneral dot_S16x256x32x128_S16x32x256x256_S16x32x128x256_1_3_3_2_02_01 none (heads v) p) transposes_S16x32x128x256_S16x256x32x128_0_3_1_2) shapeCasts_S16x256x32x128_S4096x4096) (extf .f32 z bitsLt_bf16_f32)) bitsLt_bf16_f32

theorem scores_at (q k : FVec Ideal S4096x4096 .bf16) (b : Fin 16) (h : Fin 32) (x y : Fin 256) :
    scores q k (ix4 b h x y) = ∑ d : Fin 128, q (ix2 ⟨b.val * 256 + x.val, by omega⟩ ⟨h.val * 128 + d.val, by omega⟩)
      * k (ix2 ⟨b.val * 256 + y.val, by omega⟩ ⟨h.val * 128 + d.val, by omega⟩) := by
  unfold scores
  pointwise

theorem most_at (s : FVec Ideal S16x32x256x256 .f32) (b : Fin 16) (h : Fin 32) (x : Fin 256) :
    most s (ix3 b h x) = top (fun y : Fin 256 => s (ix4 b h x y)) := by
  unfold most top
  rw [Host.reduce_eq_fold_single FloatOps.maximumf s _ reducesTo_S16x32x256x256_S16x32x256_d3 (by decide : S16x32x256x256.Reduces [3] S16x32x256) h_S_]
  have hl : ∀ y : Fin 256, (by decide : S16x32x256x256.Reduces [3] S16x32x256).lift (ix3 b h x) y = ix4 b h x y := fun y =>
    funext fun a => Fin.ext (by fin_cases a <;> rfl)
  refine congrArg (Finset.fold _ _ · _) (funext fun y => ?_)
  exact congrArg s (hl y)

theorem less_at (s : FVec Ideal S16x32x256x256 .f32) (t : FVec Ideal S16x32x256 .f32) (b : Fin 16) (h : Fin 32) (x y : Fin 256) :
    less s t (ix4 b h x y) = Ideal.exp (s (ix4 b h x y) - max (Ideal.ofBits .f32 0xFF800000#32) (t (ix3 b h x))) := by
  unfold less
  pointwise

theorem weight_at (s : FVec Ideal S16x32x256x256 .f32) (b : Fin 16) (h : Fin 32) (x y : Fin 256) :
    less s (most s) (ix4 b h x y) = weight (fun y : Fin 256 => s (ix4 b h x y)) y := by
  rw [less_at, most_at, max_lowest]
  rfl

theorem soft_at (p : FVec Ideal S16x32x256x256 .f32) (b : Fin 16) (h : Fin 32) (x y : Fin 256) :
    soft p (ix4 b h x y) = Ideal.div (p (ix4 b h x y)) (∑ y' : Fin 256, p (ix4 b h x y')) := by
  unfold soft
  pointwise

theorem mix_at (p : FVec Ideal S16x32x256x256 .f32) (v z : FVec Ideal S4096x4096 .bf16) (R C : Fin 4096) :
    mix p v z (ix2 R C) = (∑ x : Fin 256, v (ix2 ⟨R.val / 256 * 256 + x.val, by omega⟩ C)
      * p (ix4 ⟨R.val / 256, by omega⟩ ⟨C.val / 128, by omega⟩ ⟨R.val % 256, by omega⟩ x)) * z (ix2 R C) := by
  unfold mix
  pointwise

end Cert.Reference7Ideal.Rows

end
-- ==== Proof.CtxResult.lean ====
module

public import proofs.«01_k».proof.Proof.Ctx
public import proofs.«01_k».proof.Proof.CtxRef
public import proofs.«01_k».proof.Proof.Gen.Pre_finite
public import proofs.«01_k».proof.Defs

/-! # The context attention and its reference -/
@[expose] public section

set_option maxRecDepth 16384

noncomputable section

namespace Cert.Kernel7Ideal.Ctx

open Idealize.ShloMosaic Idealize.ShloMosaic.TcCoe Idealize.SL.Sem
open Cert.Kernel7Ideal Cert.Kernel7Ideal.Gen Cert.Softmax

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0) = attnOf (QA m c) (KA m c) (VA m c) (ZA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.Kernel7Ideal.Value.run_blocks m ρ)

theorem real_of_abs (x : EReal) (h : (FloatOps.cmpf (F := Ideal) (φ := .bf16) .olt (FloatOps.hostAbsf (F := Ideal) (φ := .bf16) x) (Ideal.ofBits .bf16 0x7F80#16)) = 1#1) : IsReal x := by
  have hi : Ideal.ofBits .bf16 0x7F80#16 = (⊤ : EReal) := by simp [Ideal.ofBits, Ideal.ieee]
  rw [hi] at h
  refine ⟨?_, ?_⟩
  · rintro rfl
    revert h
    simp [FloatOps.cmpf, FloatOps.hostAbsf, Idealize.ShloMosaic.Ideal.cmp]
  · rintro rfl
    revert h
    simp [FloatOps.cmpf, FloatOps.hostAbsf, Idealize.ShloMosaic.Ideal.cmp]

theorem reals (q k v z : FVec Ideal S4096x4096 .bf16) (h : Cert.Pre_finite.fn (F := Ideal) q k v z = fun _ => 1#1) (y : S4096x4096.Idx) :
    IsReal (q y) ∧ IsReal (k y) := by
  obtain ⟨h0, h1⟩ := Idealize.ShloMosaic.IntOp.andi_eq_one.1 (congrFun h y)
  exact ⟨real_of_abs _ h0, real_of_abs _ h1⟩

/-- The reference's result, of real queries and keys. -/
theorem ref_eq [hR : Cert.Reference7Ideal.Facts] (q k v z : FVec Ideal S4096x4096 .bf16) (hq : ∀ y, IsReal (q y)) (hk : ∀ y, IsReal (k y)) (R C : Fin 4096) :
    Cert.Reference7Ideal.Rows.mix (Cert.Reference7Ideal.Rows.soft (Cert.Reference7Ideal.Rows.less (Cert.Reference7Ideal.Rows.scores q k)
      (Cert.Reference7Ideal.Rows.most (Cert.Reference7Ideal.Rows.scores q k)))) v z (ix2 R C) = attnOf q k v z (ix2 R C) := by
  refine (Cert.Reference7Ideal.Rows.mix_at _ v z R C).trans ?_
  show _ = mean _ _ * z (ix2 R C)
  refine congrArg (· * z (ix2 R C)) ?_
  rw [← mean_eq _ _ (0 : Fin 256) (fun j => real_sums _ _ fun d => real_mul (hq _) (hk _))]
  have hs : ∀ y : Fin 256, Cert.Reference7Ideal.Rows.scores q k (ix4 ⟨R.val / 256, by omega⟩ ⟨C.val / 128, by omega⟩ ⟨R.val % 256, by omega⟩ y)
      = ∑ d : Fin 128, q (ix2 R (head C d)) * k (ix2 (tok R y) (head C d)) := fun y => by
    refine (Cert.Reference7Ideal.Rows.scores_at q k _ _ _ _).trans ?_
    refine Finset.sum_congr rfl fun d _ => ?_
    rw [show (⟨R.val / 256 * 256 + R.val % 256, by omega⟩ : Fin 4096) = R from Fin.ext (by show R.val / 256 * 256 + R.val % 256 = R.val; omega)]
    rfl
  have hw : ∀ y : Fin 256, Cert.Reference7Ideal.Rows.less (Cert.Reference7Ideal.Rows.scores q k) (Cert.Reference7Ideal.Rows.most (Cert.Reference7Ideal.Rows.scores q k))
      (ix4 ⟨R.val / 256, by omega⟩ ⟨C.val / 128, by omega⟩ ⟨R.val % 256, by omega⟩ y)
      = weight (fun j => ∑ d : Fin 128, q (ix2 R (head C d)) * k (ix2 (tok R j) (head C d))) y := fun y => by
    rw [Cert.Reference7Ideal.Rows.weight_at]
    simp only [hs]
  refine Finset.sum_congr rfl fun y _ => congrArg (v (ix2 (tok R y) C) * ·) ?_
  rw [Cert.Reference7Ideal.Rows.soft_at]
  simp only [hw]
  rfl

/-- Kernel and reference, of the same arguments, end with the same results. -/
theorem algebraic [hR : Cert.Reference7Ideal.Facts] : Cert.algebraic_Kernel7Ideal_Reference7Ideal_pre_finite := by
  intro m g m' g' pre ag
  refine ⟨_, result m g, (θ_run Cert.Reference7Ideal.defs _ _).mono (fun r h c => ⟨?_, (h c).2⟩) (Cert.Reference7Ideal.Value.run (F := Ideal) m' g')⟩
  refine (h c).1.trans ?_
  obtain ⟨g0, g1, g2, g3⟩ := ag c
  rw [g0, g1, g2, g3]
  have hp := reals _ _ _ _ (pre c)
  funext y
  idx_vars y
  exact ref_eq (QA m c) (KA m c) (VA m c) (ZA m c) (fun y => (hp y).1) (fun y => (hp y).2) y0 y1

theorem preserves : Cert.preserves_Kernel7_Kernel7Ideal := trivial

end Cert.Kernel7Ideal.Ctx

end
-- ==== Proof.First.lean ====
module

public import proofs.«01_k».proof.Proof.Norms
public import proofs.«01_k».proof.Proof.Gen.Kernel9Ideal.Value

/-! # The first layer's input: rows normed, scaled and shifted -/
@[expose] public section

set_option maxRecDepth 16384

noncomputable section

namespace Cert.Kernel9Ideal.First

open Idealize.ShloMosaic Idealize.ShloMosaic.TcCoe Idealize.SL.Sem
open Idealize.ShloMosaic.Pipeline (Dat)
open Cert.Kernel9Ideal Cert.Kernel9Ideal.Gen Cert.Gates Cert.Norms

theorem hz : (![0, 0] : Fin 2 → Nat) = fun _ => 0 := funext fun a => by fin_cases a <;> rfl
theorem hz3 : (![0, 0, 0] : Fin 3 → Nat) = fun _ => 0 := funext fun a => by fin_cases a <;> rfl

/-- A block of one row. -/
def line (g : Vec Ideal S1x1x2048 .f32) (q : Fin 2048) : EReal := g (ix3 0 0 q)

theorem pay_at (x : Vec Ideal S256x2048 .f32) (g sh sc : Vec Ideal S1x1x2048 .f32) (r : Fin 256) (q : Fin 2048) :
    k0_pay1 x g sh sc (ix2 r q) = next (fun q => x (ix2 r q)) (line g) (line sc) (line sh) q := by
  unfold next perRoot line
  pointwise [k0_pay1]

/-- The block, from its four slabs of rows. -/
def HB (xs : Fin 4 → Vec Ideal S256x2048 .f32) (g sh sc : Vec Ideal S1x1x2048 .f32) : Vec Ideal S1024x2048 .bf16 := fun y =>
  next (fun q => xs (Fin.ofNat 4 ((y 0).val / 256)) (ix2 (Fin.ofNat 256 (y 0).val) q)) (line g) (line sc) (line sh) (y 1)

/-- A slab's rows. -/
abbrev slab (n : Fin 4) : Rect S1024x2048 := Rect.unit (s := S1024x2048) ![256 * n.val, 0] S256x2048.size (by
  intro a; have := n.isLt; fin_cases a
  · show 256 * n.val + 256 ≤ 1024; omega
  · show 0 + 2048 ≤ 2048; omega)

theorem emb_slab (n : Fin 4) (r : Fin 256) (q : Fin 2048) :
    (slab n).emb (ix2 r q) = ix2 ⟨256 * n.val + r.val, by have := n.isLt; have := r.isLt; omega⟩ q := by
  refine funext fun a => Fin.ext ?_
  rw [Rect.emb_apply]
  fin_cases a
  · show 256 * n.val + 1 * r.val = 256 * n.val + r.val; omega
  · show 0 + 1 * q.val = q.val; omega

/-- What is stored of slab `n`. -/
abbrev piece (xs : Fin 4 → Vec Ideal S256x2048 .f32) (g sh sc : Vec Ideal S1x1x2048 .f32) (n : Fin 4) : View.Piece (Elt Ideal) S1024x2048 .bf16 :=
  ⟨slab n, k0_pay1 (xs n) g sh sc⟩

theorem holds_piece (xs : Fin 4 → Vec Ideal S256x2048 .f32) (g sh sc : Vec Ideal S1x1x2048 .f32) (n : Fin 4) : Holds (HB xs g sh sc) (piece xs g sh sc n) := by
  intro y
  change S256x2048.Idx at y
  idx_vars y
  refine (pay_at _ _ _ _ _ _).trans ?_
  refine Eq.trans ?_ (congrArg (HB xs g sh sc) (emb_slab n y0 y1)).symm
  have h1 : Fin.ofNat 4 ((256 * n.val + y0.val) / 256) = n := Fin.ext (by have := n.isLt; have := y0.isLt; simp only [Fin.ofNat]; omega)
  have h2 : Fin.ofNat 256 (256 * n.val + y0.val) = y0 := Fin.ext (by have := y0.isLt; simp only [Fin.ofNat]; omega)
  show _ = next (fun q => xs (Fin.ofNat 4 ((256 * n.val + y0.val) / 256)) (ix2 (Fin.ofNat 256 (256 * n.val + y0.val)) q)) _ _ _ _
  rw [h1, h2]
  rfl

section Block
variable (x0 x1 x2 x3 : Vec Ideal S256x2048 .f32) (x4 x5 x6 : Vec Ideal S1x1x2048 .f32)

theorem ld_x (x : Vec Ideal S256x2048 .f32) : View.ld x r0_0 = x := View.ld_unit_zero (S := S256x2048) hz _ x
theorem ld_l (x : Vec Ideal S1x1x2048 .f32) : View.ld x r0_1 = x := View.ld_unit_zero (S := S1x1x2048) hz3 _ x

theorem pieces_eq : out0_7 x0 x1 x2 x3 x4 x5 x6 = View.canon ((List.finRange 4).reverse.map (piece ![x0, x1, x2, x3] x4 x5 x6)) := by
  unfold out0_7
  rw [ld_x, ld_x, ld_x, ld_x, ld_l, ld_l, ld_l]
  rfl

theorem block_eq : out0_7 x0 x1 x2 x3 x4 x5 x6 = HB ![x0, x1, x2, x3] x4 x5 x6 := by
  rw [pieces_eq]
  refine canon_holds _ _ (fun p hp => ?_) (cover0_7 (F := Ideal) _ _ _ _)
  obtain ⟨n, -, rfl⟩ := List.mem_map.1 hp
  exact holds_piece _ _ _ _ n

end Block

variable (m : (ℓ : Loc nD τ sig) → Buf (Elt Ideal) ℓ)

/-! ## The arrays -/

abbrev XA (c : Dev nD) : FVec Ideal S16384x2048 .f32 := m ((c : Thread nD τ).loc main_arg0)
abbrev MA (c : Dev nD) : FVec Ideal S32x1x6144 .f32 := m ((c : Thread nD τ).loc main_arg1)
abbrev GA (c : Dev nD) : FVec Ideal S4x2048 .f32 := m ((c : Thread nD τ).loc main_arg2)

theorem V_g (c : Dev nD) : V m c main_v0 = shapeCast S4x1x2048 (GA m c) shapeCasts_S4x2048_S4x1x2048 := by
  show StableHlo.after (List.flatten [hostOps0]) _ _ = _
  simp only [hostOps0, List.flatten_cons, List.flatten_nil, List.append_nil, List.cons_append, List.nil_append]
  after_results
  rfl

theorem read_g (W : FVec Ideal S4x2048 .f32) (l : Fin 4) (q : Fin 2048) :
    shapeCast S4x1x2048 W shapeCasts_S4x2048_S4x1x2048 (ix3 l 0 q) = W (ix2 l q) := by
  pointwise

theorem idx : ∀ t : Fin cfg0.N, win0_0.index t = ![4 * t.val, 0] ∧ win0_1.index t = ![4 * t.val + 1, 0]
    ∧ win0_2.index t = ![4 * t.val + 2, 0] ∧ win0_3.index t = ![4 * t.val + 3, 0]
    ∧ win0_4.index t = ![0, 0, 0] ∧ win0_5.index t = ![1 + t.val / 4, 0, 0] ∧ win0_6.index t = ![1 + t.val / 4, 0, 1]
    ∧ win0_7.index t = ![t.val, 0] ∧ t.val < 16 :=
  (by decide +kernel : ∀ t : Fin grid0.N, _)

/-- Columns `o` on of the modulation of the frame of row `R`. -/
def modOf (mods : FVec Ideal S32x1x6144 .f32) (o : ℕ) (R : Fin 16384) (q : Fin 2048) : EReal :=
  mods (ix3 (Fin.ofNat 32 (1 + R.val / 4096)) 0 (Fin.ofNat 6144 (o + q.val)))

def hOf (x : FVec Ideal S16384x2048 .f32) (mods : FVec Ideal S32x1x6144 .f32) (g : FVec Ideal S4x2048 .f32) : FVec Ideal S16384x2048 .bf16 :=
  fun y => next (fun q => x (ix2 (y 0) q)) (fun q => g (ix2 0 q)) (modOf mods 2048 (y 0)) (modOf mods 0 (y 0)) (y 1)

abbrev xs (c : Dev nD) (t : Fin cfg0.N) : Fin 4 → Vec Ideal S256x2048 .f32 := ![iblk m c 0 t, iblk m c 1 t, iblk m c 2 t, iblk m c 3 t]

theorem xs_at (c : Dev nD) (t : Fin cfg0.N) (n : Fin 4) (r : Fin 256) (k : Fin 2048) (R : Fin 16384) (hR : R.val = 1024 * t.val + 256 * n.val + r.val) :
    xs m c t n (ix2 r k) = XA m c (ix2 R k) := by
  obtain ⟨a0, a1, a2, a3, a4, a5, a6, a7, at16⟩ := idx t
  have hA : XA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)
  · show iblk m c 2 t (ix2 r k) = _
    blk_ext [iblk, a2]
    all_goals (simp at hR; omega)
  · show iblk m c 3 t (ix2 r k) = _
    blk_ext [iblk, a3]
    all_goals (simp at hR; omega)

theorem g_at (c : Dev nD) (t : Fin cfg0.N) (q : Fin 2048) : line (iblk m c 4 t) q = GA m c (ix2 0 q) := by
  obtain ⟨a0, a1, a2, a3, a4, a5, a6, a7, at16⟩ := idx t
  refine Eq.trans ?_ (read_g (GA m c) 0 q)
  rw [← V_g]
  unfold line
  blk_ext [iblk, a4]

theorem sh_at (c : Dev nD) (t : Fin cfg0.N) (R : Fin 16384) (hR : R.val / 1024 = t.val) (q : Fin 2048) :
    line (iblk m c 5 t) q = modOf (MA m c) 0 R q := by
  obtain ⟨a0, a1, a2, a3, a4, a5, a6, a7, at16⟩ := idx t
  have hA : MA m c = V m c main_arg1 := (V_main_arg1 m c).symm
  have hq := q.isLt
  rw [hA]
  unfold line modOf
  blk_ext [iblk, a5]
  all_goals (simp [Fin.ofNat]; omega)

theorem sc_at (c : Dev nD) (t : Fin cfg0.N) (R : Fin 16384) (hR : R.val / 1024 = t.val) (q : Fin 2048) :
    line (iblk m c 6 t) q = modOf (MA m c) 2048 R q := by
  obtain ⟨a0, a1, a2, a3, a4, a5, a6, a7, at16⟩ := idx t
  have hA : MA m c = V m c main_arg1 := (V_main_arg1 m c).symm
  have hq := q.isLt
  rw [hA]
  unfold line modOf
  blk_ext [iblk, a6]
  all_goals (simp [Fin.ofNat]; omega)

theorem final (c : Dev nD) : (dats m 0 c).arrAt 7 cfg0.N = hOf (XA m c) (MA m c) (GA m c) := by
  refine (dats m 0 c).arrAt_eq_of_covers 7 _ (by decide +kernel) fun t _ y => ?_
  obtain ⟨a0, a1, a2, a3, a4, a5, a6, a7, at16⟩ := idx t
  have b0 : (((cfg0.win 7).blk t).view.emb y 0).val = 1024 * t.val + (y 0).val := by blk_simp [a7]; omega
  have b1 : ((cfg0.win 7).blk t).view.emb y 1 = y 1 := Fin.ext (by blk_simp [a7])
  have hy : (y 0).val < 1024 := (y 0).isLt
  generalize hY : ((cfg0.win 7).blk t).view.emb y = Y at b0 b1 ⊢
  have h4 : line (iblk m c 4 t) = fun q => GA m c (ix2 0 q) := funext fun q => g_at m c t q
  have h5 : line (iblk m c 5 t) = modOf (MA m c) 0 (Y 0) := funext fun q => sh_at m c t (Y 0) (by rw [b0]; omega) q
  have h6 : line (iblk m c 6 t) = modOf (MA m c) 2048 (Y 0) := funext fun q => sc_at m c t (Y 0) (by rw [b0]; omega) q
  have hx : (fun q => xs m c t (Fin.ofNat 4 ((y 0).val / 256)) (ix2 (Fin.ofNat 256 (y 0).val) q)) = fun q => XA m c (ix2 (Y 0) q) :=
    funext fun q => xs_at m c t _ _ q (Y 0) (by rw [b0]; simp only [Fin.ofNat]; omega)
  blk_simp
  rw [after0_7, block_eq]
  unfold HB hOf
  rw [b1, h4, h5, h6]
  exact congrArg (fun u => next u _ _ _ (y 1)) hx

end Cert.Kernel9Ideal.First

end
-- ==== Proof.FirstResult.lean ====
module

public import proofs.«01_k».proof.Proof.First
public import proofs.«01_k».proof.Proof.Gen.Reference9Ideal.Run
public import proofs.«01_k».proof.Defs

/-! # The first layer's input and its reference -/
@[expose] public section

set_option maxRecDepth 16384

noncomputable section

namespace Cert.Reference9Ideal.Rows

open Idealize.ShloMosaic Cert.Norms
open Cert.Reference9Ideal Cert.Reference9Ideal.Facts₀

variable [hR : Cert.Reference9Ideal.Facts]

/-- The rows normed and weighted. -/
abbrev normed (D : FVec Ideal S16384x2048 .f32) (P : FVec Ideal S4x2048 .f32) : FVec Ideal S16384x2048 .f32 :=
  mulf (mulf D (broadcastInDim S16384x2048 ![0, 1] bcast_S16384x1_S16384x2048_0_1 (Host.rsqrt (addf (Host.divf (broadcastInDim S16384x1 ![0] bcast_S16384_S16384x1_0
    (Host.reduceAdd (mulf D D) (constant S_ .f32 0x00000000#32) reducesTo_S16384x2048_S16384_d1 h_S_)) (broadcastInDim S16384x1 ![] bcast_S_S16384x1 (constant S_ .f32 0x45000000#32)))
    (broadcastInDim S16384x1 ![] bcast_S_S16384x1 (constant S_ .f32 0x358637BD#32))))))
    (broadcastInDim S16384x2048 ![0, 1] bcast_S1x2048_S16384x2048_0_1 (broadcastInDim S1x2048 ![1] bcast_S2048_S1x2048_1
      (shapeCast _ (extractStridedSlice S1x2048 ![0, 0] P slices_S4x2048_S1x2048_0_0) shapeCasts_S1x2048_S2048)))

theorem normed_at (D : FVec Ideal S16384x2048 .f32) (P : FVec Ideal S4x2048 .f32) (R : Fin 16384) (q : Fin 2048) :
    normed D P (ix2 R q) = (D (ix2 R q) * perRoot (fun q => D (ix2 R q))) * P (ix2 0 q) := by
  unfold normed perRoot
  pointwise

/-- One more than the scale, along the frames. -/
abbrev scale3 (M : FVec Ideal S32x1x6144 .f32) : FVec Ideal S4x4096x2048 .f32 :=
  broadcastInDim S4x4096x2048 ![0, 1, 2] bcast_S4x1x2048_S4x4096x2048_0_1_2 (addf (broadcastInDim S4x1x2048 ![] bcast_S_S4x1x2048 (constant S_ .f32 0x3F800000#32))
    (broadcastInDim S4x1x2048 ![0, 2] bcast_S4x2048_S4x1x2048_0_2 (shapeCast _ (extractStridedSlice S1x4x2048 ![0, 1, 2048]
      (shapeCast _ M shapeCasts_S32x1x6144_S4x8x6144) slices_S4x8x6144_S1x4x2048_0_1_2048) shapeCasts_S1x4x2048_S4x2048)))

theorem scale3_at (M : FVec Ideal S32x1x6144 .f32) (b : Fin 4) (p : Fin 4096) (q : Fin 2048) :
    scale3 M (ix3 b p q) = 1 + M (ix3 (Fin.ofNat 32 (1 + b.val)) 0 (Fin.ofNat 6144 (2048 + q.val))) := by
  have hb := b.isLt
  have hq := q.isLt
  unfold scale3
  pointwise
  congr 3
  all_goals exact Fin.ext (by simp [Fin.ofNat]; omega)

/-- The shift, along the frames. -/
abbrev shift3 (M : FVec Ideal S32x1x6144 .f32) : FVec Ideal S4x4096x2048 .f32 :=
  broadcastInDim S4x4096x2048 ![0, 1, 2] bcast_S4x1x2048_S4x4096x2048_0_1_2 (broadcastInDim S4x1x2048 ![0, 2] bcast_S4x2048_S4x1x2048_0_2
    (shapeCast _ (extractStridedSlice S1x4x2048 ![0, 1, 0] (shapeCast _ M shapeCasts_S32x1x6144_S4x8x6144) slices_S4x8x6144_S1x4x2048_0_1_0) shapeCasts_S1x4x2048_S4x2048))

theorem shift3_at (M : FVec Ideal S32x1x6144 .f32) (b : Fin 4) (p : Fin 4096) (q : Fin 2048) :
    shift3 M (ix3 b p q) = M (ix3 (Fin.ofNat 32 (1 + b.val)) 0 (Fin.ofNat 6144 (0 + q.val))) := by
  have hb := b.isLt
  have hq := q.isLt
  unfold shift3
  pointwise
  congr 2
  all_goals exact Fin.ext (by simp [Fin.ofNat]; omega)

theorem flat_at (X : FVec Ideal S16384x2048 .f32) (R : Fin 16384) (b : Fin 4) (p : Fin 4096) (hR : R.val = b.val * 4096 + p.val) (q : Fin 2048) :
    shapeCast S4x4096x2048 X shapeCasts_S16384x2048_S4x4096x2048 (ix3 b p q) = X (ix2 R q) := by
  rw [show R = ⟨b.val * 4096 + p.val, by have := b.isLt; have := p.isLt; omega⟩ from Fin.ext hR]
  pointwise

theorem unflat_at (X : FVec Ideal S4x4096x2048 .f32) (R : Fin 16384) (q : Fin 2048) :
    shapeCast S16384x2048 X shapeCasts_S4x4096x2048_S16384x2048 (ix2 R q) = X (ix3 ⟨R.val / 4096, by omega⟩ ⟨R.val % 4096, by omega⟩ q) := by
  pointwise

abbrev next3 (X : FVec Ideal S16384x2048 .f32) (M : FVec Ideal S32x1x6144 .f32) (P : FVec Ideal S4x2048 .f32) : FVec Ideal S4x4096x2048 .f32 :=
  addf (mulf (shapeCast _ (normed X P) shapeCasts_S16384x2048_S4x4096x2048) (scale3 M)) (shift3 M)

theorem next3_at (X : FVec Ideal S16384x2048 .f32) (M : FVec Ideal S32x1x6144 .f32) (P : FVec Ideal S4x2048 .f32)
    (R : Fin 16384) (b : Fin 4) (p : Fin 4096) (hR : R.val = b.val * 4096 + p.val) (q : Fin 2048) :
    next3 X M P (ix3 b p q) = next (fun q => X (ix2 R q)) (fun q => P (ix2 0 q))
      (fun q => M (ix3 (Fin.ofNat 32 (1 + b.val)) 0 (Fin.ofNat 6144 (2048 + q.val)))) (fun q => M (ix3 (Fin.ofNat 32 (1 + b.val)) 0 (Fin.ofNat 6144 (0 + q.val)))) q := by
  unfold next
  exact congrArg₂ (· + ·) (congrArg₂ (· * ·) ((flat_at (normed X P) R b p hR q).trans (normed_at X P R q)) (scale3_at M b p q)) (shift3_at M b p q)

end Cert.Reference9Ideal.Rows

namespace Cert.Kernel9Ideal.First

open Idealize.ShloMosaic Idealize.ShloMosaic.TcCoe Idealize.SL.Sem
open Cert.Kernel9Ideal Cert.Kernel9Ideal.Gen Cert.Norms

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v1) = hOf (XA m c) (MA m c) (GA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.Kernel9Ideal.Value.run_blocks m ρ)

/-- Kernel and reference, of the same arguments, end with the same results. -/
theorem algebraic [hR : Cert.Reference9Ideal.Facts] : Cert.algebraic_Kernel9Ideal_Reference9Ideal := by
  intro m g m' g' _ ag
  refine ⟨_, result m g, (θ_run Cert.Reference9Ideal.defs _ _).mono (fun r h c => ⟨?_, (h c).2⟩) (Cert.Reference9Ideal.Value.run (F := Ideal) m' g')⟩
  refine (h c).1.trans ?_
  obtain ⟨g0, g1, g2⟩ := ag c
  rw [g0, g1, g2]
  funext y
  idx_vars y
  refine (Cert.Reference9Ideal.Rows.unflat_at (Cert.Reference9Ideal.Rows.next3 (XA m c) (MA m c) (GA m c)) y0 y1).trans ?_
  exact Cert.Reference9Ideal.Rows.next3_at (XA m c) (MA m c) (GA m c) y0 _ _ (by show y0.val = y0.val / 4096 * 4096 + y0.val % 4096; omega) y1

theorem preserves : Cert.preserves_Kernel9_Kernel9Ideal := trivial

end Cert.Kernel9Ideal.First

end
-- ==== Proof.Sample.lean ====
module

public import proofs.«01_k».proof.Proof.Gated
public import proofs.«01_k».proof.Proof.Gen.Kernel8Ideal.Value

/-! # The attention projections at the sample batch: one block and the arrays

The blocks are laid out as in the short convolution's input projection: four slabs of 512 rows, four weight blocks side by side. -/

@[expose] public section

set_option maxRecDepth 16384

noncomputable section

namespace Cert.Kernel8Ideal.Attn

open Idealize.ShloMosaic Idealize.ShloMosaic.TcCoe Idealize.SL.Sem
open Idealize.ShloMosaic.Pipeline (Dat)
open Cert.Kernel8Ideal Cert.Kernel8Ideal.Gen Cert.Gates
open Cert.Kernel5Ideal.Gated (hz hz3 at4 WB BLK at0 at1 at2 at3 blk_slab proj)

theorem scale_eq : Named.named (F := Ideal) Cert.Kernel8Ideal.κ "neg_log2_e" (φ := .f32) 0xBFB8AA3B#32 = ((-((Real.log 2)⁻¹) : ℝ) : EReal) :=
  IdealRules.named_const.ideal_named_scalar _ _ _ _ rfl

theorem root_eq : Named.named (F := Ideal) Cert.Kernel8Ideal.κ "attn_scale" (φ := .f32) 0x3DB504F3#32 = root :=
  IdealRules.named_const.ideal_named_scalar _ _ _ _ rfl

/-- What an output is made of: a slab of rows and the weights give an entry. -/
abbrev Part : Type := Vec Ideal S512x2048 .bf16 → Vec Ideal S2048x1024 .bf16 → Fin 512 → Fin 256 → EReal

def qf : Part := fun x W r q => dot x W r (at4 0 q) * root
def kf : Part := fun x W r q => dot x W r (at4 1 q)
def vf : Part := fun x W r q => dot x W r (at4 2 q)
def zf : Part := fun x W r q => dot x W r (at4 3 q) * gate (dot x W r (at4 3 q))

theorem pay_qf (x : Vec Ideal S512x2048 .bf16) (W : Vec Ideal S2048x1024 .bf16) (r : Fin 512) (q : Fin 256) :
    k0_pay7 x W (ix2 r q) = qf x W r q := by
  unfold qf dot
  pointwise [k0_pay7, k0_pay6, root_eq]
  rw [at0]

theorem pay_kf (x : Vec Ideal S512x2048 .bf16) (W : Vec Ideal S2048x1024 .bf16) (r : Fin 512) (q : Fin 256) :
    k0_pay8 x W (ix2 r q) = kf x W r q := by
  unfold kf dot
  pointwise [k0_pay8, k0_pay6]
  rw [at1]

theorem pay_vf (x : Vec Ideal S512x2048 .bf16) (W : Vec Ideal S2048x1024 .bf16) (r : Fin 512) (q : Fin 256) :
    k0_pay9 x W (ix2 r q) = vf x W r q := by
  unfold vf dot
  pointwise [k0_pay9, k0_pay6]
  rw [at2]

theorem pay_zf (x : Vec Ideal S512x2048 .bf16) (W : Vec Ideal S2048x1024 .bf16) (r : Fin 512) (q : Fin 256) :
    k0_pay10 x W (ix2 r q) = zf x W r q := by
  unfold zf gate dot
  pointwise [k0_pay10, k0_pay6, scale_eq]
  rw [exp2_scaled', at3]

/-- A stored slab is its part of the block, whatever the output is made of. -/
theorem slab (f : Part) (pay : Vec Ideal S512x2048 .bf16 → Vec Ideal S2048x1024 .bf16 → FVec Ideal S512x256 .bf16)
    (hp : ∀ x W r q, pay x W (ix2 r q) = f x W r q) (xs : Fin 4 → Vec Ideal S512x2048 .bf16) (W : Vec Ideal S2048x1024 .bf16)
    (n : Fin 4) {o : ℕ} (ho : o = 512 * n.val) (inb) (x : Vec Ideal S512x2048 .bf16) (hx : x = xs n) (W' : Vec Ideal S2048x1024 .bf16) (hW : W' = W) :
    Holds (e := .bf16) (BLK f xs W) ⟨Rect.unit (s := S2048x256) ![o, 0] S512x256.size inb, pay x W'⟩ := by
  subst hx hW
  intro y
  change S512x256.Idx at y
  idx_vars y
  exact (hp _ _ _ _).trans (blk_slab f xs W' n ho inb y0 y1)

theorem read_rows {arg : Memref sig .tc .vmem S512x2048 .bf16} (harg : arg.IsWhole) (x : Vec Ideal S512x2048 .bf16) (inb) :
    View.readAt (Elt Ideal) arg.view (Rect.unit (s := S512x2048) ![0, 0] S512x2048.size inb).toLoadRect (harg.unread x) = x := by
  simp only [View.readAt_eq_ld, harg.read_unread, View.ld_unit_zero (S := S512x2048) hz]

theorem read_w {arg : Memref sig .tc .vmem S2048x1024 .bf16} (harg : arg.IsWhole) (x : Vec Ideal S2048x1024 .bf16) (inb) :
    View.readAt (Elt Ideal) arg.view (Rect.unit (s := S2048x1024) ![0, 0] S2048x1024.size inb).toLoadRect (harg.unread x) = x := by
  simp only [View.readAt_eq_ld, harg.read_unread, View.ld_unit_zero (S := S2048x1024) hz]

theorem read_wblk {arg : Memref sig .tc .vmem S1x2048x256 .f32} (harg : arg.IsWhole) (x : Vec Ideal S1x2048x256 .f32) (inb) :
    View.readAt (Elt Ideal) arg.view (Rect.unit (s := S1x2048x256) ![0, 0, 0] S1x2048x256.size inb).toLoadRect (harg.unread x) = x := by
  simp only [View.readAt_eq_ld, harg.read_unread, View.ld_unit_zero (S := S1x2048x256) hz3]

variable (c : Dev nD) (i : grid0.Coords) (arg2 : Memref sig .tc .vmem S512x2048 .bf16) (harg2 : arg2.IsWhole) (arg3 : Memref sig .tc .vmem S512x2048 .bf16) (harg3 : arg3.IsWhole) (arg4 : Memref sig .tc .vmem S512x2048 .bf16) (harg4 : arg4.IsWhole) (arg5 : Memref sig .tc .vmem S512x2048 .bf16) (harg5 : arg5.IsWhole) (arg6 : Memref sig .tc .vmem S1x2048x256 .f32) (harg6 : arg6.IsWhole) (arg7 : Memref sig .tc .vmem S1x2048x256 .f32) (harg7 : arg7.IsWhole) (arg8 : Memref sig .tc .vmem S1x2048x256 .f32) (harg8 : arg8.IsWhole) (arg9 : Memref sig .tc .vmem S1x2048x256 .f32) (harg9 : arg9.IsWhole) (arg10 : Memref sig .tc .vmem S2048x256 .bf16) (harg10 : arg10.IsWhole) (arg11 : Memref sig .tc .vmem S2048x256 .bf16) (harg11 : arg11.IsWhole) (arg12 : Memref sig .tc .vmem S2048x256 .bf16) (harg12 : arg12.IsWhole) (arg13 : Memref sig .tc .vmem S2048x256 .bf16) (harg13 : arg13.IsWhole) (arg14 : Memref sig .tc .vmem S2048x1024 .bf16) (harg14 : arg14.IsWhole)
  (x0 x1 x2 x3 : Vec Ideal S512x2048 .bf16) (x4 x5 x6 x7 : Vec Ideal S1x2048x256 .f32)

theorem fill : ∀ p ∈ kernelRun0_A.sl.HS0_4 c arg6 harg6 arg7 harg7 arg8 harg8 arg9 harg9 x4 x5 x6 x7, Holds (e := .bf16) (WB x4 x5 x6 x7) p := by
  unfold kernelRun0_A.sl.HS0_4
  exact List.forall_mem_cons.2 ⟨Cert.Kernel5Ideal.Gated.holds_w x4 x5 x6 x7 3 rfl _ _ (read_wblk harg9 x7 _), List.forall_mem_cons.2 ⟨Cert.Kernel5Ideal.Gated.holds_w x4 x5 x6 x7 2 rfl _ _ (read_wblk harg8 x6 _), List.forall_mem_cons.2 ⟨Cert.Kernel5Ideal.Gated.holds_w x4 x5 x6 x7 1 rfl _ _ (read_wblk harg7 x5 _),
    List.forall_mem_cons.2 ⟨Cert.Kernel5Ideal.Gated.holds_w x4 x5 x6 x7 0 rfl _ _ (read_wblk harg6 x4 _), List.forall_mem_nil _⟩⟩⟩⟩

theorem filled : kernelRun0_A.sl.v4 c arg6 harg6 arg7 harg7 arg8 harg8 arg9 harg9 arg14 x4 x5 x6 x7 = WB x4 x5 x6 x7 := by
  unfold kernelRun0_A.sl.v4
  refine (View.readAt_eq_ld ..).trans ?_
  rw [read_holds arg14.view (WB x4 x5 x6 x7) _ _ (fill c arg6 harg6 arg7 harg7 arg8 harg8 arg9 harg9 x4 x5 x6 x7)
    (View.cover_of_tiledL (kernelRun0_A.sl.HS0_4 c arg6 harg6 arg7 harg7 arg8 harg8 arg9 harg9 x4 x5 x6 x7) S2048x256.size (by sl_kernel_rfl)), View.ld_unit_zero (S := S2048x1024) hz]

theorem scratch_A (hc0 : cond0_0 i) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = WB x4 x5 x6 x7 := by
  unfold sout0_A_0
  refine read_holds _ _ _ _ ?_ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)
  unfold kernelRun0_A
  dsimp only
  exact fill c arg6 harg6 arg7 harg7 arg8 harg8 arg9 harg9 x4 x5 x6 x7

/-- The four slabs of an output together, from the weights as the body has them. -/
theorem four {f : Part} {pay : Vec Ideal S512x2048 .bf16 → Vec Ideal S2048x1024 .bf16 → FVec Ideal S512x256 .bf16}
    (hp : ∀ x W r q, pay x W (ix2 r q) = f x W r q) {W' W : Vec Ideal S2048x1024 .bf16} (hW : W' = W) (i0 i1 i2 i3 r0 r1 r2 r3) :
    ∀ p ∈ ([⟨Rect.unit (s := S2048x256) ![1536, 0] S512x256.size i3, pay (View.readAt (Elt Ideal) arg5.view (Rect.unit (s := S512x2048) ![0, 0] S512x2048.size r3).toLoadRect (harg5.unread x3)) W'⟩,
      ⟨Rect.unit (s := S2048x256) ![1024, 0] S512x256.size i2, pay (View.readAt (Elt Ideal) arg4.view (Rect.unit (s := S512x2048) ![0, 0] S512x2048.size r2).toLoadRect (harg4.unread x2)) W'⟩,
      ⟨Rect.unit (s := S2048x256) ![512, 0] S512x256.size i1, pay (View.readAt (Elt Ideal) arg3.view (Rect.unit (s := S512x2048) ![0, 0] S512x2048.size r1).toLoadRect (harg3.unread x1)) W'⟩,
      ⟨Rect.unit (s := S2048x256) ![0, 0] S512x256.size i0, pay (View.readAt (Elt Ideal) arg2.view (Rect.unit (s := S512x2048) ![0, 0] S512x2048.size r0).toLoadRect (harg2.unread x0)) W'⟩] :
        List (View.Piece (Elt Ideal) S2048x256 .bf16)), Holds (e := .bf16) (BLK f ![x0, x1, x2, x3] W) p :=
  List.forall_mem_cons.2 ⟨slab f pay hp _ W 3 rfl _ _ (read_rows harg5 x3 _) _ hW,
    List.forall_mem_cons.2 ⟨slab f pay hp _ W 2 rfl _ _ (read_rows harg4 x2 _) _ hW,
    List.forall_mem_cons.2 ⟨slab f pay hp _ W 1 rfl _ _ (read_rows harg3 x1 _) _ hW,
    List.forall_mem_cons.2 ⟨slab f pay hp _ W 0 rfl _ _ (read_rows harg2 x0 _) _ hW, List.forall_mem_nil _⟩⟩⟩⟩

theorem out8_B (hc0 : ¬cond0_0 i) (xs0 : Vec Ideal S2048x1024 .bf16) :
    out0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = BLK qf ![x0, x1, x2, x3] xs0 := by
  unfold out0_B_8
  refine read_holds _ _ _ _ ?_ (cover0_B_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0)
  unfold kernelRun0_B
  dsimp only
  exact four arg2 harg2 arg3 harg3 arg4 harg4 arg5 harg5 x0 x1 x2 x3 pay_qf (read_w harg14 xs0 _) _ _ _ _ _ _ _ _

theorem out8_A (hc0 : cond0_0 i) :
    out0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = BLK qf ![x0, x1, x2, x3] (WB x4 x5 x6 x7) := by
  unfold out0_A_8
  refine read_holds _ _ _ _ ?_ (cover0_A_8 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)
  unfold kernelRun0_A
  dsimp only
  exact four arg2 harg2 arg3 harg3 arg4 harg4 arg5 harg5 x0 x1 x2 x3 pay_qf (filled c arg6 harg6 arg7 harg7 arg8 harg8 arg9 harg9 arg14 x4 x5 x6 x7) _ _ _ _ _ _ _ _

theorem out9_B (hc0 : ¬cond0_0 i) (xs0 : Vec Ideal S2048x1024 .bf16) :
    out0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = BLK kf ![x0, x1, x2, x3] xs0 := by
  unfold out0_B_9
  refine read_holds _ _ _ _ ?_ (cover0_B_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0)
  unfold kernelRun0_B
  dsimp only
  exact four arg2 harg2 arg3 harg3 arg4 harg4 arg5 harg5 x0 x1 x2 x3 pay_kf (read_w harg14 xs0 _) _ _ _ _ _ _ _ _

theorem out9_A (hc0 : cond0_0 i) :
    out0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = BLK kf ![x0, x1, x2, x3] (WB x4 x5 x6 x7) := by
  unfold out0_A_9
  refine read_holds _ _ _ _ ?_ (cover0_A_9 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)
  unfold kernelRun0_A
  dsimp only
  exact four arg2 harg2 arg3 harg3 arg4 harg4 arg5 harg5 x0 x1 x2 x3 pay_kf (filled c arg6 harg6 arg7 harg7 arg8 harg8 arg9 harg9 arg14 x4 x5 x6 x7) _ _ _ _ _ _ _ _

theorem out10_B (hc0 : ¬cond0_0 i) (xs0 : Vec Ideal S2048x1024 .bf16) :
    out0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = BLK vf ![x0, x1, x2, x3] xs0 := by
  unfold out0_B_10
  refine read_holds _ _ _ _ ?_ (cover0_B_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0)
  unfold kernelRun0_B
  dsimp only
  exact four arg2 harg2 arg3 harg3 arg4 harg4 arg5 harg5 x0 x1 x2 x3 pay_vf (read_w harg14 xs0 _) _ _ _ _ _ _ _ _

theorem out10_A (hc0 : cond0_0 i) :
    out0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = BLK vf ![x0, x1, x2, x3] (WB x4 x5 x6 x7) := by
  unfold out0_A_10
  refine read_holds _ _ _ _ ?_ (cover0_A_10 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)
  unfold kernelRun0_A
  dsimp only
  exact four arg2 harg2 arg3 harg3 arg4 harg4 arg5 harg5 x0 x1 x2 x3 pay_vf (filled c arg6 harg6 arg7 harg7 arg8 harg8 arg9 harg9 arg14 x4 x5 x6 x7) _ _ _ _ _ _ _ _

theorem out11_B (hc0 : ¬cond0_0 i) (xs0 : Vec Ideal S2048x1024 .bf16) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0 = BLK zf ![x0, x1, x2, x3] xs0 := by
  unfold out0_B_11
  refine read_holds _ _ _ _ ?_ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 xs0)
  unfold kernelRun0_B
  dsimp only
  exact four arg2 harg2 arg3 harg3 arg4 harg4 arg5 harg5 x0 x1 x2 x3 pay_zf (read_w harg14 xs0 _) _ _ _ _ _ _ _ _

theorem out11_A (hc0 : cond0_0 i) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 = BLK zf ![x0, x1, x2, x3] (WB x4 x5 x6 x7) := by
  unfold out0_A_11
  refine read_holds _ _ _ _ ?_ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7)
  unfold kernelRun0_A
  dsimp only
  exact four arg2 harg2 arg3 harg3 arg4 harg4 arg5 harg5 x0 x1 x2 x3 pay_zf (filled c arg6 harg6 arg7 harg7 arg8 harg8 arg9 harg9 arg14 x4 x5 x6 x7) _ _ _ _ _ _ _ _

variable (m : (ℓ : Loc nD τ sig) → Buf (Elt Ideal) ℓ)

theorem idx : ∀ t : Fin cfg0.N, win0_0.index t = ![4 * (t.val % 8), 0] ∧ win0_1.index t = ![4 * (t.val % 8) + 1, 0] ∧ win0_2.index t = ![4 * (t.val % 8) + 2, 0] ∧ win0_3.index t = ![4 * (t.val % 8) + 3, 0]
    ∧ win0_4.index t = ![0, 0, t.val / 8] ∧ win0_5.index t = ![0, 0, t.val / 8 + 16] ∧ win0_6.index t = ![0, 0, t.val / 8 + 32] ∧ win0_7.index t = ![0, 0, t.val / 8 + 48]
    ∧ win0_8.index t = ![t.val % 8, t.val / 8] ∧ win0_9.index t = ![t.val % 8, t.val / 8] ∧ win0_10.index t = ![t.val % 8, t.val / 8] ∧ win0_11.index t = ![t.val % 8, t.val / 8] ∧ t.val / 8 < 16 :=
  (by decide +kernel : ∀ t : Fin grid0.N, _)

theorem prev (c : Dev nD) (t t' : Fin cfg0.N) (h0 : ¬t.val % 8 = 0) (ht : t'.val = t.val - 1) :
    iblk m c 4 t' = iblk m c 4 t ∧ iblk m c 5 t' = iblk m c 5 t ∧ iblk m c 6 t' = iblk m c 6 t ∧ iblk m c 7 t' = iblk m c 7 t := by
  obtain ⟨a0, a1, a2, a3, a4, a5, a6, a7, a8, a9, a10, a11, a12⟩ := idx t
  obtain ⟨b0, b1, b2, b3, b4, b5, b6, b7, b8, b9, b10, b11, b12⟩ := idx t'
  have e : t'.val / 8 = t.val / 8 := by omega
  rw [e] at b4 b5 b6 b7
  refine ⟨funext fun y => ?_, funext fun y => ?_, funext fun y => ?_, funext fun y => ?_⟩
  · blk_ext [iblk, a4, b4]
  · blk_ext [iblk, a5, b5]
  · blk_ext [iblk, a6, b6]
  · blk_ext [iblk, a7, b7]

abbrev rows (c : Dev nD) (t : Fin cfg0.N) : Fin 4 → Vec Ideal S512x2048 .bf16 := ![iblk m c 0 t, iblk m c 1 t, iblk m c 2 t, iblk m c 3 t]
abbrev wts (c : Dev nD) (t : Fin cfg0.N) : Vec Ideal S2048x1024 .bf16 := WB (iblk m c 4 t) (iblk m c 5 t) (iblk m c 6 t) (iblk m c 7 t)

theorem fresh (c : Dev nD) (t : Fin cfg0.N) (h0 : t.val % 8 = 0) :
    outsAt0 m c t.val t.isLt = (BLK qf (rows m c t) (wts m c t), BLK kf (rows m c t) (wts m c t), BLK vf (rows m c t) (wts m c t), BLK zf (rows m c t) (wts m c t), (wts m c t)) := by
  rw [outsAt0_A m c t h0, out8_A, out9_A, out10_A, out11_A, scratch_A]

theorem kept (c : Dev nD) (t : Fin cfg0.N) (h0 : ¬t.val % 8 = 0) (W : Vec Ideal S2048x1024 .bf16)
    (hW : (outsAt0 m c (t.val - 1) (Nat.lt_of_le_of_lt (Nat.sub_le _ _) t.isLt)).2.2.2.2 = W) :
    outsAt0 m c t.val t.isLt = (BLK qf (rows m c t) W, BLK kf (rows m c t) W, BLK vf (rows m c t) W, BLK zf (rows m c t) W, W) := by
  rw [outsAt0_B m c t h0, out8_B, out9_B, out10_B, out11_B, sout0_B_0, hW]

/-- After every point the scratch holds the weights of the point's column block, and the output blocks are theirs. -/
theorem carried (c : Dev nD) : ∀ (n : ℕ) (h : n < cfg0.N),
    outsAt0 m c n h = (BLK qf (rows m c ⟨n, h⟩) (wts m c ⟨n, h⟩), BLK kf (rows m c ⟨n, h⟩) (wts m c ⟨n, h⟩), BLK vf (rows m c ⟨n, h⟩) (wts m c ⟨n, h⟩), BLK zf (rows m c ⟨n, h⟩) (wts m c ⟨n, h⟩), (wts m c ⟨n, h⟩)) := by
  intro n
  induction n with
  | zero => exact fun h => fresh m c ⟨0, h⟩ rfl
  | succ n ih =>
    intro h
    by_cases h0 : (n + 1) % 8 = 0
    · exact fresh m c ⟨n + 1, h⟩ h0
    · refine kept m c ⟨n + 1, h⟩ h0 _ ?_
      obtain ⟨e4, e5, e6, e7⟩ := prev m c ⟨n + 1, h⟩ ⟨n, Nat.lt_of_succ_lt h⟩ h0 rfl
      unfold wts
      rw [← e4, ← e5, ← e6, ← e7]
      exact congrArg (fun p => p.2.2.2.2) (ih (Nat.lt_of_succ_lt h))

/-! ## The arrays -/

abbrev HA (c : Dev nD) : FVec Ideal S16384x2048 .bf16 := m ((c : Thread nD τ).loc main_arg0)
abbrev WA (c : Dev nD) : FVec Ideal S1x2048x16384 .f32 := m ((c : Thread nD τ).loc main_arg1)

def qOf (h : FVec Ideal S16384x2048 .bf16) (w : FVec Ideal S1x2048x16384 .f32) : FVec Ideal S16384x4096 .bf16 :=
  fun y => proj h w (y 0) (y 1).val * root

def kOf (h : FVec Ideal S16384x2048 .bf16) (w : FVec Ideal S1x2048x16384 .f32) : FVec Ideal S16384x4096 .bf16 :=
  fun y => proj h w (y 0) (4096 + (y 1).val)

def vOf (h : FVec Ideal S16384x2048 .bf16) (w : FVec Ideal S1x2048x16384 .f32) : FVec Ideal S16384x4096 .bf16 :=
  fun y => proj h w (y 0) (8192 + (y 1).val)

def zOf (h : FVec Ideal S16384x2048 .bf16) (w : FVec Ideal S1x2048x16384 .f32) : FVec Ideal S16384x4096 .bf16 :=
  fun y => proj h w (y 0) (12288 + (y 1).val) * gate (proj h w (y 0) (12288 + (y 1).val))

theorem rows_at (c : Dev nD) (t : Fin cfg0.N) (n : Fin 4) (r : Fin 512) (k : Fin 2048) (R : Fin 16384) (hR : R.val = 2048 * (t.val % 8) + 512 * n.val + r.val) :
    rows m c t n (ix2 r k) = HA m c (ix2 R k) := by
  obtain ⟨a0, a1, a2, a3, a4, a5, a6, a7, a8, a9, a10, a11, a12⟩ := idx t
  have hA : HA m c = V m c main_arg0 := (V_main_arg0 m c).symm
  rw [hA]
  fin_cases n
  · show iblk m c 0 t (ix2 r k) = _
    blk_ext [iblk, a0]
    all_goals (simp at hR; omega)
  · show iblk m c 1 t (ix2 r k) = _
    blk_ext [iblk, a1]
    all_goals (simp at hR; omega)
  · show iblk m c 2 t (ix2 r k) = _
    blk_ext [iblk, a2]
    all_goals (simp at hR; omega)
  · show iblk m c 3 t (ix2 r k) = _
    blk_ext [iblk, a3]
    all_goals (simp at hR; omega)

theorem wts_at (c : Dev nD) (t : Fin cfg0.N) (g : Fin 4) (k : Fin 2048) (q : Fin 256) :
    wts m c t (ix2 k (at4 g.val q)) = WA m c (ix3 0 k (Fin.ofNat 16384 (4096 * g.val + (256 * (t.val / 8) + q.val)))) := by
  obtain ⟨a0, a1, a2, a3, a4, a5, a6, a7, a8, a9, a10, a11, a12⟩ := idx t
  have hA : WA m c = V m c main_arg1 := (V_main_arg1 m c).symm
  rw [hA]
  have hq := q.isLt
  have hg := g.isLt
  unfold wts WB
  have h0 : (at4 g.val q).val = 256 * g.val + q.val := by simp only [at4, Fin.ofNat]; omega
  have h1 : Fin.ofNat 4 ((at4 g.val q).val / 256) = g := Fin.ext (by rw [h0]; simp only [Fin.ofNat]; omega)
  have h2 : Fin.ofNat 256 (at4 g.val q).val = q := Fin.ext (by rw [h0]; simp only [Fin.ofNat]; omega)
  show (![iblk m c 4 t, iblk m c 5 t, iblk m c 6 t, iblk m c 7 t] : Fin 4 → Vec Ideal S1x2048x256 .f32) (Fin.ofNat 4 ((at4 g.val q).val / 256)) (ix3 0 k (Fin.ofNat 256 (at4 g.val q).val)) = _
  rw [h1, h2]
  fin_cases g
  · show iblk m c 4 t (ix3 0 k q) = _
    blk_ext [iblk, a4]
    all_goals (simp [Fin.ofNat]; omega)
  · show iblk m c 5 t (ix3 0 k q) = _
    blk_ext [iblk, a5]
    all_goals (simp [Fin.ofNat]; omega)
  · show iblk m c 6 t (ix3 0 k q) = _
    blk_ext [iblk, a6]
    all_goals (simp [Fin.ofNat]; omega)
  · show iblk m c 7 t (ix3 0 k q) = _
    blk_ext [iblk, a7]
    all_goals (simp [Fin.ofNat]; omega)

theorem dot_at (c : Dev nD) (t : Fin cfg0.N) (p : Fin 2048) (g : Fin 4) (q : Fin 256) (R : Fin 16384) (hR : R.val = 2048 * (t.val % 8) + p.val) :
    dot (rows m c t (Fin.ofNat 4 (p.val / 512))) (wts m c t) (Fin.ofNat 512 p.val) (at4 g.val q)
      = proj (HA m c) (WA m c) R (4096 * g.val + (256 * (t.val / 8) + q.val)) := by
  unfold dot proj
  refine Finset.sum_congr rfl fun k _ => ?_
  rw [wts_at, rows_at m c t _ _ k R (by have := p.isLt; simp only [Fin.ofNat]; omega)]

theorem final8 (c : Dev nD) : (dats m 0 c).arrAt 8 cfg0.N = qOf (HA m c) (WA m c) := by
  refine (dats m 0 c).arrAt_eq_of_covers 8 _ (by decide +kernel) fun t _ y => ?_
  obtain ⟨a0, a1, a2, a3, a4, a5, a6, a7, a8, a9, a10, a11, a12⟩ := idx t
  have b0 : (((cfg0.win 8).blk t).view.emb y 0).val = 2048 * (t.val % 8) + (y 0).val := by blk_simp [a8]; omega
  have b1 : (((cfg0.win 8).blk t).view.emb y 1).val = 256 * (t.val / 8) + (y 1).val := by blk_simp [a8]; omega
  blk_simp
  rw [after0_8, carried]
  unfold BLK qf qOf
  rw [b1]
  have d : dot (rows m c t (Fin.ofNat 4 ((y 0).val / 512))) (wts m c t) (Fin.ofNat 512 (y 0).val) (at4 0 (y 1)) = proj (HA m c) (WA m c) ((win0_8.blk t).view.emb y 0) _ :=
    dot_at m c t (y 0) 0 (y 1) _ b0
  dsimp only
  rw [d]
  rw [show 4096 * ((0 : Fin 4).val) + (256 * (t.val / 8) + (y 1).val) = 256 * (t.val / 8) + (y 1).val from by simp]

theorem final9 (c : Dev nD) : (dats m 0 c).arrAt 9 cfg0.N = kOf (HA m c) (WA m c) := by
  refine (dats m 0 c).arrAt_eq_of_covers 9 _ (by decide +kernel) fun t _ y => ?_
  obtain ⟨a0, a1, a2, a3, a4, a5, a6, a7, a8, a9, a10, a11, a12⟩ := idx t
  have b0 : (((cfg0.win 9).blk t).view.emb y 0).val = 2048 * (t.val % 8) + (y 0).val := by blk_simp [a9]; omega
  have b1 : (((cfg0.win 9).blk t).view.emb y 1).val = 256 * (t.val / 8) + (y 1).val := by blk_simp [a9]; omega
  blk_simp
  rw [after0_9, carried]
  unfold BLK kf kOf
  rw [b1]
  have d : dot (rows m c t (Fin.ofNat 4 ((y 0).val / 512))) (wts m c t) (Fin.ofNat 512 (y 0).val) (at4 1 (y 1)) = proj (HA m c) (WA m c) ((win0_9.blk t).view.emb y 0) _ :=
    dot_at m c t (y 0) 1 (y 1) _ b0
  dsimp only
  rw [d]
  rfl

theorem final10 (c : Dev nD) : (dats m 0 c).arrAt 10 cfg0.N = vOf (HA m c) (WA m c) := by
  refine (dats m 0 c).arrAt_eq_of_covers 10 _ (by decide +kernel) fun t _ y => ?_
  obtain ⟨a0, a1, a2, a3, a4, a5, a6, a7, a8, a9, a10, a11, a12⟩ := idx t
  have b0 : (((cfg0.win 10).blk t).view.emb y 0).val = 2048 * (t.val % 8) + (y 0).val := by blk_simp [a10]; omega
  have b1 : (((cfg0.win 10).blk t).view.emb y 1).val = 256 * (t.val / 8) + (y 1).val := by blk_simp [a10]; omega
  blk_simp
  rw [after0_10, carried]
  unfold BLK vf vOf
  rw [b1]
  have d : dot (rows m c t (Fin.ofNat 4 ((y 0).val / 512))) (wts m c t) (Fin.ofNat 512 (y 0).val) (at4 2 (y 1)) = proj (HA m c) (WA m c) ((win0_10.blk t).view.emb y 0) _ :=
    dot_at m c t (y 0) 2 (y 1) _ b0
  dsimp only
  rw [d]
  rfl

theorem final11 (c : Dev nD) : (dats m 0 c).arrAt 11 cfg0.N = zOf (HA m c) (WA m c) := by
  refine (dats m 0 c).arrAt_eq_of_covers 11 _ (by decide +kernel) fun t _ y => ?_
  obtain ⟨a0, a1, a2, a3, a4, a5, a6, a7, a8, a9, a10, a11, a12⟩ := idx t
  have b0 : (((cfg0.win 11).blk t).view.emb y 0).val = 2048 * (t.val % 8) + (y 0).val := by blk_simp [a11]; omega
  have b1 : (((cfg0.win 11).blk t).view.emb y 1).val = 256 * (t.val / 8) + (y 1).val := by blk_simp [a11]; omega
  blk_simp
  rw [after0_11, carried]
  unfold BLK zf zOf
  rw [b1]
  have d : dot (rows m c t (Fin.ofNat 4 ((y 0).val / 512))) (wts m c t) (Fin.ofNat 512 (y 0).val) (at4 3 (y 1)) = proj (HA m c) (WA m c) ((win0_11.blk t).view.emb y 0) _ :=
    dot_at m c t (y 0) 3 (y 1) _ b0
  dsimp only
  rw [d]
  rfl

end Cert.Kernel8Ideal.Attn

end
-- ==== Proof.SampleResult.lean ====
module

public import proofs.«01_k».proof.Proof.Sample
public import proofs.«01_k».proof.Proof.Gen.Reference8Ideal.Run
public import proofs.«01_k».proof.Defs

/-! # The attention projections at the sample batch and their reference -/

@[expose] public section

set_option maxRecDepth 16384

noncomputable section

namespace Cert.Kernel8Ideal.Attn

open Idealize.ShloMosaic Idealize.ShloMosaic.TcCoe Idealize.SL.Sem
open Idealize.ShloMosaic.Pipeline (Dat)
open Cert.Kernel8Ideal Cert.Kernel8Ideal.Gen Cert.Gates
open Cert.Kernel5Ideal.Gated (proj)

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v0_0) = qOf (HA m c) (WA m c)
      ∧ r.2.mem ((c : Thread nD τ).loc main_v0_1) = kOf (HA m c) (WA m c)
      ∧ r.2.mem ((c : Thread nD τ).loc main_v0_2) = vOf (HA m c) (WA m c)
      ∧ r.2.mem ((c : Thread nD τ).loc main_v0_3) = zOf (HA m c) (WA m c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final8 m c), (h c).2.1.trans (final9 m c), (h c).2.2.1.trans (final10 m c), (h c).2.2.2.1.trans (final11 m c), (h c).2.2.2.2⟩)
    (Cert.Kernel8Ideal.Value.run_blocks m ρ)

/-- The reference's product, at an index. -/
theorem ref_dot (h : FVec Ideal S16384x2048 .bf16) (w : FVec Ideal S1x2048x16384 .f32) (h1) (h2) (r : Fin 16384) (q : Fin 16384) :
    Host.dotGeneral Cert.Reference8Ideal.dot_S16384x2048_S2048x16384_S16384x16384_1_0_0_1_n_n none (extf .f32 h h1)
      (shapeCast _ w h2) (ix2 r q) = proj h w r q.val := by
  unfold proj
  rw [show Fin.ofNat 16384 q.val = q from Fin.ext (Nat.mod_eq_of_lt q.isLt)]
  pointwise

/-- Kernel and reference, of the same arguments, end with the same results. -/
theorem algebraic [hR : Cert.Reference8Ideal.Facts] : Cert.algebraic_Kernel8Ideal_Reference8Ideal := by
  intro m g m' g' _ ag
  refine ⟨_, _, _, _, result m g, (θ_run Cert.Reference8Ideal.defs _ _).mono (fun r h c => ?_) (Cert.Reference8Ideal.Value.run (F := Ideal) m' g')⟩
  have hp := fun h1 h2 => ref_dot (HA m c) (WA m c) h1 h2
  refine ⟨(h c).1.trans ?_, (h c).2.1.trans ?_, (h c).2.2.1.trans ?_, (h c).2.2.2.1.trans ?_, (h c).2.2.2.2⟩
  all_goals
    rw [(ag c).1, (ag c).2]
    generalize hD : Host.dotGeneral (F := Ideal) _ _ _ _ = D
    have hq : ∀ r q, D (ix2 r q) = _ := fun r q => (congrFun hD _).symm.trans (hp _ _ r q)
    funext y
    idx_vars y
  · unfold qOf
    pointwise
    simp only [hq, head_size, div_root]
  · unfold kOf
    pointwise
    simp only [hq]
  · unfold vOf
    pointwise
    simp only [hq]
  · unfold zOf gate
    pointwise
    simp only [hq]

theorem preserves : Cert.preserves_Kernel8_Kernel8Ideal :=
  ⟨IdealRules.named_const.statement Cert.Kernel8Ideal.κ "attn_scale" .f32 0x3DB504F3#32 (((Real.sqrt 128)⁻¹ : ℝ) : EReal) rfl, IdealRules.named_const.statement Cert.Kernel8Ideal.κ "neg_log2_e" .f32 0xBFB8AA3B#32 ((-((Real.log 2)⁻¹) : ℝ) : EReal) rfl⟩

end Cert.Kernel8Ideal.Attn

end
-- ==== Proof.Mod.lean ====
module

public import proofs.«01_k».proof.Proof.Gates
public import proofs.«01_k».proof.Proof.Gen.Kernel10Ideal.Value

/-! # The modulation: a layer's weights against the conditions' SiLU -/
@[expose] public section

set_option maxRecDepth 16384

noncomputable section

namespace Cert.Kernel10Ideal.Mod

open Idealize.ShloMosaic Idealize.ShloMosaic.TcCoe Idealize.SL.Sem
open Idealize.ShloMosaic.Pipeline (Dat)
open Cert.Kernel10Ideal Cert.Kernel10Ideal.Gen Cert.Gates

theorem hz : (![0, 0] : Fin 2 → Nat) = fun _ => 0 := funext fun a => by fin_cases a <;> rfl
theorem hz3 : (![0, 0, 0] : Fin 3 → Nat) = fun _ => 0 := funext fun a => by fin_cases a <;> rfl

theorem scale_eq : Named.named (F := Ideal) Cert.Kernel10Ideal.κ "neg_log2_e" (φ := .f32) 0xBFB8AA3B#32 = ((-((Real.log 2)⁻¹) : ℝ) : EReal) :=
  IdealRules.named_const.ideal_named_scalar _ _ _ _ rfl

/-- A row of conditions, through SiLU, against a column of weights, with the column's bias. -/
def mixed (s w : Fin 2048 → EReal) (b : EReal) : EReal := (∑ k : Fin 2048, (s k * gate (s k)) * w k) + b

theorem pay_at (x : Vec Ideal S8x2048 .f32) (w : Vec Ideal S1x2048x1024 .f32) (b : Vec Ideal S1x1x1024 .f32) (r : Fin 8) (q : Fin 1024) :
    k0_pay1 x w b (ix3 0 r q) = mixed (fun k => x (ix2 r k)) (fun k => w (ix3 0 k q)) (b (ix3 0 0 q)) := by
  unfold mixed gate
  pointwise [k0_pay1, scale_eq]
  simp only [exp2_scaled']

theorem block_eq (x : Vec Ideal S8x2048 .f32) (w : Vec Ideal S1x2048x1024 .f32) (b : Vec Ideal S1x1x1024 .f32) : out0_3 x w b = k0_pay1 x w b := by
  unfold out0_3
  rw [show View.ld x r0_0 = x from View.ld_unit_zero (S := S8x2048) hz _ x, show View.ld w r0_1 = w from View.ld_unit_zero (S := S1x2048x1024) hz3 _ w,
    show View.ld b r0_2 = b from View.ld_unit_zero (S := S1x1x1024) hz3 _ b]
  exact View.canon_unit_zero (S := S1x8x1024) hz3 _ _

variable (m : (ℓ : Loc nD τ sig) → Buf (Elt Ideal) ℓ)

/-! ## The arrays -/

abbrev CA (c : Dev nD) : FVec Ideal S4x2048 .f32 := m ((c : Thread nD τ).loc main_arg0)
abbrev XA (c : Dev nD) : FVec Ideal S2048 .f32 := m ((c : Thread nD τ).loc main_arg1)
abbrev WA (c : Dev nD) : FVec Ideal S4x2048x6144 .f32 := m ((c : Thread nD τ).loc main_arg2)
abbrev BA (c : Dev nD) : FVec Ideal S4x6144 .f32 := m ((c : Thread nD τ).loc main_arg3)

/-- The conditions: the context's, the samples', and rows of zeros. -/
abbrev conds (x : FVec Ideal S2048 .f32) (c : FVec Ideal S4x2048 .f32) : FVec Ideal S8x2048 .f32 :=
  concatenate S8x2048 0 [⟨S1x2048, broadcastInDim S1x2048 ![1] bcast_S2048_S1x2048_1 x⟩, ⟨S4x2048, c⟩,
    ⟨S3x2048, broadcastInDim S3x2048 ![] bcast_S_S3x2048 (constant S_ .f32 0x00000000#32)⟩] concatenates_S1x2048_S4x2048_S3x2048_S8x2048_d0

theorem V_cond (c : Dev nD) : V m c main_v2 = conds (XA m c) (CA m c) := by
  show StableHlo.after hostOps0 _ _ = _
  simp only [hostOps0]
  after_results
  rfl

theorem V_b (c : Dev nD) : V m c main_v3 = shapeCast S4x1x6144 (BA m c) shapeCasts_S4x6144_S4x1x6144 := by
  show StableHlo.after hostOps0 _ _ = _
  simp only [hostOps0]
  after_results
  rfl

theorem read_b (W : FVec Ideal S4x6144 .f32) (l : Fin 4) (q : Fin 6144) :
    shapeCast S4x1x6144 W shapeCasts_S4x6144_S4x1x6144 (ix3 l 0 q) = W (ix2 l q) := by
  pointwise

theorem idx : ∀ t : Fin cfg0.N, win0_0.index t = ![0, 0] ∧ win0_1.index t = ![t.val / 6, 0, t.val % 6] ∧ win0_2.index t = ![t.val / 6, 0, t.val % 6]
    ∧ win0_3.index t = ![t.val / 6, 0, t.val % 6] ∧ t.val < 24 :=
  (by decide +kernel : ∀ t : Fin grid0.N, _)

def mOf (x : FVec Ideal S8x2048 .f32) (w : FVec Ideal S4x2048x6144 .f32) (b : FVec Ideal S4x6144 .f32) : FVec Ideal S4x8x6144 .f32 :=
  fun y => mixed (fun k => x (ix2 (y 1) k)) (fun k => w (ix3 (y 0) k (y 2))) (b (ix2 (y 0) (y 2)))

theorem x_at (c : Dev nD) (t : Fin cfg0.N) (r : Fin 8) (k : Fin 2048) : iblk m c 0 t (ix2 r k) = conds (XA m c) (CA m c) (ix2 r k) := by
  obtain ⟨a0, a1, a2, a3, ht⟩ := idx t
  rw [← V_cond]
  blk_ext [iblk, a0]

theorem w_at (c : Dev nD) (t : Fin cfg0.N) (k : Fin 2048) (q : Fin 1024) (l : Fin 4) (Q : Fin 6144) (hl : l.val = t.val / 6) (hQ : Q.val = 1024 * (t.val % 6) + q.val) :
    iblk m c 1 t (ix3 0 k q) = WA m c (ix3 l k Q) := by
  obtain ⟨a0, a1, a2, a3, ht⟩ := idx t
  have hA : WA m c = V m c main_arg2 := (V_main_arg2 m c).symm
  rw [hA]
  blk_ext [iblk, a1]
  all_goals omega

theorem b_at (c : Dev nD) (t : Fin cfg0.N) (q : Fin 1024) (l : Fin 4) (Q : Fin 6144) (hl : l.val = t.val / 6) (hQ : Q.val = 1024 * (t.val % 6) + q.val) :
    iblk m c 2 t (ix3 0 0 q) = BA m c (ix2 l Q) := by
  obtain ⟨a0, a1, a2, a3, ht⟩ := idx t
  rw [← read_b (BA m c) l Q, ← V_b]
  blk_ext [iblk, a2]
  all_goals omega

theorem final (c : Dev nD) : (dats m 0 c).arrAt 3 cfg0.N = mOf (conds (XA m c) (CA m c)) (WA m c) (BA m c) := by
  refine (dats m 0 c).arrAt_eq_of_covers 3 _ (by decide +kernel) fun t _ y => ?_
  obtain ⟨a0, a1, a2, a3, ht⟩ := idx t
  have hy : (y 0).val = 0 := Nat.lt_one_iff.1 (y 0).isLt
  have b0 : (((cfg0.win 3).blk t).view.emb y 0).val = t.val / 6 := by blk_simp [a3]
  have b1 : ((cfg0.win 3).blk t).view.emb y 1 = y 1 := Fin.ext (by blk_simp [a3])
  have b2 : (((cfg0.win 3).blk t).view.emb y 2).val = 1024 * (t.val % 6) + (y 2).val := by blk_simp [a3]; omega
  generalize hY : ((cfg0.win 3).blk t).view.emb y = Y at b0 b1 b2 ⊢
  have hx : (fun k => iblk m c 0 t (ix2 (y 1) k)) = fun k => conds (XA m c) (CA m c) (ix2 (Y 1) k) := funext fun k => by rw [b1]; exact x_at m c t (y 1) k
  have hw : (fun k => iblk m c 1 t (ix3 0 k (y 2))) = fun k => WA m c (ix3 (Y 0) k (Y 2)) := funext fun k => w_at m c t k (y 2) (Y 0) (Y 2) b0 b2
  have hb := b_at m c t (y 2) (Y 0) (Y 2) b0 b2
  blk_simp
  rw [after0_3, block_eq]
  have e : y = ix3 0 (y 1) (y 2) := funext fun a => by
    fin_cases a
    · exact Fin.ext hy
    · rfl
    · rfl
  refine (congrArg (k0_pay1 (iblk m c 0 t) (iblk m c 1 t) (iblk m c 2 t)) e).trans ((pay_at _ _ _ _ _).trans ?_)
  unfold mOf
  rw [← hx, ← hw, ← hb]

end Cert.Kernel10Ideal.Mod

end
-- ==== Proof.ModResult.lean ====
module

public import proofs.«01_k».proof.Proof.Mod
public import proofs.«01_k».proof.Proof.Gen.Reference10Ideal.Run
public import proofs.«01_k».proof.Defs

/-! # The modulation and its reference -/
@[expose] public section

set_option maxRecDepth 16384

noncomputable section

namespace Cert.Kernel10Ideal.Mod

open Idealize.ShloMosaic Idealize.ShloMosaic.TcCoe Idealize.SL.Sem
open Cert.Kernel10Ideal Cert.Kernel10Ideal.Gen Cert.Gates

theorem result (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c : Thread nD τ).loc main_v4) = mOf (conds (XA m c) (CA m c)) (WA m c) (BA m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩)
    (Cert.Kernel10Ideal.Value.run_blocks m ρ)

end Cert.Kernel10Ideal.Mod

namespace Cert.Reference10Ideal.Rows

open Idealize.ShloMosaic Cert.Gates
open Cert.Reference10Ideal Cert.Reference10Ideal.Facts₀

variable [hR : Cert.Reference10Ideal.Facts]

/-- SiLU of the conditions. -/
abbrev silu (D : FVec Ideal S8x2048 .f32) : FVec Ideal S8x2048 .f32 :=
  mulf D (Host.divf (broadcastInDim S8x2048 ![] bcast_S_S8x2048 (constant S_ .f32 0x3F800000#32))
    (addf (broadcastInDim S8x2048 ![] bcast_S_S8x2048 (constant S_ .f32 0x3F800000#32)) (Host.exp (Host.negf D))))

theorem silu_at (D : FVec Ideal S8x2048 .f32) (r : Fin 8) (k : Fin 2048) : silu D (ix2 r k) = D (ix2 r k) * gate (D (ix2 r k)) := by
  unfold silu gate
  pointwise

abbrev mods (S : FVec Ideal S8x2048 .f32) (W : FVec Ideal S4x2048x6144 .f32) (B : FVec Ideal S4x6144 .f32) : FVec Ideal S4x8x6144 .f32 :=
  addf (transpose S4x8x6144 [0, 2, 1] (Host.dotGeneral dot_S4x2048x6144_S8x2048_S4x6144x8_1_1_02_0_n_n none W S) transposes_S4x6144x8_S4x8x6144_0_2_1)
    (broadcastInDim S4x8x6144 ![0, 1, 2] bcast_S4x1x6144_S4x8x6144_0_1_2 (broadcastInDim S4x1x6144 ![0, 2] bcast_S4x6144_S4x1x6144_0_2 B))

theorem mods_at (S : FVec Ideal S8x2048 .f32) (W : FVec Ideal S4x2048x6144 .f32) (B : FVec Ideal S4x6144 .f32) (l : Fin 4) (r : Fin 8) (q : Fin 6144) :
    mods S W B (ix3 l r q) = (∑ k : Fin 2048, W (ix3 l k q) * S (ix2 r k)) + B (ix2 l q) := by
  unfold mods
  pointwise

end Cert.Reference10Ideal.Rows

namespace Cert.Kernel10Ideal.Mod

open Idealize.ShloMosaic Idealize.ShloMosaic.TcCoe Idealize.SL.Sem
open Cert.Kernel10Ideal Cert.Kernel10Ideal.Gen Cert.Gates

/-- Kernel and reference, of the same arguments, end with the same results. -/
theorem algebraic [hR : Cert.Reference10Ideal.Facts] : Cert.algebraic_Kernel10Ideal_Reference10Ideal := by
  intro m g m' g' _ ag
  refine ⟨_, result m g, (θ_run Cert.Reference10Ideal.defs _ _).mono (fun r h c => ⟨?_, (h c).2⟩) (Cert.Reference10Ideal.Value.run (F := Ideal) m' g')⟩
  refine (h c).1.trans ?_
  obtain ⟨g0, g1, g2, g3⟩ := ag c
  rw [g0, g1, g2, g3]
  funext y
  idx_vars y
  refine (Cert.Reference10Ideal.Rows.mods_at (Cert.Reference10Ideal.Rows.silu (conds (XA m c) (CA m c))) (WA m c) (BA m c) y0 y1 y2).trans ?_
  refine congrArg (· + BA m c (ix2 y0 y2)) (Finset.sum_congr rfl fun k _ => ?_)
  rw [Cert.Reference10Ideal.Rows.silu_at, mul_comm]
  rfl

theorem preserves : Cert.preserves_Kernel10_Kernel10Ideal :=
  IdealRules.named_const.statement Cert.Kernel10Ideal.κ "neg_log2_e" .f32 0xBFB8AA3B#32 ((-((Real.log 2)⁻¹) : ℝ) : EReal) rfl

end Cert.Kernel10Ideal.Mod

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7.Frame
public import proofs.«01_k».proof.Proof.Gen.Kernel7Ideal.Value
public import proofs.«01_k».proof.Proof.Gen.Reference7Ideal.Run
public import proofs.«01_k».proof.Proof.Gen.Kernel8.Frame
public import proofs.«01_k».proof.Proof.Gen.Kernel8Ideal.Value
public import proofs.«01_k».proof.Proof.Gen.Reference8Ideal.Run
public import proofs.«01_k».proof.Proof.Gen.Kernel9.Frame
public import proofs.«01_k».proof.Proof.Gen.Kernel9Ideal.Value
public import proofs.«01_k».proof.Proof.Gen.Reference9Ideal.Run
public import proofs.«01_k».proof.Proof.Gen.Kernel10.Frame
public import proofs.«01_k».proof.Proof.Gen.Kernel10Ideal.Value
public import proofs.«01_k».proof.Proof.Gen.Reference10Ideal.Run
public import proofs.«01_k».proof.Proof.Gen.Pre_finite
public import proofs.«01_k».proof.Proof.Result
public import proofs.«01_k».proof.Proof.Whole
public import proofs.«01_k».proof.Proof.OutProjResult
public import proofs.«01_k».proof.Proof.AttnResult
public import proofs.«01_k».proof.Proof.GluResult
public import proofs.«01_k».proof.Proof.GatedResult
public import proofs.«01_k».proof.Proof.OutNextResult
public import proofs.«01_k».proof.Proof.CtxResult
public import proofs.«01_k».proof.Proof.FirstResult
public import proofs.«01_k».proof.Proof.SampleResult
public import proofs.«01_k».proof.Proof.ModResult
public import Idealize.ShloMosaic.Lib.Bf16PairInverse
public import Idealize.ShloMosaic.Lib.Quiescent
public import Idealize.ShloMosaic.Adequacy
public import Idealize.ShloMosaic.Init

@[expose] public section

noncomputable section

namespace Cert.Proof

open Idealize.ShloMosaic Idealize.SL.Sem

/-- The reference's run leaves its arguments and every counter as it should. -/
theorem frameRI [hR : Cert.ReferenceIdeal.Facts] : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

theorem frameR2 [hR : Cert.Reference2Ideal.Facts] : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)

theorem frameR3 [hR : Cert.Reference3Ideal.Facts] : Cert.quiescent_Reference3Ideal := fun m ρ _ =>
  (θ_run Cert.Reference3Ideal.defs _ _).mono (fun r h => ⟨fun c => (h c).2.2.2.2.2.2, Idealize.ShloMosaic.sem_eq_zero_of_no_sems (by decide) r.2⟩)
    (Cert.Reference3Ideal.Value.run (F := Ideal) m ρ)

theorem frameR4 [hR : Cert.Reference4Ideal.Facts] : Cert.quiescent_Reference4Ideal := fun m ρ _ =>
  (θ_run Cert.Reference4Ideal.defs _ _).mono (fun r h => ⟨fun c => (h c).2.2, Idealize.ShloMosaic.sem_eq_zero_of_no_sems (by decide) r.2⟩)
    (Cert.Reference4Ideal.Value.run (F := Ideal) m ρ)

theorem frameR5 [hR : Cert.Reference5Ideal.Facts] : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)

theorem frameR6 [hR : Cert.Reference6Ideal.Facts] : Cert.quiescent_Reference6Ideal := fun m ρ _ =>
  (θ_run Cert.Reference6Ideal.defs _ _).mono (fun r h => ⟨fun c => (h c).2.2, Idealize.ShloMosaic.sem_eq_zero_of_no_sems (by decide) r.2⟩)
    (Cert.Reference6Ideal.Value.run (F := Ideal) m ρ)

theorem frameR7 [hR : Cert.Reference7Ideal.Facts] : Cert.quiescent_Reference7Ideal := fun m ρ _ =>
  (θ_run Cert.Reference7Ideal.defs _ _).mono (fun r h => ⟨fun c => (h c).2, Idealize.ShloMosaic.sem_eq_zero_of_no_sems (by decide) r.2⟩)
    (Cert.Reference7Ideal.Value.run (F := Ideal) m ρ)

theorem frameR9 [hR : Cert.Reference9Ideal.Facts] : Cert.quiescent_Reference9Ideal := fun m ρ _ =>
  (θ_run Cert.Reference9Ideal.defs _ _).mono (fun r h => ⟨fun c => (h c).2, Idealize.ShloMosaic.sem_eq_zero_of_no_sems (by decide) r.2⟩)
    (Cert.Reference9Ideal.Value.run (F := Ideal) m ρ)

theorem frameR8 [hR : Cert.Reference8Ideal.Facts] : Cert.quiescent_Reference8Ideal := fun m ρ _ =>
  (θ_run Cert.Reference8Ideal.defs _ _).mono (fun r h => ⟨fun c => (h c).2.2.2.2, Idealize.ShloMosaic.sem_eq_zero_of_no_sems (by decide) r.2⟩)
    (Cert.Reference8Ideal.Value.run (F := Ideal) m ρ)

theorem frameR10 [hR : Cert.Reference10Ideal.Facts] : Cert.quiescent_Reference10Ideal := fun m ρ _ =>
  (θ_run Cert.Reference10Ideal.defs _ _).mono (fun r h => ⟨fun c => (h c).2, Idealize.ShloMosaic.sem_eq_zero_of_no_sems (by decide) r.2⟩)
    (Cert.Reference10Ideal.Value.run (F := Ideal) m ρ)

theorem preserves : Cert.preserves_Kernel_KernelIdeal :=
  open Cert.KernelIdeal IdealRules.bf16_pair in
  ⟨bufferStatement S32x160x2x128 S32x160x1x128, packStatement S16x128, statement S1x16x2x128 S1x16x1x128, packStatement S128x128,
    statement S1x128x2x128 S1x128x1x128, statement S1x64x2x128 S1x64x1x128, statement S128x128 S64x128⟩

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel9.Gen.facts, Cert.Kernel9Ideal.Gen.facts, Cert.Reference9Ideal.Gen.facts,
  Cert.Kernel8.Gen.facts, Cert.Kernel8Ideal.Gen.facts, Cert.Reference8Ideal.Gen.facts,
  Cert.Kernel10.Gen.facts, Cert.Kernel10Ideal.Gen.facts, Cert.Reference10Ideal.Gen.facts, Cert.Pre_finite.Gen.facts,
  fun m ρ _ => Cert.Kernel.Whole.frame m ρ, fun m ρ _ => Cert.KernelIdeal.Conv.frame m ρ, frameRI,
  fun m ρ _ => Cert.Kernel2.Gen.frame m ρ, fun m ρ _ => Cert.Kernel2Ideal.Gen.frame m ρ, frameR2,
  fun m ρ _ => Cert.Kernel3.Gen.frame m ρ, fun m ρ _ => Cert.Kernel3Ideal.Gen.frame m ρ, frameR3,
  fun m ρ _ => Cert.Kernel4.Gen.frame m ρ, fun m ρ _ => Cert.Kernel4Ideal.Gen.frame m ρ, frameR4,
  fun m ρ _ => Cert.Kernel5.Gen.frame m ρ, fun m ρ _ => Cert.Kernel5Ideal.Gen.frame m ρ, frameR5,
  fun m ρ _ => Cert.Kernel6.Gen.frame m ρ, fun m ρ _ => Cert.Kernel6Ideal.Gen.frame m ρ, frameR6,
  fun m ρ _ => Cert.Kernel7.Gen.frame m ρ, fun m ρ _ => Cert.Kernel7Ideal.Gen.frame m ρ, fun m ρ _ => Cert.Kernel7Ideal.Gen.frame m ρ,
  frameR7, fun m ρ _ => frameR7 m ρ trivial,
  fun m ρ _ => Cert.Kernel9.Gen.frame m ρ, fun m ρ _ => Cert.Kernel9Ideal.Gen.frame m ρ, frameR9,
  fun m ρ _ => Cert.Kernel8.Gen.frame m ρ, fun m ρ _ => Cert.Kernel8Ideal.Gen.frame m ρ, frameR8,
  fun m ρ _ => Cert.Kernel10.Gen.frame m ρ, fun m ρ _ => Cert.Kernel10Ideal.Gen.frame m ρ, frameR10,
  preserves, Cert.KernelIdeal.Conv.algebraic,
  Cert.Kernel2Ideal.OutProj.preserves, Cert.Kernel2Ideal.OutProj.algebraic,
  Cert.Kernel3Ideal.Attn.preserves, Cert.Kernel3Ideal.Attn.algebraic,
  Cert.Kernel4Ideal.Glu.preserves, Cert.Kernel4Ideal.Glu.algebraic,
  Cert.Kernel5Ideal.Gated.preserves, Cert.Kernel5Ideal.Gated.algebraic,
  Cert.Kernel6Ideal.OutProj.preserves, Cert.Kernel6Ideal.OutProj.algebraic,
  Cert.Kernel7Ideal.Ctx.preserves, Cert.Kernel7Ideal.Ctx.algebraic,
  Cert.Kernel9Ideal.First.preserves, Cert.Kernel9Ideal.First.algebraic,
  Cert.Kernel8Ideal.Attn.preserves, Cert.Kernel8Ideal.Attn.algebraic,
  Cert.Kernel10Ideal.Mod.preserves, Cert.Kernel10Ideal.Mod.algebraic⟩

end Cert.Proof

end
